-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S64x4096 : Shape := ⟨2, ![64, 4096]⟩
abbrev S8x64x256 : Shape := ⟨3, ![8, 64, 256]⟩
abbrev S64x256 : Shape := ⟨2, ![64, 256]⟩
abbrev S5x2048x512 : Shape := ⟨3, ![5, 2048, 512]⟩
abbrev S3x4096x512 : Shape := ⟨3, ![3, 4096, 512]⟩
abbrev S5 : Shape := ⟨1, ![5]⟩
abbrev S3 : Shape := ⟨1, ![3]⟩
abbrev S8 : Shape := ⟨1, ![8]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1x4096x512 : Shape := ⟨3, ![1, 4096, 512]⟩
abbrev S4096x512 : Shape := ⟨2, ![4096, 512]⟩
abbrev S64x512 : Shape := ⟨2, ![64, 512]⟩
abbrev S1x64x256 : Shape := ⟨3, ![1, 64, 256]⟩

abbrev nBuf : Space → Nat
  | .hbm => 8
  | .vmem => 10
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .bf16⟩
  | .local _ .vmem, ⟨3, _⟩ => ⟨S64x4096, .bf16⟩
  | .local _ .vmem, ⟨4, _⟩ => ⟨S8x64x256, .bf16⟩
  | .local _ .vmem, ⟨5, _⟩ => ⟨S8x64x256, .bf16⟩
  | .local _ .vmem, ⟨6, _⟩ => ⟨S64x256, .bf16⟩
  | .local _ .vmem, ⟨7, _⟩ => ⟨S8x64x256, .bf16⟩
  | .local _ .vmem, ⟨8, _⟩ => ⟨S5x2048x512, .f32⟩
  | .local _ .vmem, ⟨9, _⟩ => ⟨S3x4096x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1364 : BitVec 32 := 0#32
  let c0_i32_1362 : BitVec 32 := 0#32
  let c1_i32_1363 : BitVec 32 := 1#32
  let v1631 : BitVec 32 := Scalar.muli c0_i32_1362 c1_i32_1363
  let v1632 : BitVec 32 := Scalar.addi c0_i32_1364 v1631
  v1632.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1364 : BitVec 32 := 0#32
  let c1_i32_1362 : BitVec 32 := 1#32
  let c1_i32_1363 : BitVec 32 := 1#32
  let v1631 : BitVec 32 := Scalar.muli c1_i32_1362 c1_i32_1363
  let v1632 : BitVec 32 := Scalar.addi c0_i32_1364 v1631
  v1632.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1364 : BitVec 32 := 0#32
  let c2_i32_1362 : BitVec 32 := 2#32
  let c1_i32_1363 : BitVec 32 := 1#32
  let v1631 : BitVec 32 := Scalar.muli c2_i32_1362 c1_i32_1363
  let v1632 : BitVec 32 := Scalar.addi c0_i32_1364 v1631
  v1632.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1364 : BitVec 32 := 0#32
  let c3_i32_1362 : BitVec 32 := 3#32
  let c1_i32_1363 : BitVec 32 := 1#32
  let v1631 : BitVec 32 := Scalar.muli c3_i32_1362 c1_i32_1363
  let v1632 : BitVec 32 := Scalar.addi c0_i32_1364 v1631
  v1632.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1364 : BitVec 32 := 0#32
  let c4_i32_1362 : BitVec 32 := 4#32
  let c1_i32_1363 : BitVec 32 := 1#32
  let v1631 : BitVec 32 := Scalar.muli c4_i32_1362 c1_i32_1363
  let v1632 : BitVec 32 := Scalar.addi c0_i32_1364 v1631
  v1632.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1364 : BitVec 32 := 0#32
  let c5_i32_1362 : BitVec 32 := 5#32
  let c1_i32_1363 : BitVec 32 := 1#32
  let v1631 : BitVec 32 := Scalar.muli c5_i32_1362 c1_i32_1363
  let v1632 : BitVec 32 := Scalar.addi c0_i32_1364 v1631
  v1632.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1364 : BitVec 32 := 0#32
  let c6_i32_1362 : BitVec 32 := 6#32
  let c1_i32_1363 : BitVec 32 := 1#32
  let v1631 : BitVec 32 := Scalar.muli c6_i32_1362 c1_i32_1363
  let v1632 : BitVec 32 := Scalar.addi c0_i32_1364 v1631
  v1632.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1364 : BitVec 32 := 0#32
  let c7_i32_1362 : BitVec 32 := 7#32
  let c1_i32_1363 : BitVec 32 := 1#32
  let v1631 : BitVec 32 := Scalar.muli c7_i32_1362 c1_i32_1363
  let v1632 : BitVec 32 := Scalar.addi c0_i32_1364 v1631
  v1632.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_231 : BitVec 32 := 0#32
  let v262 : BitVec 1 := Scalar.cmpi .ne v2 c0_i32_231
  let v263 : BitVec 32 := Scalar.extui v262
  let c0_i32_232 : BitVec 32 := 0#32
  let v264 : BitVec 1 := Scalar.cmpi .ne v263 c0_i32_232
  v264

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev9 : Nat :=
  let c0_i32_1365 : BitVec 32 := 0#32
  let c0_i32_1363 : BitVec 32 := 0#32
  let c1_i32_1364 : BitVec 32 := 1#32
  let v1631 : BitVec 32 := Scalar.muli c0_i32_1363 c1_i32_1364
  let v1632 : BitVec 32 := Scalar.addi c0_i32_1365 v1631
  v1632.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_238 : BitVec 32 := 1#32
  let v273 : BitVec 1 := Scalar.cmpi .ne v2 c1_i32_238
  let v274 : BitVec 32 := Scalar.extui v273
  let c0_i32_239 : BitVec 32 := 0#32
  let v275 : BitVec 1 := Scalar.cmpi .ne v274 c0_i32_239
  v275

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev10 : Nat :=
  let c0_i32_1365 : BitVec 32 := 0#32
  let c1_i32_1363 : BitVec 32 := 1#32
  let c1_i32_1364 : BitVec 32 := 1#32
  let v1631 : BitVec 32 := Scalar.muli c1_i32_1363 c1_i32_1364
  let v1632 : BitVec 32 := Scalar.addi c0_i32_1365 v1631
  v1632.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_263 : BitVec 32 := 2#32
  let v299 : BitVec 1 := Scalar.cmpi .ne v2 c2_i32_263
  let v300 : BitVec 32 := Scalar.extui v299
  let c0_i32_264 : BitVec 32 := 0#32
  let v301 : BitVec 1 := Scalar.cmpi .ne v300 c0_i32_264
  v301

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev11 : Nat :=
  let c0_i32_1365 : BitVec 32 := 0#32
  let c2_i32_1363 : BitVec 32 := 2#32
  let c1_i32_1364 : BitVec 32 := 1#32
  let v1631 : BitVec 32 := Scalar.muli c2_i32_1363 c1_i32_1364
  let v1632 : BitVec 32 := Scalar.addi c0_i32_1365 v1631
  v1632.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_270 : BitVec 32 := 3#32
  let v310 : BitVec 1 := Scalar.cmpi .ne v2 c3_i32_270
  let v311 : BitVec 32 := Scalar.extui v310
  let c0_i32_271 : BitVec 32 := 0#32
  let v312 : BitVec 1 := Scalar.cmpi .ne v311 c0_i32_271
  v312

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev12 : Nat :=
  let c0_i32_1365 : BitVec 32 := 0#32
  let c3_i32_1363 : BitVec 32 := 3#32
  let c1_i32_1364 : BitVec 32 := 1#32
  let v1631 : BitVec 32 := Scalar.muli c3_i32_1363 c1_i32_1364
  let v1632 : BitVec 32 := Scalar.addi c0_i32_1365 v1631
  v1632.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_295 : BitVec 32 := 4#32
  let v336 : BitVec 1 := Scalar.cmpi .ne v2 c4_i32_295
  let v337 : BitVec 32 := Scalar.extui v336
  let c0_i32_296 : BitVec 32 := 0#32
  let v338 : BitVec 1 := Scalar.cmpi .ne v337 c0_i32_296
  v338

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev13 : Nat :=
  let c0_i32_1365 : BitVec 32 := 0#32
  let c4_i32_1363 : BitVec 32 := 4#32
  let c1_i32_1364 : BitVec 32 := 1#32
  let v1631 : BitVec 32 := Scalar.muli c4_i32_1363 c1_i32_1364
  let v1632 : BitVec 32 := Scalar.addi c0_i32_1365 v1631
  v1632.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_301 : BitVec 32 := 5#32
  let v347 : BitVec 1 := Scalar.cmpi .ne v2 c5_i32_301
  let v348 : BitVec 32 := Scalar.extui v347
  let c0_i32_302 : BitVec 32 := 0#32
  let v349 : BitVec 1 := Scalar.cmpi .ne v348 c0_i32_302
  v349

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev14 : Nat :=
  let c0_i32_1365 : BitVec 32 := 0#32
  let c5_i32_1363 : BitVec 32 := 5#32
  let c1_i32_1364 : BitVec 32 := 1#32
  let v1631 : BitVec 32 := Scalar.muli c5_i32_1363 c1_i32_1364
  let v1632 : BitVec 32 := Scalar.addi c0_i32_1365 v1631
  v1632.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_325 : BitVec 32 := 6#32
  let v373 : BitVec 1 := Scalar.cmpi .ne v2 c6_i32_325
  let v374 : BitVec 32 := Scalar.extui v373
  let c0_i32_326 : BitVec 32 := 0#32
  let v375 : BitVec 1 := Scalar.cmpi .ne v374 c0_i32_326
  v375

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev15 : Nat :=
  let c0_i32_1365 : BitVec 32 := 0#32
  let c6_i32_1363 : BitVec 32 := 6#32
  let c1_i32_1364 : BitVec 32 := 1#32
  let v1631 : BitVec 32 := Scalar.muli c6_i32_1363 c1_i32_1364
  let v1632 : BitVec 32 := Scalar.addi c0_i32_1365 v1631
  v1632.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_331 : BitVec 32 := 7#32
  let v384 : BitVec 1 := Scalar.cmpi .ne v2 c7_i32_331
  let v385 : BitVec 32 := Scalar.extui v384
  let c0_i32_332 : BitVec 32 := 0#32
  let v386 : BitVec 1 := Scalar.cmpi .ne v385 c0_i32_332
  v386

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev16 : Nat :=
  let c0_i32_1365 : BitVec 32 := 0#32
  let c7_i32_1363 : BitVec 32 := 7#32
  let c1_i32_1364 : BitVec 32 := 1#32
  let v1631 : BitVec 32 := Scalar.muli c7_i32_1363 c1_i32_1364
  let v1632 : BitVec 32 := Scalar.addi c0_i32_1365 v1631
  v1632.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let v473 : BitVec 1 := Scalar.cmpi .ne v2 c0_i32_393
  let v474 : BitVec 32 := Scalar.extui v473
  let c0_i32_394 : BitVec 32 := 0#32
  let v475 : BitVec 1 := Scalar.cmpi .ne v474 c0_i32_394
  v475

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev17 : Nat :=
  let c0_i32_1364 : BitVec 32 := 0#32
  let c0_i32_1362 : BitVec 32 := 0#32
  let c1_i32_1363 : BitVec 32 := 1#32
  let v1631 : BitVec 32 := Scalar.muli c0_i32_1362 c1_i32_1363
  let v1632 : BitVec 32 := Scalar.addi c0_i32_1364 v1631
  v1632.toNat
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_397 : BitVec 32 := 1#32
  let v479 : BitVec 1 := Scalar.cmpi .ne v2 c1_i32_397
  let v480 : BitVec 32 := Scalar.extui v479
  let c0_i32_398 : BitVec 32 := 0#32
  let v481 : BitVec 1 := Scalar.cmpi .ne v480 c0_i32_398
  v481

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev18 : Nat :=
  let c0_i32_1364 : BitVec 32 := 0#32
  let c1_i32_1362 : BitVec 32 := 1#32
  let c1_i32_1363 : BitVec 32 := 1#32
  let v1631 : BitVec 32 := Scalar.muli c1_i32_1362 c1_i32_1363
  let v1632 : BitVec 32 := Scalar.addi c0_i32_1364 v1631
  v1632.toNat
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_401 : BitVec 32 := 2#32
  let v485 : BitVec 1 := Scalar.cmpi .ne v2 c2_i32_401
  let v486 : BitVec 32 := Scalar.extui v485
  let c0_i32_402 : BitVec 32 := 0#32
  let v487 : BitVec 1 := Scalar.cmpi .ne v486 c0_i32_402
  v487

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev19 : Nat :=
  let c0_i32_1364 : BitVec 32 := 0#32
  let c2_i32_1362 : BitVec 32 := 2#32
  let c1_i32_1363 : BitVec 32 := 1#32
  let v1631 : BitVec 32 := Scalar.muli c2_i32_1362 c1_i32_1363
  let v1632 : BitVec 32 := Scalar.addi c0_i32_1364 v1631
  v1632.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_405 : BitVec 32 := 3#32
  let v491 : BitVec 1 := Scalar.cmpi .ne v2 c3_i32_405
  let v492 : BitVec 32 := Scalar.extui v491
  let c0_i32_406 : BitVec 32 := 0#32
  let v493 : BitVec 1 := Scalar.cmpi .ne v492 c0_i32_406
  v493

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev20 : Nat :=
  let c0_i32_1364 : BitVec 32 := 0#32
  let c3_i32_1362 : BitVec 32 := 3#32
  let c1_i32_1363 : BitVec 32 := 1#32
  let v1631 : BitVec 32 := Scalar.muli c3_i32_1362 c1_i32_1363
  let v1632 : BitVec 32 := Scalar.addi c0_i32_1364 v1631
  v1632.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_409 : BitVec 32 := 4#32
  let v497 : BitVec 1 := Scalar.cmpi .ne v2 c4_i32_409
  let v498 : BitVec 32 := Scalar.extui v497
  let c0_i32_410 : BitVec 32 := 0#32
  let v499 : BitVec 1 := Scalar.cmpi .ne v498 c0_i32_410
  v499

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev21 : Nat :=
  let c0_i32_1364 : BitVec 32 := 0#32
  let c4_i32_1362 : BitVec 32 := 4#32
  let c1_i32_1363 : BitVec 32 := 1#32
  let v1631 : BitVec 32 := Scalar.muli c4_i32_1362 c1_i32_1363
  let v1632 : BitVec 32 := Scalar.addi c0_i32_1364 v1631
  v1632.toNat
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_413 : BitVec 32 := 5#32
  let v503 : BitVec 1 := Scalar.cmpi .ne v2 c5_i32_413
  let v504 : BitVec 32 := Scalar.extui v503
  let c0_i32_414 : BitVec 32 := 0#32
  let v505 : BitVec 1 := Scalar.cmpi .ne v504 c0_i32_414
  v505

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev22 : Nat :=
  let c0_i32_1364 : BitVec 32 := 0#32
  let c5_i32_1362 : BitVec 32 := 5#32
  let c1_i32_1363 : BitVec 32 := 1#32
  let v1631 : BitVec 32 := Scalar.muli c5_i32_1362 c1_i32_1363
  let v1632 : BitVec 32 := Scalar.addi c0_i32_1364 v1631
  v1632.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_417 : BitVec 32 := 6#32
  let v509 : BitVec 1 := Scalar.cmpi .ne v2 c6_i32_417
  let v510 : BitVec 32 := Scalar.extui v509
  let c0_i32_418 : BitVec 32 := 0#32
  let v511 : BitVec 1 := Scalar.cmpi .ne v510 c0_i32_418
  v511

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev23 : Nat :=
  let c0_i32_1364 : BitVec 32 := 0#32
  let c6_i32_1362 : BitVec 32 := 6#32
  let c1_i32_1363 : BitVec 32 := 1#32
  let v1631 : BitVec 32 := Scalar.muli c6_i32_1362 c1_i32_1363
  let v1632 : BitVec 32 := Scalar.addi c0_i32_1364 v1631
  v1632.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_421 : BitVec 32 := 7#32
  let v515 : BitVec 1 := Scalar.cmpi .ne v2 c7_i32_421
  let v516 : BitVec 32 := Scalar.extui v515
  let c0_i32_422 : BitVec 32 := 0#32
  let v517 : BitVec 1 := Scalar.cmpi .ne v516 c0_i32_422
  v517

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev24 : Nat :=
  let c0_i32_1364 : BitVec 32 := 0#32
  let c7_i32_1362 : BitVec 32 := 7#32
  let c1_i32_1363 : BitVec 32 := 1#32
  let v1631 : BitVec 32 := Scalar.muli c7_i32_1362 c1_i32_1363
  let v1632 : BitVec 32 := Scalar.addi c0_i32_1364 v1631
  v1632.toNat
def k0_cond73 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_682 : BitVec 32 := 0#32
  let v797 : BitVec 1 := Scalar.cmpi .ne v2 c0_i32_682
  let v798 : BitVec 32 := Scalar.extui v797
  let c0_i32_683 : BitVec 32 := 0#32
  let v799 : BitVec 1 := Scalar.cmpi .ne v798 c0_i32_683
  v799

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev25 : Nat :=
  let c0_i32_1365 : BitVec 32 := 0#32
  let c0_i32_1363 : BitVec 32 := 0#32
  let c1_i32_1364 : BitVec 32 := 1#32
  let v1631 : BitVec 32 := Scalar.muli c0_i32_1363 c1_i32_1364
  let v1632 : BitVec 32 := Scalar.addi c0_i32_1365 v1631
  v1632.toNat
def k0_cond75 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_689 : BitVec 32 := 1#32
  let v808 : BitVec 1 := Scalar.cmpi .ne v2 c1_i32_689
  let v809 : BitVec 32 := Scalar.extui v808
  let c0_i32_690 : BitVec 32 := 0#32
  let v810 : BitVec 1 := Scalar.cmpi .ne v809 c0_i32_690
  v810

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev26 : Nat :=
  let c0_i32_1365 : BitVec 32 := 0#32
  let c1_i32_1363 : BitVec 32 := 1#32
  let c1_i32_1364 : BitVec 32 := 1#32
  let v1631 : BitVec 32 := Scalar.muli c1_i32_1363 c1_i32_1364
  let v1632 : BitVec 32 := Scalar.addi c0_i32_1365 v1631
  v1632.toNat
def k0_cond77 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_714 : BitVec 32 := 2#32
  let v834 : BitVec 1 := Scalar.cmpi .ne v2 c2_i32_714
  let v835 : BitVec 32 := Scalar.extui v834
  let c0_i32_715 : BitVec 32 := 0#32
  let v836 : BitVec 1 := Scalar.cmpi .ne v835 c0_i32_715
  v836

def k0_off37 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev27 : Nat :=
  let c0_i32_1365 : BitVec 32 := 0#32
  let c2_i32_1363 : BitVec 32 := 2#32
  let c1_i32_1364 : BitVec 32 := 1#32
  let v1631 : BitVec 32 := Scalar.muli c2_i32_1363 c1_i32_1364
  let v1632 : BitVec 32 := Scalar.addi c0_i32_1365 v1631
  v1632.toNat
def k0_cond79 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_721 : BitVec 32 := 3#32
  let v845 : BitVec 1 := Scalar.cmpi .ne v2 c3_i32_721
  let v846 : BitVec 32 := Scalar.extui v845
  let c0_i32_722 : BitVec 32 := 0#32
  let v847 : BitVec 1 := Scalar.cmpi .ne v846 c0_i32_722
  v847

def k0_off39 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev28 : Nat :=
  let c0_i32_1365 : BitVec 32 := 0#32
  let c3_i32_1363 : BitVec 32 := 3#32
  let c1_i32_1364 : BitVec 32 := 1#32
  let v1631 : BitVec 32 := Scalar.muli c3_i32_1363 c1_i32_1364
  let v1632 : BitVec 32 := Scalar.addi c0_i32_1365 v1631
  v1632.toNat
def k0_cond81 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_746 : BitVec 32 := 4#32
  let v871 : BitVec 1 := Scalar.cmpi .ne v2 c4_i32_746
  let v872 : BitVec 32 := Scalar.extui v871
  let c0_i32_747 : BitVec 32 := 0#32
  let v873 : BitVec 1 := Scalar.cmpi .ne v872 c0_i32_747
  v873

def k0_off41 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev29 : Nat :=
  let c0_i32_1365 : BitVec 32 := 0#32
  let c4_i32_1363 : BitVec 32 := 4#32
  let c1_i32_1364 : BitVec 32 := 1#32
  let v1631 : BitVec 32 := Scalar.muli c4_i32_1363 c1_i32_1364
  let v1632 : BitVec 32 := Scalar.addi c0_i32_1365 v1631
  v1632.toNat
def k0_cond83 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_753 : BitVec 32 := 5#32
  let v882 : BitVec 1 := Scalar.cmpi .ne v2 c5_i32_753
  let v883 : BitVec 32 := Scalar.extui v882
  let c0_i32_754 : BitVec 32 := 0#32
  let v884 : BitVec 1 := Scalar.cmpi .ne v883 c0_i32_754
  v884

def k0_off43 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev30 : Nat :=
  let c0_i32_1365 : BitVec 32 := 0#32
  let c5_i32_1363 : BitVec 32 := 5#32
  let c1_i32_1364 : BitVec 32 := 1#32
  let v1631 : BitVec 32 := Scalar.muli c5_i32_1363 c1_i32_1364
  let v1632 : BitVec 32 := Scalar.addi c0_i32_1365 v1631
  v1632.toNat
def k0_cond85 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_778 : BitVec 32 := 6#32
  let v908 : BitVec 1 := Scalar.cmpi .ne v2 c6_i32_778
  let v909 : BitVec 32 := Scalar.extui v908
  let c0_i32_779 : BitVec 32 := 0#32
  let v910 : BitVec 1 := Scalar.cmpi .ne v909 c0_i32_779
  v910

def k0_off45 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev31 : Nat :=
  let c0_i32_1365 : BitVec 32 := 0#32
  let c6_i32_1363 : BitVec 32 := 6#32
  let c1_i32_1364 : BitVec 32 := 1#32
  let v1631 : BitVec 32 := Scalar.muli c6_i32_1363 c1_i32_1364
  let v1632 : BitVec 32 := Scalar.addi c0_i32_1365 v1631
  v1632.toNat
def k0_cond87 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_785 : BitVec 32 := 7#32
  let v919 : BitVec 1 := Scalar.cmpi .ne v2 c7_i32_785
  let v920 : BitVec 32 := Scalar.extui v919
  let c0_i32_786 : BitVec 32 := 0#32
  let v921 : BitVec 1 := Scalar.cmpi .ne v920 c0_i32_786
  v921

def k0_off47 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev32 : Nat :=
  let c0_i32_1365 : BitVec 32 := 0#32
  let c7_i32_1363 : BitVec 32 := 7#32
  let c1_i32_1364 : BitVec 32 := 1#32
  let v1631 : BitVec 32 := Scalar.muli c7_i32_1363 c1_i32_1364
  let v1632 : BitVec 32 := Scalar.addi c0_i32_1365 v1631
  v1632.toNat
def k0_cond105 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_847 : BitVec 32 := 0#32
  let v1008 : BitVec 1 := Scalar.cmpi .ne v2 c0_i32_847
  let v1009 : BitVec 32 := Scalar.extui v1008
  let c0_i32_848 : BitVec 32 := 0#32
  let v1010 : BitVec 1 := Scalar.cmpi .ne v1009 c0_i32_848
  v1010

def k0_off49 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off50 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev33 : Nat :=
  let c0_i32_1364 : BitVec 32 := 0#32
  let c0_i32_1362 : BitVec 32 := 0#32
  let c1_i32_1363 : BitVec 32 := 1#32
  let v1631 : BitVec 32 := Scalar.muli c0_i32_1362 c1_i32_1363
  let v1632 : BitVec 32 := Scalar.addi c0_i32_1364 v1631
  v1632.toNat
def k0_cond107 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_851 : BitVec 32 := 1#32
  let v1014 : BitVec 1 := Scalar.cmpi .ne v2 c1_i32_851
  let v1015 : BitVec 32 := Scalar.extui v1014
  let c0_i32_852 : BitVec 32 := 0#32
  let v1016 : BitVec 1 := Scalar.cmpi .ne v1015 c0_i32_852
  v1016

def k0_off51 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev34 : Nat :=
  let c0_i32_1364 : BitVec 32 := 0#32
  let c1_i32_1362 : BitVec 32 := 1#32
  let c1_i32_1363 : BitVec 32 := 1#32
  let v1631 : BitVec 32 := Scalar.muli c1_i32_1362 c1_i32_1363
  let v1632 : BitVec 32 := Scalar.addi c0_i32_1364 v1631
  v1632.toNat
def k0_cond109 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_855 : BitVec 32 := 2#32
  let v1020 : BitVec 1 := Scalar.cmpi .ne v2 c2_i32_855
  let v1021 : BitVec 32 := Scalar.extui v1020
  let c0_i32_856 : BitVec 32 := 0#32
  let v1022 : BitVec 1 := Scalar.cmpi .ne v1021 c0_i32_856
  v1022

def k0_off53 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev35 : Nat :=
  let c0_i32_1364 : BitVec 32 := 0#32
  let c2_i32_1362 : BitVec 32 := 2#32
  let c1_i32_1363 : BitVec 32 := 1#32
  let v1631 : BitVec 32 := Scalar.muli c2_i32_1362 c1_i32_1363
  let v1632 : BitVec 32 := Scalar.addi c0_i32_1364 v1631
  v1632.toNat
def k0_cond111 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_859 : BitVec 32 := 3#32
  let v1026 : BitVec 1 := Scalar.cmpi .ne v2 c3_i32_859
  let v1027 : BitVec 32 := Scalar.extui v1026
  let c0_i32_860 : BitVec 32 := 0#32
  let v1028 : BitVec 1 := Scalar.cmpi .ne v1027 c0_i32_860
  v1028

def k0_off55 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev36 : Nat :=
  let c0_i32_1364 : BitVec 32 := 0#32
  let c3_i32_1362 : BitVec 32 := 3#32
  let c1_i32_1363 : BitVec 32 := 1#32
  let v1631 : BitVec 32 := Scalar.muli c3_i32_1362 c1_i32_1363
  let v1632 : BitVec 32 := Scalar.addi c0_i32_1364 v1631
  v1632.toNat
def k0_cond113 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_863 : BitVec 32 := 4#32
  let v1032 : BitVec 1 := Scalar.cmpi .ne v2 c4_i32_863
  let v1033 : BitVec 32 := Scalar.extui v1032
  let c0_i32_864 : BitVec 32 := 0#32
  let v1034 : BitVec 1 := Scalar.cmpi .ne v1033 c0_i32_864
  v1034

def k0_off57 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off58 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev37 : Nat :=
  let c0_i32_1364 : BitVec 32 := 0#32
  let c4_i32_1362 : BitVec 32 := 4#32
  let c1_i32_1363 : BitVec 32 := 1#32
  let v1631 : BitVec 32 := Scalar.muli c4_i32_1362 c1_i32_1363
  let v1632 : BitVec 32 := Scalar.addi c0_i32_1364 v1631
  v1632.toNat
def k0_cond115 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_867 : BitVec 32 := 5#32
  let v1038 : BitVec 1 := Scalar.cmpi .ne v2 c5_i32_867
  let v1039 : BitVec 32 := Scalar.extui v1038
  let c0_i32_868 : BitVec 32 := 0#32
  let v1040 : BitVec 1 := Scalar.cmpi .ne v1039 c0_i32_868
  v1040

def k0_off59 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev38 : Nat :=
  let c0_i32_1364 : BitVec 32 := 0#32
  let c5_i32_1362 : BitVec 32 := 5#32
  let c1_i32_1363 : BitVec 32 := 1#32
  let v1631 : BitVec 32 := Scalar.muli c5_i32_1362 c1_i32_1363
  let v1632 : BitVec 32 := Scalar.addi c0_i32_1364 v1631
  v1632.toNat
def k0_cond117 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_871 : BitVec 32 := 6#32
  let v1044 : BitVec 1 := Scalar.cmpi .ne v2 c6_i32_871
  let v1045 : BitVec 32 := Scalar.extui v1044
  let c0_i32_872 : BitVec 32 := 0#32
  let v1046 : BitVec 1 := Scalar.cmpi .ne v1045 c0_i32_872
  v1046

def k0_off61 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off62 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev39 : Nat :=
  let c0_i32_1364 : BitVec 32 := 0#32
  let c6_i32_1362 : BitVec 32 := 6#32
  let c1_i32_1363 : BitVec 32 := 1#32
  let v1631 : BitVec 32 := Scalar.muli c6_i32_1362 c1_i32_1363
  let v1632 : BitVec 32 := Scalar.addi c0_i32_1364 v1631
  v1632.toNat
def k0_cond119 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_875 : BitVec 32 := 7#32
  let v1050 : BitVec 1 := Scalar.cmpi .ne v2 c7_i32_875
  let v1051 : BitVec 32 := Scalar.extui v1050
  let c0_i32_876 : BitVec 32 := 0#32
  let v1052 : BitVec 1 := Scalar.cmpi .ne v1051 c0_i32_876
  v1052

def k0_off63 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off64 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev40 : Nat :=
  let c0_i32_1364 : BitVec 32 := 0#32
  let c7_i32_1362 : BitVec 32 := 7#32
  let c1_i32_1363 : BitVec 32 := 1#32
  let v1631 : BitVec 32 := Scalar.muli c7_i32_1362 c1_i32_1363
  let v1632 : BitVec 32 := Scalar.addi c0_i32_1364 v1631
  v1632.toNat
def k0_cond137 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1110 : BitVec 32 := 0#32
  let v1307 : BitVec 1 := Scalar.cmpi .ne v2 c0_i32_1110
  let v1308 : BitVec 32 := Scalar.extui v1307
  let c0_i32_1111 : BitVec 32 := 0#32
  let v1309 : BitVec 1 := Scalar.cmpi .ne v1308 c0_i32_1111
  v1309

def k0_off65 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev41 : Nat :=
  let c0_i32_1365 : BitVec 32 := 0#32
  let c0_i32_1363 : BitVec 32 := 0#32
  let c1_i32_1364 : BitVec 32 := 1#32
  let v1631 : BitVec 32 := Scalar.muli c0_i32_1363 c1_i32_1364
  let v1632 : BitVec 32 := Scalar.addi c0_i32_1365 v1631
  v1632.toNat
def k0_cond139 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1117 : BitVec 32 := 1#32
  let v1318 : BitVec 1 := Scalar.cmpi .ne v2 c1_i32_1117
  let v1319 : BitVec 32 := Scalar.extui v1318
  let c0_i32_1118 : BitVec 32 := 0#32
  let v1320 : BitVec 1 := Scalar.cmpi .ne v1319 c0_i32_1118
  v1320

def k0_off67 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off68 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev42 : Nat :=
  let c0_i32_1365 : BitVec 32 := 0#32
  let c1_i32_1363 : BitVec 32 := 1#32
  let c1_i32_1364 : BitVec 32 := 1#32
  let v1631 : BitVec 32 := Scalar.muli c1_i32_1363 c1_i32_1364
  let v1632 : BitVec 32 := Scalar.addi c0_i32_1365 v1631
  v1632.toNat
def k0_cond141 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1136 : BitVec 32 := 2#32
  let v1339 : BitVec 1 := Scalar.cmpi .ne v2 c2_i32_1136
  let v1340 : BitVec 32 := Scalar.extui v1339
  let c0_i32_1137 : BitVec 32 := 0#32
  let v1341 : BitVec 1 := Scalar.cmpi .ne v1340 c0_i32_1137
  v1341

def k0_off69 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off70 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev43 : Nat :=
  let c0_i32_1365 : BitVec 32 := 0#32
  let c2_i32_1363 : BitVec 32 := 2#32
  let c1_i32_1364 : BitVec 32 := 1#32
  let v1631 : BitVec 32 := Scalar.muli c2_i32_1363 c1_i32_1364
  let v1632 : BitVec 32 := Scalar.addi c0_i32_1365 v1631
  v1632.toNat
def k0_cond143 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1143 : BitVec 32 := 3#32
  let v1350 : BitVec 1 := Scalar.cmpi .ne v2 c3_i32_1143
  let v1351 : BitVec 32 := Scalar.extui v1350
  let c0_i32_1144 : BitVec 32 := 0#32
  let v1352 : BitVec 1 := Scalar.cmpi .ne v1351 c0_i32_1144
  v1352

def k0_off71 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev44 : Nat :=
  let c0_i32_1365 : BitVec 32 := 0#32
  let c3_i32_1363 : BitVec 32 := 3#32
  let c1_i32_1364 : BitVec 32 := 1#32
  let v1631 : BitVec 32 := Scalar.muli c3_i32_1363 c1_i32_1364
  let v1632 : BitVec 32 := Scalar.addi c0_i32_1365 v1631
  v1632.toNat
def k0_cond145 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1162 : BitVec 32 := 4#32
  let v1371 : BitVec 1 := Scalar.cmpi .ne v2 c4_i32_1162
  let v1372 : BitVec 32 := Scalar.extui v1371
  let c0_i32_1163 : BitVec 32 := 0#32
  let v1373 : BitVec 1 := Scalar.cmpi .ne v1372 c0_i32_1163
  v1373

def k0_off73 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off74 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev45 : Nat :=
  let c0_i32_1365 : BitVec 32 := 0#32
  let c4_i32_1363 : BitVec 32 := 4#32
  let c1_i32_1364 : BitVec 32 := 1#32
  let v1631 : BitVec 32 := Scalar.muli c4_i32_1363 c1_i32_1364
  let v1632 : BitVec 32 := Scalar.addi c0_i32_1365 v1631
  v1632.toNat
def k0_cond147 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1169 : BitVec 32 := 5#32
  let v1382 : BitVec 1 := Scalar.cmpi .ne v2 c5_i32_1169
  let v1383 : BitVec 32 := Scalar.extui v1382
  let c0_i32_1170 : BitVec 32 := 0#32
  let v1384 : BitVec 1 := Scalar.cmpi .ne v1383 c0_i32_1170
  v1384

def k0_off75 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev46 : Nat :=
  let c0_i32_1365 : BitVec 32 := 0#32
  let c5_i32_1363 : BitVec 32 := 5#32
  let c1_i32_1364 : BitVec 32 := 1#32
  let v1631 : BitVec 32 := Scalar.muli c5_i32_1363 c1_i32_1364
  let v1632 : BitVec 32 := Scalar.addi c0_i32_1365 v1631
  v1632.toNat
def k0_cond149 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1188 : BitVec 32 := 6#32
  let v1403 : BitVec 1 := Scalar.cmpi .ne v2 c6_i32_1188
  let v1404 : BitVec 32 := Scalar.extui v1403
  let c0_i32_1189 : BitVec 32 := 0#32
  let v1405 : BitVec 1 := Scalar.cmpi .ne v1404 c0_i32_1189
  v1405

def k0_off77 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev47 : Nat :=
  let c0_i32_1365 : BitVec 32 := 0#32
  let c6_i32_1363 : BitVec 32 := 6#32
  let c1_i32_1364 : BitVec 32 := 1#32
  let v1631 : BitVec 32 := Scalar.muli c6_i32_1363 c1_i32_1364
  let v1632 : BitVec 32 := Scalar.addi c0_i32_1365 v1631
  v1632.toNat
def k0_cond151 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1195 : BitVec 32 := 7#32
  let v1414 : BitVec 1 := Scalar.cmpi .ne v2 c7_i32_1195
  let v1415 : BitVec 32 := Scalar.extui v1414
  let c0_i32_1196 : BitVec 32 := 0#32
  let v1416 : BitVec 1 := Scalar.cmpi .ne v1415 c0_i32_1196
  v1416

def k0_off79 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off80 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1366 : BitVec 32 := 0#32
  let c0_i32_1367 : BitVec 32 := 0#32
  ![v2.toNat, 0, 0]
def k0_dev48 : Nat :=
  let c0_i32_1365 : BitVec 32 := 0#32
  let c7_i32_1363 : BitVec 32 := 7#32
  let c1_i32_1364 : BitVec 32 := 1#32
  let v1631 : BitVec 32 := Scalar.muli c7_i32_1363 c1_i32_1364
  let v1632 : BitVec 32 := Scalar.addi c0_i32_1365 v1631
  v1632.toNat
def k0_cond169 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1257 : BitVec 32 := 0#32
  let v1503 : BitVec 1 := Scalar.cmpi .ne v2 c0_i32_1257
  let v1504 : BitVec 32 := Scalar.extui v1503
  let c0_i32_1258 : BitVec 32 := 0#32
  let v1505 : BitVec 1 := Scalar.cmpi .ne v1504 c0_i32_1258
  v1505

def k0_off81 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off82 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev49 : Nat :=
  let c0_i32_1364 : BitVec 32 := 0#32
  let c0_i32_1362 : BitVec 32 := 0#32
  let c1_i32_1363 : BitVec 32 := 1#32
  let v1631 : BitVec 32 := Scalar.muli c0_i32_1362 c1_i32_1363
  let v1632 : BitVec 32 := Scalar.addi c0_i32_1364 v1631
  v1632.toNat
def k0_cond171 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1261 : BitVec 32 := 1#32
  let v1509 : BitVec 1 := Scalar.cmpi .ne v2 c1_i32_1261
  let v1510 : BitVec 32 := Scalar.extui v1509
  let c0_i32_1262 : BitVec 32 := 0#32
  let v1511 : BitVec 1 := Scalar.cmpi .ne v1510 c0_i32_1262
  v1511

def k0_off83 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev50 : Nat :=
  let c0_i32_1364 : BitVec 32 := 0#32
  let c1_i32_1362 : BitVec 32 := 1#32
  let c1_i32_1363 : BitVec 32 := 1#32
  let v1631 : BitVec 32 := Scalar.muli c1_i32_1362 c1_i32_1363
  let v1632 : BitVec 32 := Scalar.addi c0_i32_1364 v1631
  v1632.toNat
def k0_cond173 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1265 : BitVec 32 := 2#32
  let v1515 : BitVec 1 := Scalar.cmpi .ne v2 c2_i32_1265
  let v1516 : BitVec 32 := Scalar.extui v1515
  let c0_i32_1266 : BitVec 32 := 0#32
  let v1517 : BitVec 1 := Scalar.cmpi .ne v1516 c0_i32_1266
  v1517

def k0_off85 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev51 : Nat :=
  let c0_i32_1364 : BitVec 32 := 0#32
  let c2_i32_1362 : BitVec 32 := 2#32
  let c1_i32_1363 : BitVec 32 := 1#32
  let v1631 : BitVec 32 := Scalar.muli c2_i32_1362 c1_i32_1363
  let v1632 : BitVec 32 := Scalar.addi c0_i32_1364 v1631
  v1632.toNat
def k0_cond175 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1269 : BitVec 32 := 3#32
  let v1521 : BitVec 1 := Scalar.cmpi .ne v2 c3_i32_1269
  let v1522 : BitVec 32 := Scalar.extui v1521
  let c0_i32_1270 : BitVec 32 := 0#32
  let v1523 : BitVec 1 := Scalar.cmpi .ne v1522 c0_i32_1270
  v1523

def k0_off87 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev52 : Nat :=
  let c0_i32_1364 : BitVec 32 := 0#32
  let c3_i32_1362 : BitVec 32 := 3#32
  let c1_i32_1363 : BitVec 32 := 1#32
  let v1631 : BitVec 32 := Scalar.muli c3_i32_1362 c1_i32_1363
  let v1632 : BitVec 32 := Scalar.addi c0_i32_1364 v1631
  v1632.toNat
def k0_cond177 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1273 : BitVec 32 := 4#32
  let v1527 : BitVec 1 := Scalar.cmpi .ne v2 c4_i32_1273
  let v1528 : BitVec 32 := Scalar.extui v1527
  let c0_i32_1274 : BitVec 32 := 0#32
  let v1529 : BitVec 1 := Scalar.cmpi .ne v1528 c0_i32_1274
  v1529

def k0_off89 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev53 : Nat :=
  let c0_i32_1364 : BitVec 32 := 0#32
  let c4_i32_1362 : BitVec 32 := 4#32
  let c1_i32_1363 : BitVec 32 := 1#32
  let v1631 : BitVec 32 := Scalar.muli c4_i32_1362 c1_i32_1363
  let v1632 : BitVec 32 := Scalar.addi c0_i32_1364 v1631
  v1632.toNat
def k0_cond179 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1277 : BitVec 32 := 5#32
  let v1533 : BitVec 1 := Scalar.cmpi .ne v2 c5_i32_1277
  let v1534 : BitVec 32 := Scalar.extui v1533
  let c0_i32_1278 : BitVec 32 := 0#32
  let v1535 : BitVec 1 := Scalar.cmpi .ne v1534 c0_i32_1278
  v1535

def k0_off91 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev54 : Nat :=
  let c0_i32_1364 : BitVec 32 := 0#32
  let c5_i32_1362 : BitVec 32 := 5#32
  let c1_i32_1363 : BitVec 32 := 1#32
  let v1631 : BitVec 32 := Scalar.muli c5_i32_1362 c1_i32_1363
  let v1632 : BitVec 32 := Scalar.addi c0_i32_1364 v1631
  v1632.toNat
def k0_cond181 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1281 : BitVec 32 := 6#32
  let v1539 : BitVec 1 := Scalar.cmpi .ne v2 c6_i32_1281
  let v1540 : BitVec 32 := Scalar.extui v1539
  let c0_i32_1282 : BitVec 32 := 0#32
  let v1541 : BitVec 1 := Scalar.cmpi .ne v1540 c0_i32_1282
  v1541

def k0_off93 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev55 : Nat :=
  let c0_i32_1364 : BitVec 32 := 0#32
  let c6_i32_1362 : BitVec 32 := 6#32
  let c1_i32_1363 : BitVec 32 := 1#32
  let v1631 : BitVec 32 := Scalar.muli c6_i32_1362 c1_i32_1363
  let v1632 : BitVec 32 := Scalar.addi c0_i32_1364 v1631
  v1632.toNat
def k0_cond183 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1285 : BitVec 32 := 7#32
  let v1545 : BitVec 1 := Scalar.cmpi .ne v2 c7_i32_1285
  let v1546 : BitVec 32 := Scalar.extui v1545
  let c0_i32_1286 : BitVec 32 := 0#32
  let v1547 : BitVec 1 := Scalar.cmpi .ne v1546 c0_i32_1286
  v1547

def k0_off95 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1365 : BitVec 32 := 0#32
  let c0_i32_1366 : BitVec 32 := 0#32
  ![v2.toNat, 0, 0]
def k0_dev56 : Nat :=
  let c0_i32_1364 : BitVec 32 := 0#32
  let c7_i32_1362 : BitVec 32 := 7#32
  let c1_i32_1363 : BitVec 32 := 1#32
  let v1631 : BitVec 32 := Scalar.muli c7_i32_1362 c1_i32_1363
  let v1632 : BitVec 32 := Scalar.addi c0_i32_1364 v1631
  v1632.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x2048 : Shape := ⟨2, ![64, 2048]⟩
abbrev S2048x32768 : Shape := ⟨2, ![2048, 32768]⟩
abbrev S32768x2048 : Shape := ⟨2, ![32768, 2048]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x32768, .f32⟩
  | .hbm, ⟨2, _⟩ => ⟨S32768x2048, .f32⟩
  | .hbm, ⟨3, _⟩ => ⟨S2048x32768, .f32⟩
  | .hbm, ⟨4, _⟩ => ⟨S32768x2048, .f32⟩
  | .hbm, ⟨5, _⟩ => ⟨S2048x32768, .f32⟩
  | .hbm, ⟨6, _⟩ => ⟨S32768x2048, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x2048, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x2048, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Sched.lean ====
/-
# 01_k — the protocol of the three-layer multi-device MLP kernel: what every landing holds, and the schedule of the cells

Phases `φ = 0 … 6`: `0` is the entry handshake on the barrier semaphore, `1 + 2 l` the exchange of partial sums of
layer `l` (the reduce-scatter), `2 + 2 l` the exchange of the reduced columns (the all-gather). In phase `φ ≥ 1`
device `c` copies a block of 64 × 256 into slot `c` of device `q`'s landing buffer, for each `q ≠ c`, and device `q`
waits for it on its receive semaphore `c`; the two kinds of phase alternate between two landing buffers.

A landing of phase `φ` at device `d` from device `q` hands `d` its slot holding `q`'s block and, for the copy `d` sends
`q` in the NEXT phase, slot `d` of `q`'s other landing buffer and that `q` has reached the round of it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Transfers
public import Idealize.ShloMosaic.Lib.Tactic
public import Mathlib.Algebra.Order.BigOperators.Group.LocallyFinite
public import Mathlib.Tactic.IntervalCases

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's rounds, the local copies' counters -/

abbrev UB : Type := URounds (GSem nD τ sig) (Dev nD)
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) :=
  (Emb.inl : Emb UB (UB × Counters)).trans (embR : Emb (UB × Counters) (MT nD τ sig ℕ (Elt F) ℕ UU ℕ))
abbrev EC : UEmb Counters (MT nD τ sig ℕ (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Semaphores and cells -/

abbrev barS : Sem sig := (SemArray.scalar (sig.barrier 0 rfl) : Sems sig S_).sem
/-- The receive semaphore `q`: of the reduce-scatter (`false`), of the all-gather (`true`); -/
def rsem (b : Bool) (q : Dev nD) : DmaSem sig := match b with
  | false => ⟨18 + q.val, by have := q.isLt; change _ < 42; change _ < 8 at this; omega⟩
  | true => ⟨34 + q.val, by have := q.isLt; change _ < 42; change _ < 8 at this; omega⟩
/-- and the send semaphore `q`. -/
def ssem (b : Bool) (q : Dev nD) : DmaSem sig := match b with
  | false => ⟨10 + q.val, by have := q.isLt; change _ < 42; change _ < 8 at this; omega⟩
  | true => ⟨26 + q.val, by have := q.isLt; change _ < 42; change _ < 8 at this; omega⟩

abbrev barCell (c : Dev nD) : GSem nD τ sig := ((c : Thread nD τ), .reg barS)
abbrev rcell (b : Bool) (q c : Dev nD) : GSem nD τ sig := ((c : Thread nD τ), .dma (rsem b q))
abbrev scell (b : Bool) (q c : Dev nD) : GSem nD τ sig := ((c : Thread nD τ), .dma (ssem b q))

/-- What a semaphore is for. -/
inductive Kind where
  | bar | recv (b : Bool) (q : Dev nD) | send (b : Bool) (q : Dev nD) | other
  deriving DecidableEq

def kind : SemLoc sig → Kind
  | .reg _ => .bar
  | .dma s =>
    if s.val < 10 then .other
    else if s.val < 18 then .send false ⟨(s.val - 10) % 8, Nat.mod_lt _ (by decide)⟩
    else if s.val < 26 then .recv false ⟨(s.val - 18) % 8, Nat.mod_lt _ (by decide)⟩
    else if s.val < 34 then .send true ⟨(s.val - 26) % 8, Nat.mod_lt _ (by decide)⟩
    else .recv true ⟨(s.val - 34) % 8, Nat.mod_lt _ (by decide)⟩

theorem kind_bar : kind (.reg barS) = .bar := rfl
theorem kind_r (b : Bool) (q : Dev nD) : kind (.dma (rsem b q)) = .recv b q := by revert b q; decide
theorem kind_s (b : Bool) (q : Dev nD) : kind (.dma (ssem b q)) = .send b q := by revert b q; decide

/-! ## Memrefs -/

abbrev xM : Memref sig .tc .vmem S64x2048 .f32 := Memref.whole cc0_stg0_0
abbrev oM : Memref sig .tc .vmem S64x2048 .f32 := Memref.whole cc0_stg1_0
abbrev xbM : Memref sig .tc .vmem S64x2048 .bf16 := Memref.whole cc0_scratch0
abbrev hM : Memref sig .tc .vmem S64x4096 .bf16 := Memref.whole cc0_scratch1
abbrev sM : Memref sig .tc .vmem S8x64x256 .bf16 := Memref.whole cc0_scratch2
abbrev agM : Memref sig .tc .vmem S64x256 .bf16 := Memref.whole cc0_scratch4
abbrev wiM : Memref sig .tc .vmem S5x2048x512 .f32 := Memref.whole cc0_scratch6
abbrev woM : Memref sig .tc .vmem S3x4096x512 .f32 := Memref.whole cc0_scratch7
/-- The landing buffer of the reduce-scatter (`false`) and of the all-gather (`true`). -/
abbrev landM (b : Bool) : Memref sig .tc .vmem S8x64x256 .bf16 := match b with
  | false => Memref.whole cc0_scratch3
  | true => Memref.whole cc0_scratch5

theorem inb8 (q : Dev nD) : ∀ a, (![q.val, 0, 0] : Fin 3 → Nat) a + S1x64x256.size a ≤ S8x64x256.size a := by revert q; decide
abbrev sl8 (M : Memref sig .tc .vmem S8x64x256 .bf16) (q : Dev nD) : Memref sig .tc .vmem S64x256 .bf16 :=
  (M.slice (Rect.unit (s := S8x64x256) ![q.val, 0, 0] S1x64x256.size (inb8 q)) (fun _ => rfl)).squeeze S64x256 squeezes_S1x64x256_S64x256
/-- Slot `q` of a landing buffer, and of the send buffer. -/
abbrev slotM (b : Bool) (q : Dev nD) : Memref sig .tc .vmem S64x256 .bf16 := sl8 (landM b) q
abbrev sendM (q : Dev nD) : Memref sig .tc .vmem S64x256 .bf16 := sl8 sM q

abbrev N : ℕ := (slotM false 0).view.dmaCredit
theorem N_pos : 0 < N := View.dmaCredit_pos _ (by decide)

/-! ## The weights: the blocks the kernel copies in -/

/-- The first and the second matrix of layer `l`. -/
abbrev winM : ℕ → Memref sig .tc .hbm S2048x4096 .f32
  | 0 => Memref.whole main_arg1
  | 1 => Memref.whole main_arg3
  | _ => Memref.whole main_arg5
abbrev woutM : ℕ → Memref sig .tc .hbm S4096x2048 .f32
  | 0 => Memref.whole main_arg2
  | 1 => Memref.whole main_arg4
  | _ => Memref.whole main_arg6

theorem inb_wi (j : ℕ) : ∀ a, (![0, 512 * (j % 8)] : Fin 2 → Nat) a + S2048x512.size a ≤ S2048x4096.size a := by
  have h : j % 8 < 8 := Nat.mod_lt _ (by decide)
  intro a; fin_cases a
  · exact (by decide : (0 + 2048 : ℕ) ≤ 2048)
  · change 512 * (j % 8) + 512 ≤ 4096; omega
theorem inb_wo (j : ℕ) : ∀ a, (![0, 512 * (j % 4)] : Fin 2 → Nat) a + S4096x512.size a ≤ S4096x2048.size a := by
  have h : j % 4 < 4 := Nat.mod_lt _ (by decide)
  intro a; fin_cases a
  · exact (by decide : (0 + 4096 : ℕ) ≤ 4096)
  · change 512 * (j % 4) + 512 ≤ 2048; omega

/-- The block number `i` (of 24) of the first matrices, 8 to a layer, and block number `i` (of 12) of the second, 4 to a layer. -/
abbrev wiSrc (i : ℕ) : Memref sig .tc .hbm S2048x512 .f32 :=
  (winM (i / 8)).slice (Rect.unit (s := S2048x4096) ![0, 512 * (i % 8)] S2048x512.size (inb_wi i)) (fun _ => rfl)
abbrev woSrc (i : ℕ) : Memref sig .tc .hbm S4096x512 .f32 :=
  (woutM (i / 4)).slice (Rect.unit (s := S4096x2048) ![0, 512 * (i % 4)] S4096x512.size (inb_wo i)) (fun _ => rfl)

/-- What they hold on device `c`. -/
def wiV (c : Dev nD) (i : ℕ) : S2048x512.Idx → Elt F .f32 := (wiSrc i).view.read (Elt F) (m ((wiSrc i).view.loc (c : Thread nD τ)))
def woV (c : Dev nD) (i : ℕ) : S4096x512.Idx → Elt F .f32 := (woSrc i).view.read (Elt F) (m ((woSrc i).view.loc (c : Thread nD τ)))

/-! ## Contents -/

def xstg (c : Dev nD) : (cc0_stg0_0 : Ref sig .tc).ty.Contents (Elt F) :=
  (win0_0.blk (0 : Fin 1)).view.read (Elt F) ((s₀ m ρ).mem ((c : Thread nD τ).loc main_arg0))

theorem casts_wi : S2048x512.ShapeCasts S1x2048x512 := by decide
theorem casts_wo : S4096x512.ShapeCasts S1x4096x512 := by decide

/-- A block as a load of its slot reads it. -/
def up (X : S64x256.Idx → Elt F .bf16) : Vec F S1x64x256 .bf16 := shapeCast S1x64x256 X shapeCasts_S64x256_S1x64x256
def wiUp (X : S2048x512.Idx → Elt F .f32) : Vec F S1x2048x512 .f32 := shapeCast S1x2048x512 X casts_wi
def woUp (X : S4096x512.Idx → Elt F .f32) : Vec F S1x4096x512 .f32 := shapeCast S1x4096x512 X casts_wo

/-- The hidden layer of layer `l` on device `c` from its input. -/
def hOf (c : Dev nD) (l : ℕ) (x : Vec F S64x2048 .bf16) : S64x4096.Idx → Elt F .bf16 := fun i =>
  k0_pay2 (wiUp (wiV m c (8 * l + (i 1).val / 512))) x
    (fun | ⟨0, _⟩ => i 0 | ⟨1, _⟩ => ⟨(i 1).val % 512, Nat.mod_lt _ (by decide)⟩)

/-- Block `q` of device `c`'s partial product of layer `l`. -/
def pOf (c : Dev nD) (l : ℕ) (q : Dev nD) (h : Vec F S64x4096 .bf16) : S64x256.Idx → Elt F .bf16 :=
  if q.val % 2 = 0 then k0_pay13 (woUp (woV m c (4 * l + q.val / 2))) h else k0_pay16 (woUp (woV m c (4 * l + q.val / 2))) h

/-- The sum of eight blocks in the kernel's order. -/
def sum8 (p : Dev nD → S64x256.Idx → Elt F .bf16) : S64x256.Idx → Elt F .bf16 :=
  k0_pay42 (k0_pay40 (up (p 0)) (up (p 1))) (k0_pay41 (up (p 2))) (up (p 3)) (up (p 4)) (up (p 5)) (up (p 6)) (up (p 7))

/-- Eight blocks side by side. -/
def wide (p : Dev nD → S64x256.Idx → Elt F .bf16) : S64x2048.Idx → Elt F .bf16 := fun i =>
  p ⟨(i 1).val / 256, by have h := (i 1).isLt; change _ < 2048 at h; change _ < 8; omega⟩
    (fun | ⟨0, _⟩ => i 0 | ⟨1, _⟩ => ⟨(i 1).val % 256, Nat.mod_lt _ (by decide)⟩)

/-- Device `c`'s input of layer `l`. -/
def xAt : ℕ → Dev nD → Vec F S64x2048 .bf16
  | 0, c => k0_pay1 (xstg m ρ c)
  | l + 1, _ => wide fun q => sum8 fun c' => pOf m c' l q (hOf m c' l (xAt l c'))

def hAt (l : ℕ) (c : Dev nD) : S64x4096.Idx → Elt F .bf16 := hOf m c l (xAt m ρ l c)
def part (l : ℕ) (c q : Dev nD) : S64x256.Idx → Elt F .bf16 := pOf m c l q (hAt m ρ l c)
def red (l : ℕ) (q : Dev nD) : S64x256.Idx → Elt F .bf16 := sum8 fun c' => part m ρ l c' q

theorem xAt_succ (l : ℕ) (c : Dev nD) : xAt m ρ (l + 1) c = wide fun q => red m ρ l q := rfl

/-- Which landing buffer phase `φ` uses. -/
def par (φ : ℕ) : Bool := decide (φ % 2 = 0)
/-- The round of its cells it is. -/
def rnd (φ : ℕ) : ℕ := (φ - 1) / 2
/-- The phase of round `r` of kind `b`. -/
def phase (b : Bool) (r : ℕ) : ℕ := 2 * r + 1 + b.toNat

theorem par_phase (b : Bool) (r : ℕ) : par (phase b r) = b := by
  cases b
  · exact decide_eq_false (by unfold phase; simp only [Bool.toNat_false]; omega)
  · exact decide_eq_true (by unfold phase; simp only [Bool.toNat_true]; omega)
theorem rnd_phase (b : Bool) (r : ℕ) : rnd (phase b r) = r := by
  cases b <;> simp only [rnd, phase, Bool.toNat_false, Bool.toNat_true] <;> omega
theorem phase_rnd {φ : ℕ} (h : 0 < φ) : phase (par φ) (rnd φ) = φ := by
  unfold phase par rnd
  by_cases h2 : φ % 2 = 0
  · rw [decide_eq_true h2]; simp only [Bool.toNat_true]; omega
  · rw [decide_eq_false h2]; simp only [Bool.toNat_false]; omega

/-- The block that lands in phase `φ` at device `c` from device `q`. -/
def val (φ : ℕ) (q c : Dev nD) : S64x256.Idx → Elt F .bf16 := if par φ then red m ρ (rnd φ) q else part m ρ (rnd φ) q c

/-! ## The schedule -/

/-- A memref's elements at device `c`, whatever they hold. -/
abbrev anyAt (c : Dev nD) (M : Memref sig .tc .vmem S64x256 .bf16) : sProp 𝕄 := ownsSat (c : Thread nD τ) M fullShare fun _ => True
abbrev isAt (c : Dev nD) (M : Memref sig .tc .vmem S64x256 .bf16) (X : S64x256.Idx → Elt F .bf16) : sProp 𝕄 :=
  ownsSat (c : Thread nD τ) M fullShare (· = X)

/-- What a landing of phase `φ` from `q` hands `d` for its own copy to `q` in the next phase. -/
def feed (φ : ℕ) (d q : Dev nD) : sProp 𝕄 :=
  if φ < 6 then iprop(anyAt q (slotM (par (φ + 1)) d) ∗ reached ER (rcell (par (φ + 1)) d q) (φ / 2)) else iprop(emp)

instance feed_storable (φ : ℕ) (d q : Dev nD) : BI.Storable (upEmb : UEmb _ 𝕄) (feed (F := F) φ d q) := by
  unfold feed; split <;> infer_instance

/-- The share of the all-gather's source that the copy to `q` takes. -/
def shr (q : Dev nD) : PosShare TreeShare := Transfers.dealOf fullShare Finset.univ q

def rPay (b : Bool) (r : ℕ) (d q : Dev nD) : sProp 𝕄 :=
  iprop(isAt d (slotM b q) (val m ρ (phase b r) q d) ∗ feed (phase b r) d q)
def sPay (b : Bool) (r : ℕ) (c q : Dev nD) : sProp 𝕄 := match b with
  | false => anyAt c (sendM q)
  | true => ownsSat (c : Thread nD τ) agM (shr q) (· = red m ρ r c)

instance rPay_storable (b : Bool) (r : ℕ) (d q : Dev nD) : BI.Storable (upEmb : UEmb _ 𝕄) (rPay (F := F) m ρ b r d q) := by
  unfold rPay; infer_instance
instance sPay_storable (b : Bool) (r : ℕ) (d q : Dev nD) : BI.Storable (upEmb : UEmb _ 𝕄) (sPay (F := F) m ρ b r d q) := by
  cases b <;> (unfold sPay; infer_instance)

/-- The barrier cell of `d`: one unit from every other device. A receive or send cell `q` of `d ≠ q`: one copy in each
    of three rounds. -/
def Rd : Rounds.Schedule (GSem nD τ sig) (Dev nD) 𝕄 where
  duties g r := match kind g.2 with
    | .bar => if r = 0 then Finset.univ.erase g.1.1 else ∅
    | .recv _ q => if r < 3 ∧ q ≠ g.1.1 then {q} else ∅
    | .send _ q => if r < 3 ∧ q ≠ g.1.1 then {q} else ∅
    | .other => ∅
  unitless _ := False
  amount g _ _ := match kind g.2 with
    | .bar => 1
    | _ => N
  payload g r d := match kind g.2 with
    | .bar => feed 0 g.1.1 d
    | .recv b q => rPay m ρ b r g.1.1 q
    | .send b q => sPay m ρ b r g.1.1 q
    | .other => iprop(emp)
  amount_pos g _ _ _ := by
    cases kind g.2 with
    | bar => exact Nat.one_pos
    | _ => exact N_pos

instance Rd_payload_storable (g : GSem nD τ sig) (r : ℕ) (d : Dev nD) :
    BI.Storable (upEmb : UEmb _ 𝕄) ((Rd (F := F) m ρ).payload g r d) := by
  show BI.Storable upEmb (match kind g.2 with
    | .bar => feed 0 g.1.1 d
    | .recv b q => rPay m ρ b r g.1.1 q
    | .send b q => sPay m ρ b r g.1.1 q
    | .other => iprop(emp))
  cases kind g.2 <;> infer_instance

section Sched
variable (c : Dev nD)

theorem duties_bar : (Rd (F := F) m ρ).duties (barCell c) 0 = Finset.univ.erase c := rfl
theorem duties_r {b : Bool} {q : Dev nD} {r : ℕ} (hr : r < 3) (hq : q ≠ c) : (Rd (F := F) m ρ).duties (rcell b q c) r = {q} := by
  dsimp only [Rd]; rw [kind_r]; exact if_pos ⟨hr, hq⟩
theorem duties_s {b : Bool} {q : Dev nD} {r : ℕ} (hr : r < 3) (hq : q ≠ c) : (Rd (F := F) m ρ).duties (scell b q c) r = {q} := by
  dsimp only [Rd]; rw [kind_s]; exact if_pos ⟨hr, hq⟩
theorem duties_bar_later : ∀ r, 1 ≤ r → (Rd (F := F) m ρ).duties (barCell c) r = ∅ :=
  fun r hr => if_neg (by omega)
theorem duties_r_later (b : Bool) (q : Dev nD) {R : ℕ} (h : q ≠ c → 3 ≤ R) : ∀ r, R ≤ r → (Rd (F := F) m ρ).duties (rcell b q c) r = ∅ :=
  fun r hr => by dsimp only [Rd]; rw [kind_r]; exact if_neg fun ⟨h1, h2⟩ => by have := h h2; omega
theorem duties_s_later (b : Bool) (q : Dev nD) {R : ℕ} (h : q ≠ c → 3 ≤ R) : ∀ r, R ≤ r → (Rd (F := F) m ρ).duties (scell b q c) r = ∅ :=
  fun r hr => by dsimp only [Rd]; rw [kind_s]; exact if_neg fun ⟨h1, h2⟩ => by have := h h2; omega

theorem amount_bar (r : ℕ) (d : Dev nD) : (Rd (F := F) m ρ).amount (barCell c) r d = 1 := rfl
theorem amount_r (b : Bool) (q : Dev nD) (r : ℕ) (d : Dev nD) : (Rd (F := F) m ρ).amount (rcell b q c) r d = N := by
  dsimp only [Rd]; rw [kind_r]
theorem amount_s (b : Bool) (q : Dev nD) (r : ℕ) (d : Dev nD) : (Rd (F := F) m ρ).amount (scell b q c) r d = N := by
  dsimp only [Rd]; rw [kind_s]

theorem expect_bar : (Rd (F := F) m ρ).expect (barCell c) 0 = 7 := by
  unfold Schedule.expect Schedule.amountOf
  rw [duties_bar, Finset.sum_congr rfl fun d _ => amount_bar m ρ c 0 d, Finset.sum_const, Finset.card_erase_of_mem (Finset.mem_univ _), Finset.card_univ]
  rfl
theorem expect_r {b : Bool} {q : Dev nD} {r : ℕ} (hr : r < 3) (hq : q ≠ c) : (Rd (F := F) m ρ).expect (rcell b q c) r = N := by
  unfold Schedule.expect Schedule.amountOf; rw [duties_r m ρ c hr hq, Finset.sum_singleton, amount_r]
theorem expect_s {b : Bool} {q : Dev nD} {r : ℕ} (hr : r < 3) (hq : q ≠ c) : (Rd (F := F) m ρ).expect (scell b q c) r = N := by
  unfold Schedule.expect Schedule.amountOf; rw [duties_s m ρ c hr hq, Finset.sum_singleton, amount_s]

theorem payload_bar (r : ℕ) (d : Dev nD) : (Rd (F := F) m ρ).payload (barCell c) r d = feed 0 c d := rfl
theorem payload_r (b : Bool) (q : Dev nD) (r : ℕ) (d : Dev nD) : (Rd (F := F) m ρ).payload (rcell b q c) r d = rPay m ρ b r c q := by
  dsimp only [Rd]; rw [kind_r]
theorem payload_s (b : Bool) (q : Dev nD) (r : ℕ) (d : Dev nD) : (Rd (F := F) m ρ).payload (scell b q c) r d = sPay m ρ b r c q := by
  dsimp only [Rd]; rw [kind_s]

theorem rest_bar : bigSep ((Rd (F := F) m ρ).duties (barCell c) 0 \ ∅) (fun d => (Rd (F := F) m ρ).payload (barCell c) 0 d)
    = bigSep (Finset.univ.erase c) fun q => feed 0 c q := by
  rw [Finset.sdiff_empty]; rfl
theorem rest_r {b : Bool} {q : Dev nD} {r : ℕ} (hr : r < 3) (hq : q ≠ c) :
    bigSep ((Rd (F := F) m ρ).duties (rcell b q c) r \ ∅) (fun d => (Rd (F := F) m ρ).payload (rcell b q c) r d) = rPay m ρ b r c q := by
  rw [Finset.sdiff_empty, duties_r m ρ c hr hq, bigSep_singleton, payload_r]
theorem rest_s {b : Bool} {q : Dev nD} {r : ℕ} (hr : r < 3) (hq : q ≠ c) :
    bigSep ((Rd (F := F) m ρ).duties (scell b q c) r \ ∅) (fun d => (Rd (F := F) m ρ).payload (scell b q c) r d) = sPay m ρ b r c q := by
  rw [Finset.sdiff_empty, duties_s m ρ c hr hq, bigSep_singleton, payload_s]

end Sched

/-! ## What each core owes; the levels -/

/-- The peer of step `i`, and its phase. -/
def peer (i : ℕ) : Dev nD := ⟨i % 8, Nat.mod_lt _ (by decide)⟩

/-- The cell device `c` pays at step `i = 8 φ + q`: `q`'s barrier cell in phase 0, `q`'s receive cell `c` after it; -/
def pcell (c : Dev nD) (i : ℕ) : GSem nD τ sig := if i < 8 then barCell (peer i) else rcell (par (i / 8)) c (peer i)
def pamt (i : ℕ) : ℕ := if i < 8 then 1 else N
/-- what it owes for the step; -/
def tly (c : Dev nD) (i : ℕ) : CellTallies nD τ sig ℕ := if peer i = c then 0 else tallyAt (pcell c i) (rnd (i / 8)) (pamt i)
/-- and what it owes once the first `n` steps are done. -/
def Owe (c : Dev nD) (n : ℕ) : CellTallies nD τ sig ℕ := ∑ i ∈ Finset.Ico n 56, tly c i

theorem Owe_step {c : Dev nD} {n : ℕ} (h : n < 56) : Owe c n = Owe c (n + 1) + tly c n := by
  unfold Owe; rw [Finset.sum_eq_sum_Ico_succ_bot h, add_comm]
theorem Owe_end (c : Dev nD) : Owe c 56 = 0 := by unfold Owe; rw [Finset.Ico_self, Finset.sum_empty]

def L (g : GSem nD τ sig) : Finset ℕ := if g.1.2 = .tc then {0, 1, 2} else ∅
def lv (g : GSem nD τ sig) (r : ℕ) : ℕ := match kind g.2 with
  | .bar => 1
  | .recv b _ => phase b r + 1
  | _ => 0

theorem L_of_ne (g : GSem nD τ sig) (h : g.1.2 ≠ .tc) : L g = ∅ := if_neg h
theorem L_mem (c : Dev nD) (sm : SemLoc sig) {r : ℕ} (h : r < 3) : r ∈ L ((c : Thread nD τ), sm) := by
  rw [L, if_pos rfl]
  rcases r with _ | _ | _ | r
  · decide
  · decide
  · decide
  · omega

theorem Owe_pos {c : Dev nD} {n : ℕ} {g : GSem nD τ sig} {u : ℕ} (h : 0 < Owe c n g u) :
    ∃ i, n ≤ i ∧ i < 56 ∧ peer i ≠ c ∧ g = pcell c i ∧ u = rnd (i / 8) := by
  unfold Owe at h
  rw [Finset.sum_apply, Finsupp.finset_sum_apply] at h
  obtain ⟨i, hi, hpos⟩ := Finset.exists_ne_zero_of_sum_ne_zero h.ne'
  rw [Finset.mem_Ico] at hi
  refine ⟨i, hi.1, hi.2, ?_⟩
  unfold tly at hpos
  by_cases hc : peer i = c
  · rw [if_pos hc] at hpos; exact absurd rfl hpos
  · rw [if_neg hc, tallyAt_apply] at hpos
    by_cases hg : g = pcell c i ∧ u = rnd (i / 8)
    · exact ⟨hc, hg.1, hg.2⟩
    · rw [if_neg hg] at hpos; exact absurd rfl hpos

theorem lv_pcell (c : Dev nD) (i : ℕ) : lv (pcell c i) (rnd (i / 8)) = i / 8 + 1 := by
  unfold pcell
  by_cases h : i < 8
  · rw [if_pos h, Nat.div_eq_of_lt h]; rfl
  · rw [if_neg h]; unfold lv; dsimp only; rw [kind_r]; dsimp only; rw [phase_rnd (by omega)]
theorem pcell_L (c : Dev nD) (i : ℕ) (hi : i < 56) : rnd (i / 8) ∈ L (pcell c i) := by
  unfold pcell; split <;> exact L_mem _ _ (by unfold rnd; omega)

/-- A wait on a semaphore below all that is still owed. -/
theorem mayWait (c : Dev nD) (sm : SemLoc sig) (r n : ℕ) (hr : r < 3) (hl : lv ((c : Thread nD τ), sm) r ≤ n / 8) :
    (levAts L lv : sProp 𝕄) ⊢ MayWait (c : Thread nD τ) sm r (Owe c n) :=
  MayOwe.of_cut (L := L) (lev := lv) (n / 8) (fun p hp => by rw [Finset.mem_singleton.mp hp]; exact L_mem c sm hr)
    (fun g u hg => by obtain ⟨i, -, hi, -, rfl, rfl⟩ := Owe_pos hg; exact pcell_L c i hi)
    (fun p hp => by rw [Finset.mem_singleton.mp hp]; exact hl)
    (fun g u hg => by
      obtain ⟨i, hn, -, -, rfl, rfl⟩ := Owe_pos hg
      rw [lv_pcell]; have := Nat.div_le_div_right (c := 8) hn; omega)

theorem lv_bar (c : Dev nD) (r : ℕ) : lv (barCell c) r = 1 := rfl
theorem lv_r (b : Bool) (q c : Dev nD) (r : ℕ) : lv (rcell b q c) r = phase b r + 1 := by unfold lv; dsimp only; rw [kind_r]
theorem lv_s (b : Bool) (q c : Dev nD) (r : ℕ) : lv (scell b q c) r = 0 := by unfold lv; dsimp only; rw [kind_s]

/-! ## The cells the exchange's records are about -/

/-- A device's 33 cells: the barrier, then the send and receive semaphores 10 … 41. -/
def csem (k : Fin 33) : SemLoc sig := if k.val = 0 then .reg barS else .dma ⟨k.val + 9, by have := k.isLt; change _ < 42; omega⟩
abbrev kcell (ck : Dev nD × Fin 33) : GSem nD τ sig := ((ck.1 : Thread nD τ), csem ck.2)

def records (K : Dev nD × Fin 33 → ℕ) : sProp 𝕄 :=
  iprop((bigSep Finset.univ fun ck : Dev nD × Fin 33 => cellInv ER (Rd m ρ) (K ck) (kcell ck))
    ∗ (bigSep Finset.univ fun ck : Dev nD × Fin 33 => reached ER (kcell ck) 0) ∗ levAts L lv)

instance records_persistent (K : Dev nD × Fin 33 → ℕ) : BI.Persistent (records m ρ K) := by unfold records; infer_instance

def rIx (b : Bool) (q : Dev nD) : Fin 33 := match b with
  | false => ⟨9 + q.val, by have := q.isLt; change _ < 8 at this; omega⟩
  | true => ⟨25 + q.val, by have := q.isLt; change _ < 8 at this; omega⟩
def sIx (b : Bool) (q : Dev nD) : Fin 33 := match b with
  | false => ⟨1 + q.val, by have := q.isLt; change _ < 8 at this; omega⟩
  | true => ⟨17 + q.val, by have := q.isLt; change _ < 8 at this; omega⟩
theorem csem_r (b : Bool) (q : Dev nD) : csem (rIx b q) = .dma (rsem b q) := by revert b q; decide
theorem csem_s (b : Bool) (q : Dev nD) : csem (sIx b q) = .dma (ssem b q) := by revert b q; decide
theorem csem_bar : csem 0 = .reg barS := rfl

theorem bigSep_out {I : Type} [DecidableEq I] {s : Finset I} {i : I} (h : i ∈ s) {Φ : I → sProp 𝕄} : bigSep s Φ ⊢ Φ i := bigSep_elim h

section Records
variable (K : Dev nD × Fin 33 → ℕ)
theorem rec_inv (c : Dev nD) (k : Fin 33) : records (F := F) m ρ K ⊢ cellInv ER (Rd m ρ) (K (c, k)) ((c : Thread nD τ), csem k) := by
  unfold records; iintro ⟨H, -, -⟩
  iapply (show (bigSep Finset.univ fun ck : Dev nD × Fin 33 => (cellInv ER (Rd m ρ) (K ck) (kcell ck) : sProp 𝕄)) ⊢ _ from bigSep_out (Finset.mem_univ (c, k))); iexact H
theorem rec_reached (c : Dev nD) (k : Fin 33) : records (F := F) m ρ K ⊢ reached ER ((c : Thread nD τ), csem k) 0 := by
  unfold records; iintro ⟨-, H, -⟩
  iapply (show (bigSep Finset.univ fun ck : Dev nD × Fin 33 => (reached ER (kcell ck) 0 : sProp 𝕄)) ⊢ _ from bigSep_out (Finset.mem_univ (c, k))); iexact H
theorem rec_lev : records (F := F) m ρ K ⊢ levAts L lv := by unfold records; iintro ⟨-, -, H⟩; iexact H
theorem inv_bar (c : Dev nD) : records (F := F) m ρ K ⊢ cellInv ER (Rd m ρ) (K (c, 0)) (barCell c) := rec_inv m ρ K c 0
theorem inv_r (b : Bool) (q c : Dev nD) : records (F := F) m ρ K ⊢ cellInv ER (Rd m ρ) (K (c, rIx b q)) (rcell b q c) := by
  have h := rec_inv m ρ K c (rIx b q); rw [csem_r] at h; exact h
theorem inv_s (b : Bool) (q c : Dev nD) : records (F := F) m ρ K ⊢ cellInv ER (Rd m ρ) (K (c, sIx b q)) (scell b q c) := by
  have h := rec_inv m ρ K c (sIx b q); rw [csem_s] at h; exact h
theorem reached_bar (c : Dev nD) : records (F := F) m ρ K ⊢ reached ER (barCell c) 0 := rec_reached m ρ K c 0
theorem reached_r (b : Bool) (q c : Dev nD) : records (F := F) m ρ K ⊢ reached ER (rcell b q c) 0 := by
  have h := rec_reached m ρ K c (rIx b q); rw [csem_r] at h; exact h
theorem reached_s (b : Bool) (q c : Dev nD) : records (F := F) m ρ K ⊢ reached ER (scell b q c) 0 := by
  have h := rec_reached m ρ K c (sIx b q); rw [csem_s] at h; exact h
end Records

end Cert.Mlp

end
-- ==== Proof.State.lean ====
/-
# 01_k — what device `c` holds between two statements of the kernel

One proposition `St` over counters: `n` copies of the exchange started (`8` to a phase, the step of the device itself
counted too), `w` landings waited for, `v` sends waited for, and so on. Each statement of the kernel moves one or two of
the counters by one.
-/
module

public import proofs.«01_k».proof.Proof.Sched

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Counting -/

/-- Of the first `n` steps, taken in turn for `0 … d - 1`, how many are for `s`. -/
def cnt (d n s : ℕ) : ℕ := n / d + if s < n % d then 1 else 0

theorem cnt8_self {n s : ℕ} (h : n % 8 = s) : cnt 8 n s = n / 8 := by unfold cnt; rw [if_neg (by omega)]; omega
theorem cnt8_next {n s : ℕ} (h : n % 8 = s) : cnt 8 (n + 1) s = n / 8 + 1 := by unfold cnt; split <;> omega
theorem cnt8_other {n s : ℕ} (hs : s < 8) (h : n % 8 ≠ s) : cnt 8 (n + 1) s = cnt 8 n s := by unfold cnt; split <;> split <;> omega
theorem cnt8_lo {n s : ℕ} (hs : s < 8) : n / 8 ≤ cnt 8 n s := by unfold cnt; omega
theorem cnt8_mul {n s : ℕ} (hs : s < 8) (h : n % 8 = 0) : cnt 8 n s = n / 8 := by unfold cnt; rw [if_neg (by omega)]; omega
theorem cntd_self {d n s : ℕ} (hd : d = 5 ∨ d = 3) (h : n % d = s) : cnt d n s = n / d := by unfold cnt; rw [if_neg (by omega)]; omega
theorem cntd_next {d n s : ℕ} (hd : d = 5 ∨ d = 3) (h : n % d = s) : cnt d (n + 1) s = n / d + 1 := by
  unfold cnt; rcases hd with rfl | rfl <;> split <;> omega
theorem cntd_other {d n s : ℕ} (hd : d = 5 ∨ d = 3) (hs : s < d) (h : n % d ≠ s) : cnt d (n + 1) s = cnt d n s := by
  unfold cnt; rcases hd with rfl | rfl <;> split <;> split <;> omega

theorem bigSep_pull {I : Type} [DecidableEq I] {s : Finset I} {i : I} (hi : i ∈ s) (Φ : I → sProp 𝕄) :
    bigSep s Φ = iprop(Φ i ∗ bigSep (s.erase i) Φ) := bigSep_erase hi
theorem bigSep_put {I : Type} [DecidableEq I] {s : Finset I} {i : I} (hi : i ∉ s) (Φ : I → sProp 𝕄) :
    bigSep (insert i s) Φ = iprop(Φ i ∗ bigSep s Φ) := bigSep_insert hi
/-- The first member of a range taken off. -/
theorem bigSep_next {a b : ℕ} (h : a < b) (Φ : ℕ → sProp 𝕄) :
    bigSep (Finset.Ico a b) Φ = iprop(Φ a ∗ bigSep (Finset.Ico (a + 1) b) Φ) := by
  rw [← Finset.insert_Ico_succ_left_eq_Ico h, bigSep_put (by simp)]; rfl

/-- One member of a separating conjunction taken out, to be put back changed. -/
theorem bigSep_upd {I : Type} [DecidableEq I] {s : Finset I} {Φ Ψ : I → sProp 𝕄} (i : I) (hi : i ∈ s)
    (h : ∀ j ∈ s, j ≠ i → Ψ j = Φ j) : bigSep s Φ ⊢ iprop(Φ i ∗ (Ψ i -∗ bigSep s Ψ)) := by
  rw [bigSep_pull hi, bigSep_pull hi Ψ,
    bigSep_congr (s := s.erase i) (Φ := Ψ) (Ψ := Φ) fun j hj => h j (Finset.mem_of_mem_erase hj) (Finset.ne_of_mem_erase hj)]
  iintro ⟨H1, H2⟩
  isplitl [H1]; · iexact H1
  iintro H
  isplitl [H] <;> iassumption

/-! ## Slots of a buffer -/

section Slots
variable {sp : Space} {sh s2 : Shape} {e : EltTy} (M : Memref sig .tc sp sh e) (r : Rect sh) (hr : ∀ a, r.stride a = 1) (hsq : r.shape.Squeezes s2)

theorem slot_read (h : s2.ShapeCasts r.shape) (f : M.view.ty.Contents (Elt F)) :
    (M.access r).read (Elt F) f = shapeCast r.shape (((M.slice r hr).squeeze s2 hsq).view.read (Elt F) f) h := by
  funext j
  show _ = (M.access r).read (Elt F) f (Shape.reshapeEquiv hsq.numel_eq (Shape.reshapeEquiv h j))
  rw [Shape.reshapeEquiv_reshapeEquiv, Shape.reshapeEquiv_self]

theorem slot_write (h : s2.ShapeCasts r.shape) (f : M.view.ty.Contents (Elt F)) (X : s2.Idx → Elt F e) :
    ((M.slice r hr).squeeze s2 hsq).view.read (Elt F) ((M.access r).write (Elt F) f (shapeCast r.shape X h) Finset.univ) = X := by
  funext j
  show (M.access r).read (Elt F) _ (Shape.reshapeEquiv hsq.numel_eq j) = _
  rw [View.read_write_univ]
  show X (Shape.reshapeEquiv h (Shape.reshapeEquiv hsq.numel_eq j)) = X j
  rw [Shape.reshapeEquiv_reshapeEquiv, Shape.reshapeEquiv_self]

theorem slot_set : ((M.slice r hr).squeeze s2 hsq).view.set = (M.access r).set := View.set_reshape _ _
end Slots

/-- What the device still owes once `n` steps of the exchange are done. -/
def Ow (c : Dev nD) (n : ℕ) : sProp 𝕄 := iprop(∃ W, owes (c : Thread nD τ) (Owe c n) W)

/-! ## The two rings of local copies -/

/-- A ring of `d` slots through which `tot` blocks of HBM pass, block `i` through slot `i % d`. -/
structure Ring where
  s : Shape
  d : ℕ
  tot : ℕ
  hd : d = 5 ∨ d = 3
  slot : ℕ → Memref sig .tc .vmem s .f32
  sem : ℕ → DmaSem sig
  src : ℕ → Memref sig .tc .hbm s .f32
  pos : 0 < s.numel
  N : ℕ
  hN : ∀ k, (slot k).view.dmaCredit = N
  hlow : ∀ k, kind (.dma (sem k)) = .other

namespace Ring
variable (R : Ring)

/-- What block `i` holds on device `c`. -/
def V (c : Dev nD) (i : ℕ) : R.s.Idx → Elt F .f32 := (R.src i).view.read (Elt F) (m ((R.src i).view.loc (c : Thread nD τ)))

/-- The read share of block `i`'s elements the copy of it takes. -/
def srcTok (c : Dev nD) (i : ℕ) : sProp 𝕄 :=
  (R.src i).view.loc (c : Thread nD τ) ↦[(R.src i).view.set]{Transfers.shareTokN fullShare i} m ((R.src i).view.loc (c : Thread nD τ))

/-- Slot `k` once it holds what `Φ` says. -/
def slotAt (c : Dev nD) (k : ℕ) (Φ : (R.s.Idx → Elt F .f32) → Prop) : sProp 𝕄 :=
  ownsSat (c : Thread nD τ) (R.slot k) fullShare Φ

def slotSt (c : Dev nD) (i w k : ℕ) : sProp 𝕄 :=
  if w < i then Transfers.Flight EC (c : Thread nD τ) (.dma (R.sem k)) 0 R.N (R.slotAt c k (· = R.V m c (R.d * w + k)))
  else iprop(semVal ((c : Thread nD τ), .dma (R.sem k)) 0 ∗ R.slotAt c k fun X => 0 < w → X = R.V m c (R.d * (w - 1) + k))

/-- `i` copies issued, `w` waited for. -/
def St (c : Dev nD) (i w : ℕ) : sProp 𝕄 :=
  iprop((bigSep (Finset.Ico i R.tot) fun j => R.srcTok m c j)
    ∗ bigSep (Finset.range R.d) fun k => R.slotSt m c (cnt R.d i k) (cnt R.d w k) k)

variable {R} {c : Dev nD} {α : Type}

theorem slotAt_open (R : Ring) (k : ℕ) (Φ : (R.s.Idx → Elt F .f32) → Prop) : R.slotAt c k Φ
    ⊢ (iprop(∃ f, ⌜Φ ((R.slot k).view.read (Elt F) f)⌝ ∗ ((R.slot k).view.loc (c : Thread nD τ) ↦[(R.slot k).view.set]{fullShare} f)) : sProp 𝕄) := by
  unfold slotAt ownsSat; exact Entails.refl _
theorem slotAt_close (R : Ring) (k : ℕ) (Φ : (R.s.Idx → Elt F .f32) → Prop) (f : (R.slot k).view.ty.Contents (Elt F)) (h : Φ ((R.slot k).view.read (Elt F) f)) :
    ((R.slot k).view.loc (c : Thread nD τ) ↦[(R.slot k).view.set]{fullShare} f) ⊢ (R.slotAt c k Φ : sProp 𝕄) := by
  unfold slotAt ownsSat; iintro H; iexists f; isplitr
  · ipureintro; exact h
  · iexact H

theorem take_issue {i w : ℕ} (h1 : cnt R.d w (i % R.d) = i / R.d) :
    (bigSep (Finset.range R.d) fun k => R.slotSt m c (cnt R.d i k) (cnt R.d w k) k)
      ⊢ (iprop((semVal ((c : Thread nD τ), .dma (R.sem (i % R.d))) 0 ∗ R.slotAt c (i % R.d) fun X => 0 < i / R.d → X = R.V m c (R.d * (i / R.d - 1) + i % R.d))
        ∗ (Transfers.Flight EC (c : Thread nD τ) (.dma (R.sem (i % R.d))) 0 R.N (R.slotAt c (i % R.d) (· = R.V m c i))
          -∗ bigSep (Finset.range R.d) fun k => R.slotSt m c (cnt R.d (i + 1) k) (cnt R.d w k) k)) : sProp 𝕄) := by
  have hlt : i % R.d < R.d := Nat.mod_lt _ (by have := R.hd; omega)
  have hup := bigSep_upd (s := Finset.range R.d) (Φ := fun k => R.slotSt m c (cnt R.d i k) (cnt R.d w k) k)
    (Ψ := fun k => R.slotSt m c (cnt R.d (i + 1) k) (cnt R.d w k) k) (i % R.d) (Finset.mem_range.mpr hlt)
    (fun j hj hne => by rw [cntd_other R.hd (Finset.mem_range.mp hj) hne.symm])
  have e1 : R.slotSt m c (cnt R.d i (i % R.d)) (cnt R.d w (i % R.d)) (i % R.d)
      = iprop(semVal ((c : Thread nD τ), .dma (R.sem (i % R.d))) 0 ∗ R.slotAt c (i % R.d) fun X => 0 < i / R.d → X = R.V m c (R.d * (i / R.d - 1) + i % R.d)) := by
    unfold slotSt; rw [cntd_self R.hd rfl, h1, if_neg (Nat.lt_irrefl _)]
  have e2 : R.slotSt m c (cnt R.d (i + 1) (i % R.d)) (cnt R.d w (i % R.d)) (i % R.d)
      = Transfers.Flight EC (c : Thread nD τ) (.dma (R.sem (i % R.d))) 0 R.N (R.slotAt c (i % R.d) (· = R.V m c i)) := by
    unfold slotSt; rw [cntd_next R.hd rfl, h1, if_pos (Nat.lt_succ_self _), Nat.div_add_mod]
  rw [e1, e2] at hup
  exact hup

theorem issue {α : Type} {Q : α → sProp 𝕄} {i w : ℕ} (hi : i < R.tot) (h1 : cnt R.d w (i % R.d) = i / R.d)
    {src : Memref sig .tc .hbm R.s .f32} {dst : Memref sig .tc .vmem R.s .f32} {sm : SemLoc sig}
    (hs : src = R.src i) (hd : dst = R.slot (i % R.d)) (hsm : sm = .dma (R.sem (i % R.d)))
    {hsrc : src.view.WordExact} {hdst : dst.view.WordExact} {hsem : (DmaTarget.here dst : DmaTarget nD τ sig .tc .vmem R.s .f32).Typed .hbm sm}
    {k : PUnit → Prog (TpuEff nD τ sig (Elt F) Λ₀ .tc) α} :
    R.St m c i w ⊢ iprop((R.St m c (i + 1) w -∗ WP c (k ⟨⟩) Q)
      -∗ WP c (.op (.enqueueDma src (.here dst) sm hsrc hdst hsem) k) Q) := by
  subst hs hd hsm
  have hN0 : 0 < R.N := by rw [← R.hN (i % R.d)]; exact View.dmaCredit_pos _ R.pos
  have hm (f : (R.slot (i % R.d)).view.ty.Contents (Elt F)) : iprop(((R.slot (i % R.d)).view.loc (c : Thread nD τ) ↦[(R.slot (i % R.d)).view.set]{fullShare}
        ((R.slot (i % R.d)).view.write (Elt F) f (ReadAs.same.apply ((R.src i).view.read (Elt F) (m ((R.src i).view.loc (c : Thread nD τ))))) Finset.univ))
      ∗ ((R.src i).view.loc (c : Thread nD τ) ↦[(R.src i).view.set]{Transfers.shareTokN fullShare i} m ((R.src i).view.loc (c : Thread nD τ))))
      ⊢ R.slotAt c (i % R.d) (· = R.V m c i) := by
    iintro ⟨H, -⟩
    have hc := slotAt_close (c := c) R (i % R.d) (· = R.V m c i) _ (View.read_write_univ f (R.V m c i))
    iapply hc
    iexact H
  unfold St srcTok
  rw [bigSep_next hi]
  iintro ⟨⟨Hs, Hrest⟩, Hsl⟩ Hk
  ihave H := (take_issue m h1) $$ Hsl
  icases H with ⟨⟨Hv, Hsl⟩, Hcl⟩
  ihave Hsl := (slotAt_open R _ _) $$ Hsl
  icases Hsl with ⟨%f, -, Hsl⟩
  iapply (Transfers.wp_dmaLocal EC 𝒱₀ (c : Thread nD τ) none 0 R.N (show (R.slot (i % R.d)).view.amount (.dma (R.sem (i % R.d))) = R.N from R.hN _) hN0 (Finset.Subset.refl _)) $$ [Hs Hsl Hv]
  · isplitl [Hs]; · iexact Hs
    isplitl [Hsl] <;> iassumption
  iintro HF
  iapply Hk
  isplitl [Hrest]; · iexact Hrest
  iapply Hcl
  iapply (Transfers.Flight_mono EC (c : Thread nD τ) (hm f)) $$ HF

/-- The wait for block `i`'s copy. -/
theorem take_wait {i w : ℕ} (h1 : cnt R.d i (w % R.d) = w / R.d + 1) :
    (bigSep (Finset.range R.d) fun k => R.slotSt m c (cnt R.d i k) (cnt R.d w k) k)
      ⊢ (iprop(Transfers.Flight EC (c : Thread nD τ) (.dma (R.sem (w % R.d))) 0 R.N (R.slotAt c (w % R.d) (· = R.V m c w))
        ∗ ((semVal ((c : Thread nD τ), .dma (R.sem (w % R.d))) 0 ∗ R.slotAt c (w % R.d) (· = R.V m c w))
          -∗ bigSep (Finset.range R.d) fun k => R.slotSt m c (cnt R.d i k) (cnt R.d (w + 1) k) k)) : sProp 𝕄) := by
  have hlt : w % R.d < R.d := Nat.mod_lt _ (by have := R.hd; omega)
  have hup := bigSep_upd (s := Finset.range R.d) (Φ := fun k => R.slotSt m c (cnt R.d i k) (cnt R.d w k) k)
    (Ψ := fun k => R.slotSt m c (cnt R.d i k) (cnt R.d (w + 1) k) k) (w % R.d) (Finset.mem_range.mpr hlt)
    (fun j hj hne => by rw [cntd_other R.hd (Finset.mem_range.mp hj) hne.symm])
  have e1 : R.slotSt m c (cnt R.d i (w % R.d)) (cnt R.d w (w % R.d)) (w % R.d)
      = Transfers.Flight EC (c : Thread nD τ) (.dma (R.sem (w % R.d))) 0 R.N (R.slotAt c (w % R.d) (· = R.V m c w)) := by
    unfold slotSt; rw [cntd_self R.hd rfl, h1, if_pos (Nat.lt_succ_self _), Nat.div_add_mod]
  have e2 : R.slotSt m c (cnt R.d i (w % R.d)) (cnt R.d (w + 1) (w % R.d)) (w % R.d)
      = iprop(semVal ((c : Thread nD τ), .dma (R.sem (w % R.d))) 0 ∗ R.slotAt c (w % R.d) fun X => 0 < w / R.d + 1 → X = R.V m c w) := by
    unfold slotSt; rw [cntd_next R.hd rfl, h1, if_neg (Nat.lt_irrefl _), Nat.add_sub_cancel, Nat.div_add_mod]
  have e3 : (fun X : R.s.Idx → Elt F .f32 => 0 < w / R.d + 1 → X = R.V m c w) = (· = R.V m c w) := by
    funext X; exact propext ⟨fun h => h (Nat.succ_pos _), fun h _ => h⟩
  rw [e1, e2, e3] at hup
  exact hup

theorem wait {α : Type} {Q : α → sProp 𝕄} {K : Dev nD × Fin 33 → ℕ} {n i w : ℕ} (h1 : cnt R.d i (w % R.d) = w / R.d + 1)
    {srcw : Memref sig .tc .hbm R.s .f32} {dst : Memref sig .tc .vmem R.s .f32} {sm : DmaSem sig}
    (hd : dst = R.slot (w % R.d)) (hsm : sm = R.sem (w % R.d))
    {hsrc : srcw.view.WordExact} {hdst : dst.view.WordExact}
    {k : PUnit → Prog (TpuEff nD τ sig (Elt F) Λ₀ .tc) α} :
    iprop(records m ρ K ∗ Ow c n ∗ R.St m c i w) ⊢ iprop((Ow c n ∗ R.St m c i (w + 1) -∗ WP c (k ⟨⟩) Q)
      -∗ WP c (.op (.waitDma2 sm srcw dst hsrc hdst) k) Q) := by
  subst hd hsm
  have hl : lv ((c : Thread nD τ), .dma (R.sem (w % R.d))) 0 ≤ n / 8 := by unfold lv; rw [R.hlow]; exact Nat.zero_le _
  unfold St Ow
  iintro ⟨Hr, ⟨%W, HO⟩, Hs, Hsl⟩ Hk
  ihave H := (take_wait m h1) $$ Hsl
  icases H with ⟨HF, Hcl⟩
  ihave Hl := (rec_lev m ρ K) $$ Hr
  ihave Hm := (mayWait c (.dma (R.sem (w % R.d))) 0 n (by decide) hl) $$ Hl
  iapply (Transfers.wp_waitLocalO EC 𝒱₀ (c : Thread nD τ) none 0 (R.hN (w % R.d))) $$ [HF HO Hm]
  · isplitl [HF]; · iexact HF
    isplitl [HO] <;> iassumption
  iintro ⟨HD, Hv, HO⟩
  iapply Hk
  isplitl [HO]
  · iexists _; iexact HO
  isplitl [Hs]; · iexact Hs
  iapply Hcl
  isplitl [Hv] <;> iassumption

/-- Block `j` is read out of its slot, its copy waited for and no later one begun there. -/
theorem take_load {i w j : ℕ} (h1 : cnt R.d i (j % R.d) = j / R.d + 1) (h2 : cnt R.d w (j % R.d) = j / R.d + 1) :
    (bigSep (Finset.range R.d) fun k => R.slotSt m c (cnt R.d i k) (cnt R.d w k) k)
      ⊢ (iprop(R.slotAt c (j % R.d) (· = R.V m c j) ∗ (R.slotAt c (j % R.d) (· = R.V m c j)
          -∗ bigSep (Finset.range R.d) fun k => R.slotSt m c (cnt R.d i k) (cnt R.d w k) k)) : sProp 𝕄) := by
  have hlt : j % R.d < R.d := Nat.mod_lt _ (by have := R.hd; omega)
  have hup := bigSep_upd (s := Finset.range R.d) (Φ := fun k => R.slotSt m c (cnt R.d i k) (cnt R.d w k) k)
    (Ψ := fun k => R.slotSt m c (cnt R.d i k) (cnt R.d w k) k) (j % R.d) (Finset.mem_range.mpr hlt) (fun _ _ _ => rfl)
  have e2 : R.slotSt m c (cnt R.d i (j % R.d)) (cnt R.d w (j % R.d)) (j % R.d)
      = iprop(semVal ((c : Thread nD τ), .dma (R.sem (j % R.d))) 0 ∗ R.slotAt c (j % R.d) fun X => 0 < j / R.d + 1 → X = R.V m c j) := by
    unfold slotSt; rw [h1, h2, if_neg (Nat.lt_irrefl _), Nat.add_sub_cancel, Nat.div_add_mod]
  have e3 : (fun X : R.s.Idx → Elt F .f32 => 0 < j / R.d + 1 → X = R.V m c j) = (· = R.V m c j) := by
    funext X; exact propext ⟨fun h => h (Nat.succ_pos _), fun h _ => h⟩
  rw [e2, e3] at hup
  iintro H
  ihave H := hup $$ H
  icases H with ⟨⟨Hv, H⟩, Hcl⟩
  isplitl [H]; · iexact H
  iintro H
  iapply Hcl
  isplitl [Hv] <;> iassumption

end Ring

end Cert.Mlp

end
-- ==== Proof.Peers.lean ====
/-
# 01_k — the exchange with one peer

What device `c` holds for its exchange with `q ≠ c`: `s` phases begun (the signal is phase 0), `w` landings waited for,
`v` phases whose own copy has been waited for.
-/
module

public import proofs.«01_k».proof.Proof.State

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The duties of phase `φ` towards `q`. -/
def tok (c q : Dev nD) (φ : ℕ) : sProp 𝕄 :=
  if φ = 0 then dutyTok ER (barCell q) 0 c
  else iprop(dutyTok ER (rcell (par φ) c q) (rnd φ) c ∗ dutyTok ER (scell (par φ) q c) (rnd φ) q)

def credR (c q : Dev nD) (φ : ℕ) : sProp 𝕄 := cred (tallyAt (rcell (par φ) q c) (rnd φ) N)

/-- The landing slots in hand, and what `q` gave for the next copy. -/
def Hold (c q : Dev nD) (s w : ℕ) : sProp 𝕄 :=
  iprop((if s = 0 then anyAt c (slotM false q) else iprop(emp))
    ∗ (if s ≤ 1 then anyAt c (slotM true q) else iprop(emp))
    ∗ (if s = w ∧ 0 < w then feed (w - 1) c q else iprop(emp))
    ∗ (if s = w ∧ 1 < w then iprop(isAt c (slotM (par (w - 1)) q) (val m ρ (w - 1) q c) ∗ reached ER (rcell (par (w + 1)) q c) (w / 2))
        else iprop(emp))
    ∗ (if s = 7 then anyAt c (slotM false q) else iprop(emp)))

def PosR (c q : Dev nD) (w : ℕ) : sProp 𝕄 :=
  iprop(atPos ER (rcell (par w) q c) (rnd w) ∅ 0 ∗ atPos ER (rcell (par (w + 1)) q c) (rnd (w + 1)) ∅ 0)
def PosS (c q : Dev nD) (v : ℕ) : sProp 𝕄 :=
  iprop((atPos ER (scell (par v) q c) (rnd v) ∅ 0 ∗ reached ER (scell (par v) q c) (rnd v))
    ∗ (atPos ER (scell (par (v + 1)) q c) (rnd (v + 1)) ∅ 0 ∗ reached ER (scell (par (v + 1)) q c) (rnd (v + 1))))

def Peer (c q : Dev nD) (s w v : ℕ) : sProp 𝕄 :=
  iprop((bigSep (Finset.Ico s 7) fun φ => tok c q φ) ∗ (bigSep (Finset.Ico (max w 1) 7) fun φ => credR c q φ)
    ∗ (if v < s then cred (tallyAt (scell (par v) q c) (rnd v) N) else iprop(emp))
    ∗ Hold m ρ c q s w ∗ PosR c q (max w 1) ∗ PosS c q v)

theorem par_two (φ : ℕ) : par (φ + 2) = par φ := by
  unfold par; congr 1; simp only [Nat.add_mod_right]
theorem rnd_two {φ : ℕ} (h : 1 ≤ φ) : rnd (φ + 2) = rnd φ + 1 := by unfold rnd; omega

variable {m ρ} {K : Dev nD × Fin 33 → ℕ} {c q : Dev nD}

theorem par1 : par 1 = false := rfl
theorem par2 : par 2 = true := rfl
theorem par3 : par 3 = false := rfl
theorem par4 : par 4 = true := rfl
theorem par5 : par 5 = false := rfl
theorem par6 : par 6 = true := rfl
theorem par7 : par 7 = false := rfl

theorem isAt_any (M : Memref sig .tc .vmem S64x256 .bf16) (X : S64x256.Idx → Elt F .bf16) : isAt c M X ⊢ (anyAt c M : sProp 𝕄) := by
  unfold isAt anyAt ownsSat
  iintro ⟨%f, -, H⟩
  iexists f
  isplitr
  · ipureintro; trivial
  · iexact H

theorem peer_signal {v : ℕ} (hv : 0 < v) :
    iprop(records m ρ K ∗ Peer m ρ c q 0 0 v) ⊢ iprop(dutyTok ER (barCell q) 0 c ∗ feed 0 q c ∗ Peer m ρ c q 1 0 v) := by
  unfold Peer Hold
  rw [bigSep_next (by decide : 0 < 7), if_neg (by omega : ¬ v < 0), if_neg (by omega : ¬ v < 1)]
  unfold feed
  simp only [tok, if_true, reduceIte, Nat.zero_add, Nat.zero_div, Nat.zero_le, le_refl, one_ne_zero, Nat.reduceEqDiff, Nat.reduceLT, lt_irrefl, and_false, zero_ne_one, false_and, par1]
  iintro ⟨Hr, ⟨Ht, Hts⟩, Hc, -, ⟨H1, H2, -⟩, Hp, Hq⟩
  ihave Hre := (reached_r m ρ K false q c) $$ Hr
  isplitl [Ht]; · iexact Ht
  isplitl [H1 Hre]
  · isplitl [H1] <;> iassumption
  iframe
  isplitl []; · iempintro
  isplitl [] <;> iempintro

theorem peer_bar {v : ℕ} : iprop(Peer m ρ c q 1 0 v ∗ feed 0 c q) ⊢ Peer m ρ c q 1 1 v := by
  unfold Peer Hold
  simp only [reduceIte, le_refl, one_ne_zero, Nat.reduceEqDiff, Nat.reduceLT, lt_irrefl, and_false, zero_ne_one, false_and, Nat.zero_lt_one, and_self, Nat.sub_self]
  rw [show max 0 1 = 1 from rfl, show max 1 1 = 1 from rfl]
  iintro ⟨⟨Ht, Hc, Hs, ⟨-, H2, -⟩, Hp, Hq⟩, Hf⟩
  iframe
  isplitl [] <;> iempintro

theorem hold_send {φ : ℕ} (h1 : 1 ≤ φ) (h7 : φ < 7) :
    iprop(records m ρ K ∗ Hold m ρ c q φ φ) ⊢ iprop(feed (φ - 1) c q ∗ feed φ q c ∗ Hold m ρ c q (φ + 1) φ) := by
  obtain rfl | rfl | rfl | rfl | rfl | rfl : φ = 1 ∨ φ = 2 ∨ φ = 3 ∨ φ = 4 ∨ φ = 5 ∨ φ = 6 := by omega
  all_goals
    unfold Hold feed
    simp only [reduceIte, le_refl, one_ne_zero, OfNat.ofNat_ne_zero, Nat.reduceAdd, Nat.reduceSub, Nat.reduceDiv, Nat.reduceEqDiff, Nat.reduceLT,
      Nat.reduceLeDiff, lt_irrefl, and_false, zero_ne_one, false_and, and_self, and_true, true_and, Nat.zero_lt_one, Nat.sub_self, Nat.zero_add, Nat.zero_div,
      par1, par2, par3, par4, par5, par6, par7, OfNat.ofNat_eq_ofNat, Nat.one_lt_ofNat, Nat.ofNat_pos]
    iintro ⟨Hr, Ha, H2, Hf, Hs, Hz⟩
    isplitl [Hf]; · iexact Hf
  · isplitl [Hr H2]
    · isplitl [H2]; · iexact H2
      iapply (reached_r m ρ K true q c) $$ Hr
    iframe
    repeat (isplitl []; · iempintro)
    try iempintro
  all_goals
    icases Hs with ⟨Hs, Hre⟩
    ihave Hs := (isAt_any _ _) $$ Hs
  iterate 4
    isplitl [Hs Hre]
    · isplitl [Hs] <;> iassumption
    iframe
    repeat (isplitl []; · iempintro)
    try iempintro
  · iframe
    repeat (isplitl []; · iempintro)
    try iempintro

theorem peer_send {φ : ℕ} (h1 : 1 ≤ φ) (h7 : φ < 7) :
    iprop(records m ρ K ∗ Peer m ρ c q φ φ φ) ⊢ iprop(dutyTok ER (rcell (par φ) c q) (rnd φ) c ∗ dutyTok ER (scell (par φ) q c) (rnd φ) q
      ∗ reached ER (scell (par φ) q c) (rnd φ) ∗ feed (φ - 1) c q ∗ feed φ q c
      ∗ (cred (tallyAt (scell (par φ) q c) (rnd φ) N) -∗ Peer m ρ c q (φ + 1) φ φ)) := by
  unfold Peer PosS
  rw [bigSep_next h7, if_neg (lt_irrefl _), if_pos (Nat.lt_succ_self φ)]
  have et : tok (F := F) c q φ = iprop(dutyTok ER (rcell (par φ) c q) (rnd φ) c ∗ dutyTok ER (scell (par φ) q c) (rnd φ) q) := if_neg (by omega)
  rw [et]
  iintro ⟨Hr, ⟨⟨Ht1, Ht2⟩, Ht⟩, Hc, -, Hh, Hp, ⟨Hq1, #Hre⟩, Hq2⟩
  ihave H := (hold_send (m := m) (ρ := ρ) (K := K) (c := c) (q := q) h1 h7) $$ [Hr Hh]
  · isplitl [Hr] <;> iassumption
  icases H with ⟨H1, H2, Hh⟩
  isplitl [Ht1]; · iexact Ht1
  isplitl [Ht2]; · iexact Ht2
  isplitl []; · iexact Hre
  isplitl [H1]; · iexact H1
  isplitl [H2]; · iexact H2
  iintro Hcr
  iframe
  iexact Hre

theorem peer_recv {φ v : ℕ} (h1 : 1 ≤ φ) (h7 : φ < 7) :
    Peer m ρ c q (φ + 1) φ v ⊢ iprop(cred (tallyAt (rcell (par φ) q c) (rnd φ) N) ∗ atPos ER (rcell (par φ) q c) (rnd φ) ∅ 0
      ∗ (atPos ER (rcell (par φ) q c) (rnd φ + 1) ∅ 0 ∗ reached ER (rcell (par φ) q c) (rnd φ + 1) ∗ rPay m ρ (par φ) (rnd φ) c q
        -∗ Peer m ρ c q (φ + 1) (φ + 1) v)) := by
  unfold Peer PosR rPay Hold
  rw [max_eq_left h1, max_eq_left (by omega : 1 ≤ φ + 1), bigSep_next h7, phase_rnd (by omega), if_neg (by omega : ¬ φ + 1 = 0), if_neg (by omega : ¬ φ + 1 ≤ 1),
    if_neg (by omega : ¬ (φ + 1 = φ ∧ 0 < φ)), if_neg (by omega : ¬ (φ + 1 = φ ∧ 1 < φ)), if_pos (by omega : φ + 1 = φ + 1 ∧ 0 < φ + 1),
    if_pos (by omega : φ + 1 = φ + 1 ∧ 1 < φ + 1), show φ + 1 + 1 = φ + 2 from rfl, par_two, rnd_two h1, Nat.add_sub_cancel,
    show (φ + 1) / 2 = rnd φ + 1 by unfold rnd; omega]
  unfold credR
  iintro ⟨Ht, ⟨Hc, Hcs⟩, Hs, ⟨-, -, -, -, H7⟩, ⟨Hp1, Hp2⟩, Hq⟩
  isplitl [Hc]; · iexact Hc
  isplitl [Hp1]; · iexact Hp1
  iintro ⟨Ha, Hre, Hv, Hf⟩
  iframe

theorem peer_load {φ v : ℕ} (h1 : 1 ≤ φ) :
    Peer m ρ c q (φ + 1) (φ + 1) v ⊢ iprop(isAt c (slotM (par φ) q) (val m ρ φ q c)
      ∗ (isAt c (slotM (par φ) q) (val m ρ φ q c) -∗ Peer m ρ c q (φ + 1) (φ + 1) v)) := by
  unfold Peer Hold
  rw [if_pos (by omega : φ + 1 = φ + 1 ∧ 1 < φ + 1), Nat.add_sub_cancel]
  iintro ⟨Ht, Hc, Hs, ⟨Ha, Hb, Hd, ⟨Hv, Hre⟩, H7⟩, Hp, Hq⟩
  isplitl [Hv]; · iexact Hv
  iintro Hv
  iframe

theorem peer_sdone {φ w : ℕ} (h1 : 1 ≤ φ) :
    Peer m ρ c q (φ + 1) w φ ⊢ iprop(cred (tallyAt (scell (par φ) q c) (rnd φ) N) ∗ atPos ER (scell (par φ) q c) (rnd φ) ∅ 0
      ∗ (atPos ER (scell (par φ) q c) (rnd φ + 1) ∅ 0 ∗ reached ER (scell (par φ) q c) (rnd φ + 1) -∗ Peer m ρ c q (φ + 1) w (φ + 1))) := by
  unfold Peer PosS
  rw [if_pos (Nat.lt_succ_self φ), if_neg (lt_irrefl _), show φ + 1 + 1 = φ + 2 from rfl, par_two, rnd_two h1]
  iintro ⟨Ht, Hc, Hs, Hh, Hp, ⟨Hq1, -⟩, Hq2⟩
  isplitl [Hs]; · iexact Hs
  isplitl [Hq1]; · iexact Hq1
  iintro ⟨Ha, Hre⟩
  iframe

end Cert.Mlp

end
-- ==== Proof.Mem.lean ====
/-
# 01_k — loads and stores of the kernel's buffers

Through a slot of a buffer of slots, and through a column block of a matrix.
-/
module

public import proofs.«01_k».proof.Proof.State

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable {c : Dev nD} {α : Type} {sp : Space}

/-- A load whose value is not used. -/
theorem load_any {cs : CoreSpace} {sh : Shape} {e : EltTy} {M : Memref sig .tc cs sh e} {r : Rect sh} {hl : M.view.LoadsAt r.toLoadRect}
    {q : PosShare TreeShare} {Φ : (sh.Idx → Elt F e) → Prop} {Q : α → sProp 𝕄}
    {k : (r.shape.Idx → Elt F e) → Prog (TpuEff nD τ sig (Elt F) Λ₀ .tc) α} :
    ownsSat (c : Thread nD τ) M q Φ ⊢ iprop((∀ x, ownsSat (c : Thread nD τ) M q Φ -∗ WP c (k x) Q)
      -∗ WP c (.op (.load M r.toLoadRect hl) k) Q) := by
  unfold ownsSat
  iintro ⟨%f, %hf, H⟩ Hk
  iapply (wp_load_rect 𝒱₀ (c : Thread nD τ) none Set.univ (m := M) (View.set_slice_subset M.view r)) $$ H
  iintro H
  iapply Hk
  iexists f
  isplitr
  · ipureintro; exact hf
  · iexact H

/-- A load of a slot. -/
theorem load_slot {cs : CoreSpace} {sh s2 : Shape} {e : EltTy} {M : Memref sig .tc cs sh e} {r : Rect sh} {hl : M.view.LoadsAt r.toLoadRect}
    (hr : ∀ a, r.stride a = 1) (hsq : r.shape.Squeezes s2) (hc : s2.ShapeCasts r.shape)
    {q : PosShare TreeShare} {X : s2.Idx → Elt F e} {Q : α → sProp 𝕄}
    {k : (r.shape.Idx → Elt F e) → Prog (TpuEff nD τ sig (Elt F) Λ₀ .tc) α} :
    ownsSat (c : Thread nD τ) ((M.slice r hr).squeeze s2 hsq) q (· = X)
      ⊢ iprop((ownsSat (c : Thread nD τ) ((M.slice r hr).squeeze s2 hsq) q (· = X) -∗ WP c (k (shapeCast r.shape X hc)) Q)
      -∗ WP c (.op (.load M r.toLoadRect hl) k) Q) := by
  unfold ownsSat
  iintro ⟨%f, %hf, H⟩ Hk
  have hs : (M.access r).set ⊆ ((M.slice r hr).squeeze s2 hsq).view.set := by rw [slot_set]
  subst hf
  rw [← slot_read M r hr hsq hc f]
  iapply (wp_load_rect 𝒱₀ (c : Thread nD τ) none Set.univ (m := M) hs) $$ H
  iintro H
  iapply Hk
  iexists f
  isplitr
  · ipureintro; rfl
  · iexact H

/-- A load of a slot whose value is not used. -/
theorem load_slot_any {cs : CoreSpace} {sh s2 : Shape} {e : EltTy} {M : Memref sig .tc cs sh e} {r : Rect sh} {hl : M.view.LoadsAt r.toLoadRect}
    (hr : ∀ a, r.stride a = 1) (hsq : r.shape.Squeezes s2)
    {q : PosShare TreeShare} {Φ : (s2.Idx → Elt F e) → Prop} {Q : α → sProp 𝕄}
    {k : (r.shape.Idx → Elt F e) → Prog (TpuEff nD τ sig (Elt F) Λ₀ .tc) α} :
    ownsSat (c : Thread nD τ) ((M.slice r hr).squeeze s2 hsq) q Φ
      ⊢ iprop((∀ x, ownsSat (c : Thread nD τ) ((M.slice r hr).squeeze s2 hsq) q Φ -∗ WP c (k x) Q)
      -∗ WP c (.op (.load M r.toLoadRect hl) k) Q) := by
  unfold ownsSat
  iintro ⟨%f, %hf, H⟩ Hk
  have hs : (M.access r).set ⊆ ((M.slice r hr).squeeze s2 hsq).view.set := by rw [slot_set]
  iapply (wp_load_rect 𝒱₀ (c : Thread nD τ) none Set.univ (m := M) hs) $$ H
  iintro H
  iapply Hk
  iexists f
  isplitr
  · ipureintro; exact hf
  · iexact H

/-- A store of a slot. -/
theorem store_slot {cs : CoreSpace} {sh s2 : Shape} {e : EltTy} {M : Memref sig .tc cs sh e} {r : Rect sh}
    {hx : (M.access r).Stores Finset.univ} {hm : (Finset.univ : Finset r.shape.Idx) = Finset.univ ∨ ∀ a, r.stride a = 1}
    (hr : ∀ a, r.stride a = 1) (hsq : r.shape.Squeezes s2) (hc : s2.ShapeCasts r.shape)
    {Φ : (s2.Idx → Elt F e) → Prop} {X : s2.Idx → Elt F e} {w : r.shape.Idx → Elt F e} (hw : w = shapeCast r.shape X hc) {Q : α → sProp 𝕄}
    {k : PUnit → Prog (TpuEff nD τ sig (Elt F) Λ₀ .tc) α} :
    ownsSat (c : Thread nD τ) ((M.slice r hr).squeeze s2 hsq) fullShare Φ
      ⊢ iprop((ownsSat (c : Thread nD τ) ((M.slice r hr).squeeze s2 hsq) fullShare (· = X) -∗ WP c (k ⟨⟩) Q)
      -∗ WP c (.op (.store M r w Finset.univ hx hm) k) Q) := by
  subst hw
  unfold ownsSat
  iintro ⟨%f, %hf, H⟩ Hk
  have hs : (M.access r).setOn Finset.univ ⊆ ((M.slice r hr).squeeze s2 hsq).view.set := by rw [slot_set]; exact Finset.Subset.refl _
  iapply (wp_store 𝒱₀ (c : Thread nD τ) none Set.univ (m := M) hs) $$ H
  iintro H
  iapply Hk
  iexists _
  isplitr
  rotate_left
  · iexact H
  · ipureintro; exact slot_write M r hr hsq hc f X

/-- A store through a rectangle of a memref: its elements are the stored ones, the others as they were. -/
theorem store_rect {cs : CoreSpace} {sh : Shape} {e : EltTy} {M : Memref sig .tc cs sh e} {r : Rect sh}
    {hx : (M.access r).Stores Finset.univ} {hm : (Finset.univ : Finset r.shape.Idx) = Finset.univ ∨ ∀ a, r.stride a = 1}
    {Φ Ψ : (sh.Idx → Elt F e) → Prop} {w : r.shape.Idx → Elt F e}
    (hΨ : ∀ X Y : sh.Idx → Elt F e, Φ X → (∀ j, Y (r.emb j) = w j) → (∀ i, (∀ j, r.emb j ≠ i) → Y i = X i) → Ψ Y) {Q : α → sProp 𝕄}
    {k : PUnit → Prog (TpuEff nD τ sig (Elt F) Λ₀ .tc) α} :
    ownsSat (c : Thread nD τ) M fullShare Φ
      ⊢ iprop((ownsSat (c : Thread nD τ) M fullShare Ψ -∗ WP c (k ⟨⟩) Q)
      -∗ WP c (.op (.store M r w Finset.univ hx hm) k) Q) := by
  unfold ownsSat
  iintro ⟨%f, %hf, H⟩ Hk
  iapply (wp_store 𝒱₀ (c : Thread nD τ) none Set.univ (m := M) (View.set_slice_subset M.view r)) $$ H
  iintro H
  iapply Hk
  iexists _
  isplitr
  rotate_left
  · iexact H
  · ipureintro
    refine hΨ _ _ hf (fun j => View.read_slice_write_emb r f w (Finset.mem_univ j)) fun i hi => View.read_slice_write_of_not_mem r f w _ ?_
    rw [Finset.mem_map]
    rintro ⟨j, -, hj⟩
    exact hi j hj

/-- A load through a rectangle that covers the memref in place. -/
theorem load_full {cs : CoreSpace} {sh : Shape} {e : EltTy} {M : Memref sig .tc cs sh e} {off : Fin sh.rank → ℕ} {inb : ∀ a, off a + sh.size a ≤ sh.size a}
    (h0 : off = fun _ => 0) {hl : M.view.LoadsAt (Rect.unit off sh.size inb).toLoadRect}
    {q : PosShare TreeShare} {X : sh.Idx → Elt F e} {Q : α → sProp 𝕄} {k : (sh.Idx → Elt F e) → Prog (TpuEff nD τ sig (Elt F) Λ₀ .tc) α} :
    ownsSat (c : Thread nD τ) M q (· = X) ⊢ iprop((ownsSat (c : Thread nD τ) M q (· = X) -∗ WP c (k X) Q)
      -∗ WP c (.op (.load M (Rect.unit off sh.size inb).toLoadRect hl) k) Q) := by
  subst h0
  have key (f : M.view.ty.Contents (Elt F)) : (M.access (Rect.unit (fun _ => 0) sh.size inb)).read (Elt F) f = M.view.read (Elt F) f := by
    funext i
    show M.view.read (Elt F) f ((Rect.unit (fun _ => 0) sh.size inb).emb i) = _
    congr 1; funext a; apply Fin.ext
    rw [Rect.emb_apply]
    show 0 + 1 * _ = _
    omega
  unfold ownsSat
  iintro ⟨%f, %hf, H⟩ Hk
  subst hf
  rw [← key f]
  iapply (wp_load_rect 𝒱₀ (c : Thread nD τ) none Set.univ (m := M) (r := Rect.unit (fun _ => 0) sh.size inb) (View.set_slice_subset M.view _)) $$ H
  iintro H
  iapply Hk
  iexists f
  isplitr
  · ipureintro; exact (key f).symm
  · iexact H

end Cert.Mlp

end
-- ==== Proof.Comm.lean ====
/-
# 01_k — the statements of the exchange, one peer at a time
-/
module

public import proofs.«01_k».proof.Proof.Peers
public import proofs.«01_k».proof.Proof.Mem

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable {m ρ} {K : Dev nD × Fin 33 → ℕ} {c q : Dev nD} {α : Type}

theorem feed_send {φ : ℕ} (h1 : 1 ≤ φ) (h7 : φ < 7) :
    feed (F := F) (φ - 1) c q = iprop(anyAt q (slotM (par φ) c) ∗ reached ER (rcell (par φ) c q) (rnd φ)) := by
  unfold feed
  rw [if_pos (by omega), Nat.sub_add_cancel h1]; rfl

theorem signal_core {n v : ℕ} {Q : α → sProp 𝕄} (hn : n < 8) (hv : 0 < v) (hq : peer n = q) (hqc : q ≠ c)
    {sm : Sem sig} (hsm : sm = barS) {k : PUnit → Prog (TpuEff nD τ sig (Elt F) Λ₀ .tc) α} :
    iprop(records m ρ K ∗ Ow c n ∗ Peer m ρ c q 0 0 v) ⊢ iprop((Ow c (n + 1) ∗ Peer m ρ c q 1 0 v -∗ WP c (k ⟨⟩) Q)
      -∗ WP c (bind (semSignalWord q sm 1#32) k) Q) := by
  subst hsm
  have hO : Owe c n = Owe c (n + 1) + tallyAt (barCell q) 0 1 := by
    rw [Owe_step (by omega), tly, hq, if_neg hqc, pcell, if_pos hn, pamt, if_pos hn, hq, show n / 8 = 0 by omega]; rfl
  have hd : c ∈ (Rd (F := F) m ρ).duties (barCell q) 0 := by rw [duties_bar]; exact Finset.mem_erase.mpr ⟨hqc.symm, Finset.mem_univ _⟩
  unfold Ow
  iintro ⟨#Hr, ⟨%W, HO⟩, HP⟩ Hk
  ihave H := (peer_signal (m := m) (ρ := ρ) (K := K) (c := c) (q := q) hv) $$ [HP]
  · isplitr
    · iexact Hr
    · iexact HP
  icases H with ⟨Ht, Hf, HP⟩
  ihave Hi := (inv_bar m ρ K q) $$ Hr
  ihave Hre := (reached_bar m ρ K q) $$ Hr
  iapply (Rounds.wp_signal 𝒱₀ ER (Rd m ρ) (c : Thread nD τ) none (dst := (q : Thread nD τ)) (κ := K (q, 0)) (d := c) hd
    (amount_bar m ρ q 0 c) 0 (Owe c (n + 1)) hO) $$ [Hi HO Ht Hf Hre]
  · isplitl [Hi]; · iexact Hi
    isplitl [HO]; · iexact HO
    isplitl [Ht]; · iexact Ht
    isplitl [Hf]
    · rw [payload_bar]; iexact Hf
    · iexact Hre
  iintro HO
  iapply Hk
  isplitl [HO]
  · iexists W; iexact HO
  · iexact HP

theorem send_core {n φ : ℕ} {Q : α → sProp 𝕄} (h1 : 1 ≤ φ) (h7 : φ < 7) (hn : n / 8 = φ) (hq : peer n = q) (hqc : q ≠ c)
    {src dst : Memref sig .tc .vmem S64x256 .bf16} {sS sR : SemLoc sig} {sh : PosShare TreeShare}
    (hdst : dst = slotM (par φ) c) (hsS : sS = .dma (ssem (par φ) q)) (hsR : sR = .dma (rsem (par φ) c))
    (hsp : ownsSat (c : Thread nD τ) src sh (· = val m ρ φ c q) ⊢ sPay m ρ (par φ) (rnd φ) c q)
    {hsc : dst.view.ref.isScScratch = false} {hsrc : src.view.WordExact} {hdw : dst.view.WordExact}
    {hsem : (DmaTarget.remote (Dev.tc q) dst sS hsc : DmaTarget nD τ sig .tc .vmem S64x256 .bf16).Typed .vmem sR}
    {k : PUnit → Prog (TpuEff nD τ sig (Elt F) Λ₀ .tc) α} :
    iprop(records m ρ K ∗ Ow c n ∗ Peer m ρ c q φ φ φ ∗ ownsSat (c : Thread nD τ) src sh (· = val m ρ φ c q))
      ⊢ iprop((Ow c (n + 1) ∗ Peer m ρ c q (φ + 1) φ φ -∗ WP c (k ⟨⟩) Q)
      -∗ WP c (.op (.enqueueDma src (.remote (Dev.tc q) dst sS hsc) sR hsrc hdw hsem) k) Q) := by
  subst hdst hsS hsR
  have hr3 : rnd φ < 3 := by unfold rnd; omega
  have hO : Owe c n = Owe c (n + 1) + tallyAt (rcell (par φ) c q) (rnd φ) N := by
    rw [Owe_step (by omega), tly, hq, if_neg hqc, pcell, if_neg (by omega), pamt, if_neg (by omega), hn, hq]
  have hd1 : q ∈ (Rd (F := F) m ρ).duties (scell (par φ) q c) (rnd φ) := by rw [duties_s m ρ c hr3 hqc]; exact Finset.mem_singleton_self _
  have hd2 : c ∈ (Rd (F := F) m ρ).duties (rcell (par φ) c q) (rnd φ) := by rw [duties_r m ρ q hr3 hqc.symm]; exact Finset.mem_singleton_self _
  have hN : (slotM (par φ) c).view.amount (.dma (rsem (par φ) c)) = N := by cases par φ <;> rfl
  have hp1 (fs : src.view.ty.Contents (Elt F)) (hfs : src.view.read (Elt F) fs = val m ρ φ c q) :
      (src.view.loc (c : Thread nD τ) ↦[src.view.set]{sh} fs) ⊢ (Rd (F := F) m ρ).payload (scell (par φ) q c) (rnd φ) q := by
    rw [payload_s]
    exact (ownsSat_of (c : Thread nD τ) src sh hfs).trans hsp
  have hp2 (fs : src.view.ty.Contents (Elt F)) (hfs : src.view.read (Elt F) fs = val m ρ φ c q) (fd : (slotM (par φ) c).view.ty.Contents (Elt F)) :
      iprop(((slotM (par φ) c).view.loc (q : Thread nD τ) ↦[(slotM (par φ) c).view.set]{fullShare}
        ((slotM (par φ) c).view.write (Elt F) fd (src.view.read (Elt F) fs) Finset.univ)) ∗ feed φ q c)
      ⊢ (Rd (F := F) m ρ).payload (rcell (par φ) c q) (rnd φ) c := by
    rw [payload_r, rPay, phase_rnd (by omega)]
    refine sep_mono_left (ownsSat_of (q : Thread nD τ) (slotM (par φ) c) fullShare ?_)
    rw [View.read_write_univ, hfs]
  have hop : ownsSat (c : Thread nD τ) src sh (· = val m ρ φ c q)
      ⊢ (iprop(∃ f, ⌜src.view.read (Elt F) f = val m ρ φ c q⌝ ∗ (src.view.loc (c : Thread nD τ) ↦[src.view.set]{sh} f)) : sProp 𝕄) := by
    unfold ownsSat; exact Entails.refl _
  have hoq : feed (F := F) (φ - 1) c q ⊢ iprop((∃ f, ((slotM (par φ) c).view.loc (q : Thread nD τ) ↦[(slotM (par φ) c).view.set]{fullShare} f))
      ∗ reached ER (rcell (par φ) c q) (rnd φ)) := by
    rw [feed_send h1 h7]; unfold anyAt ownsSat
    iintro ⟨⟨%f, -, H⟩, Hre⟩
    isplitl [H]
    · iexists f; iexact H
    · iexact Hre
  unfold Ow
  iintro ⟨#Hr, ⟨%W, HO⟩, HP, Hsrc⟩ Hk
  ihave H := (peer_send (m := m) (ρ := ρ) (K := K) (c := c) (q := q) h1 h7) $$ [HP]
  · isplitr
    · iexact Hr
    · iexact HP
  icases H with ⟨Ht2, Ht1, Hre1, Hfc, Hfq, Hcl⟩
  ihave Hfc := hoq $$ Hfc
  icases Hfc with ⟨⟨%fd, Hd⟩, Hre2⟩
  ihave Hsrc := hop $$ Hsrc
  icases Hsrc with ⟨%fs, %hfs, Hsrc⟩
  ihave Hi1 := (inv_s m ρ K (par φ) q c) $$ Hr
  ihave Hi2 := (inv_r m ρ K (par φ) c q) $$ Hr
  iapply (Rounds.wp_send_pointsTo_with 𝒱₀ ER (Rd m ρ) (c : Thread nD τ) none (κ₁ := K (c, sIx (par φ) q)) (κ₂ := K (q, rIx (par φ) c)) (F := feed φ q c)
    hd1 hd2 (rnd φ) (rnd φ) N hN (amount_s m ρ c (par φ) q (rnd φ) q) (amount_r m ρ q (par φ) c (rnd φ) c) (Owe c (n + 1)) hO
    (hp1 fs hfs) (hp2 fs hfs fd)) $$ [Hi1 Hi2 Hsrc Hd Hfq HO Ht1 Hre1 Ht2 Hre2]
  · isplitl [Hi1]; · iexact Hi1
    isplitl [Hi2]; · iexact Hi2
    isplitl [Hsrc]; · iexact Hsrc
    isplitl [Hd Hfq]
    · isplitl [Hd]; · iexact Hd
      iexact Hfq
    isplitl [HO]; · iexact HO
    isplitl [Ht1]; · iexact Ht1
    isplitl [Hre1]; · iexact Hre1
    isplitl [Ht2] <;> iassumption
  iintro ⟨Hc, HO⟩
  iapply Hk
  isplitl [HO]
  · iexists W; iexact HO
  · iapply Hcl; iexact Hc

theorem recv_core {n φ v : ℕ} {Q : α → sProp 𝕄} (h1 : 1 ≤ φ) (h7 : φ < 7) (hn : φ + 1 ≤ n / 8) (hqc : q ≠ c)
    {s' : Shape} {e' : EltTy} {sp' : Space} {srcw : Memref sig .tc sp' s' e'} {sp : Space} {dstw : Memref sig .tc sp S64x256 .bf16} {sm : DmaSem sig}
    (hsm : sm = rsem (par φ) q) (hN : dstw.view.dmaCredit = N)
    {hsrc : srcw.view.WordExact} {hdw : dstw.view.WordExact} {k : PUnit → Prog (TpuEff nD τ sig (Elt F) Λ₀ .tc) α} :
    iprop(records m ρ K ∗ Ow c n ∗ Peer m ρ c q (φ + 1) φ v)
      ⊢ iprop((Ow c n ∗ Peer m ρ c q (φ + 1) (φ + 1) v -∗ WP c (k ⟨⟩) Q) -∗ WP c (.op (.waitDma2 sm srcw dstw hsrc hdw) k) Q) := by
  subst hsm
  have hr3 : rnd φ < 3 := by unfold rnd; omega
  have hl : lv (rcell (par φ) q c) (rnd φ) ≤ n / 8 := by rw [lv_r, phase_rnd (by omega)]; exact hn
  have hk : 0 + dstw.view.dmaCredit = (Rd (F := F) m ρ).expect (rcell (par φ) q c) (rnd φ) := by rw [expect_r m ρ c hr3 hqc, hN, Nat.zero_add]
  have hw : ∀ K' : PUnit → sProp 𝕄, _ := fun K' => wpE_waitDma2_eq (Ix := ℕ) (Name := ℕ) (U := UU) (Lvl := ℕ) (defs := defs₀ (F := F)) 𝒱₀ (c : Thread nD τ) none Set.univ (sem := rsem (par φ) q) (src := srcw) (dst := dstw) (hsrc := hsrc) (hdst := hdw) K'
  unfold Ow
  iintro ⟨#Hr, ⟨%W, HO⟩, HP⟩ Hk
  ihave H := (peer_recv (m := m) (ρ := ρ) (c := c) (q := q) (v := v) h1 h7) $$ HP
  icases H with ⟨Hc, Ha, Hcl⟩
  ihave Hi := (inv_r m ρ K (par φ) q c) $$ Hr
  ihave Hl := (rec_lev m ρ K) $$ Hr
  ihave Hm := (mayWait c (.dma (rsem (par φ) q)) (rnd φ) n hr3 hl) $$ Hl
  iapply (Rounds.wp_wait_rest_token 𝒱₀ ER (Rd m ρ) (c : Thread nD τ) none (κ := K (c, rIx (par φ) q)) hw (Set.mem_univ _) (rnd φ)
    (O := Owe c n) (W := W) (R := rnd φ) (m := 0) (T := ∅) hk) $$ [Hi Hc HO Hm Ha]
  · isplitl [Hi]; · iexact Hi
    isplitl [Hc]; · rw [hN]; iexact Hc
    isplitl [HO]; · iexact HO
    isplitl [Hm] <;> iassumption
  rw [rest_r m ρ c hr3 hqc]
  iintro ⟨HO, Ha, Hre, Hp⟩
  iapply Hk
  isplitl [HO]
  · iexists _; iexact HO
  · iapply Hcl
    isplitl [Ha]; · iexact Ha
    isplitl [Hre] <;> iassumption

theorem sdone_core {n φ w : ℕ} {Q : α → sProp 𝕄} (h1 : 1 ≤ φ) (h7 : φ < 7) (hqc : q ≠ c)
    {s' : Shape} {e' : EltTy} {sp' : Space} {srcw : Memref sig .tc sp' s' e'} {sp : Space} {dstw : Memref sig .tc sp S64x256 .bf16} {sm : DmaSem sig}
    (hsm : sm = ssem (par φ) q) (hN : dstw.view.dmaCredit = N)
    {hsrc : srcw.view.WordExact} {hdw : dstw.view.WordExact} {k : PUnit → Prog (TpuEff nD τ sig (Elt F) Λ₀ .tc) α} :
    iprop(records m ρ K ∗ Ow c n ∗ Peer m ρ c q (φ + 1) w φ)
      ⊢ iprop((Ow c n ∗ Peer m ρ c q (φ + 1) w (φ + 1) ∗ sPay m ρ (par φ) (rnd φ) c q -∗ WP c (k ⟨⟩) Q)
        -∗ WP c (.op (.waitDma2 sm srcw dstw hsrc hdw) k) Q) := by
  subst hsm
  have hr3 : rnd φ < 3 := by unfold rnd; omega
  have hl : lv (scell (par φ) q c) (rnd φ) ≤ n / 8 := by rw [lv_s]; exact Nat.zero_le _
  have hk : 0 + dstw.view.dmaCredit = (Rd (F := F) m ρ).expect (scell (par φ) q c) (rnd φ) := by rw [expect_s m ρ c hr3 hqc, hN, Nat.zero_add]
  have hw : ∀ K' : PUnit → sProp 𝕄, _ := fun K' => wpE_waitDma2_eq (Ix := ℕ) (Name := ℕ) (U := UU) (Lvl := ℕ) (defs := defs₀ (F := F)) 𝒱₀ (c : Thread nD τ) none Set.univ (sem := ssem (par φ) q) (src := srcw) (dst := dstw) (hsrc := hsrc) (hdst := hdw) K'
  unfold Ow
  iintro ⟨#Hr, ⟨%W, HO⟩, HP⟩ Hk
  ihave H := (peer_sdone (m := m) (ρ := ρ) (c := c) (q := q) (w := w) h1) $$ HP
  icases H with ⟨Hc, Ha, Hcl⟩
  ihave Hi := (inv_s m ρ K (par φ) q c) $$ Hr
  ihave Hl := (rec_lev m ρ K) $$ Hr
  ihave Hm := (mayWait c (.dma (ssem (par φ) q)) (rnd φ) n hr3 hl) $$ Hl
  iapply (Rounds.wp_wait_rest_token 𝒱₀ ER (Rd m ρ) (c : Thread nD τ) none (κ := K (c, sIx (par φ) q)) hw (Set.mem_univ _) (rnd φ)
    (O := Owe c n) (W := W) (R := rnd φ) (m := 0) (T := ∅) hk) $$ [Hi Hc HO Hm Ha]
  · isplitl [Hi]; · iexact Hi
    isplitl [Hc]; · rw [hN]; iexact Hc
    isplitl [HO]; · iexact HO
    isplitl [Hm] <;> iassumption
  rw [rest_s m ρ c hr3 hqc]
  iintro ⟨HO, Ha, Hre, Hp⟩
  iapply Hk
  isplitl [HO]
  · iexists _; iexact HO
  isplitr [Hp]
  · iapply Hcl
    isplitl [Ha] <;> iassumption
  · iexact Hp

end Cert.Mlp

end
-- ==== Proof.Device.lean ====
/-
# 01_k — a device's state between two statements
-/
module

public import proofs.«01_k».proof.Proof.Comm

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The two rings -/

theorem inb5 (k : ℕ) : ∀ a, (![k % 5, 0, 0] : Fin 3 → Nat) a + S1x2048x512.size a ≤ S5x2048x512.size a := by
  have h : k % 5 < 5 := Nat.mod_lt _ (by decide)
  intro a; fin_cases a
  · change k % 5 + 1 ≤ 5; omega
  · exact (by decide : (0 + 2048 : ℕ) ≤ 2048)
  · exact (by decide : (0 + 512 : ℕ) ≤ 512)
theorem inb3 (k : ℕ) : ∀ a, (![k % 3, 0, 0] : Fin 3 → Nat) a + S1x4096x512.size a ≤ S3x4096x512.size a := by
  have h : k % 3 < 3 := Nat.mod_lt _ (by decide)
  intro a; fin_cases a
  · change k % 3 + 1 ≤ 3; omega
  · exact (by decide : (0 + 4096 : ℕ) ≤ 4096)
  · exact (by decide : (0 + 512 : ℕ) ≤ 512)

abbrev wiSlot (k : ℕ) : Memref sig .tc .vmem S2048x512 .f32 :=
  (wiM.slice (Rect.unit (s := S5x2048x512) ![k % 5, 0, 0] S1x2048x512.size (inb5 k)) (fun _ => rfl)).squeeze S2048x512 squeezes_S1x2048x512_S2048x512
abbrev woSlot (k : ℕ) : Memref sig .tc .vmem S4096x512 .f32 :=
  (woM.slice (Rect.unit (s := S3x4096x512) ![k % 3, 0, 0] S1x4096x512.size (inb3 k)) (fun _ => rfl)).squeeze S4096x512 squeezes_S1x4096x512_S4096x512
abbrev wiSem (k : ℕ) : DmaSem sig := ⟨2 + k % 5, by change _ < 42; omega⟩
abbrev woSem (k : ℕ) : DmaSem sig := ⟨7 + k % 3, by change _ < 42; omega⟩

/-- The ring of the first matrices' blocks, -/
abbrev wiR : Ring where
  s := S2048x512
  d := 5
  tot := 24
  hd := .inl rfl
  slot := wiSlot
  sem := wiSem
  src := wiSrc
  pos := by decide
  N := (wiSlot 0).view.dmaCredit
  hN _ := rfl
  hlow k := by
    unfold kind; dsimp only
    rw [if_pos (by omega)]
/-- and of the second matrices'. -/
abbrev woR : Ring where
  s := S4096x512
  d := 3
  tot := 12
  hd := .inr rfl
  slot := woSlot
  sem := woSem
  src := woSrc
  pos := by decide
  N := (woSlot 0).view.dmaCredit
  hN _ := rfl
  hlow k := by
    unfold kind; dsimp only
    rw [if_pos (by omega)]

/-! ## The state -/

/-- The barrier: waited for once `w` is positive. -/
def Bar (c : Dev nD) (w : ℕ) : sProp 𝕄 :=
  if w = 0 then iprop(cred (tallyAt (barCell c) 0 7) ∗ atPos ER (barCell c) 0 ∅ 0) else atPos ER (barCell c) 1 ∅ 0

/-- The dealings with the other devices: `n` sends, `w` landings waited for, `v` own copies waited for, each taken in the
    devices' order, phase by phase. -/
def Prs (c : Dev nD) (n w v : ℕ) : sProp 𝕄 :=
  bigSep (Finset.univ.erase c) fun q => Peer m ρ c q (cnt 8 n q.val) (cnt 8 w q.val) (cnt 8 v q.val)

/-- A copy to `q` of a phase of parity `b` is in flight. -/
def fly (c q : Dev nD) (n v b : ℕ) : Prop := q ≠ c ∧ cnt 8 v q.val < cnt 8 n q.val ∧ cnt 8 v q.val % 2 = b
instance (c q : Dev nD) (n v b : ℕ) : Decidable (fly c q n v b) := by unfold fly; infer_instance

/-- The send buffer's slots not in flight; the first `st` hold the partial product's blocks. -/
def Snd (c : Dev nD) (n v l st : ℕ) : sProp 𝕄 := bigSep Finset.univ fun q =>
  if fly c q n v 1 then iprop(emp) else ownsSat (c : Thread nD τ) (sendM q) fullShare fun X => q.val < st → X = part m ρ l c q

/-- The shares of the all-gather's source not in flight. -/
def AgX (c : Dev nD) (n v : ℕ) (X : S64x256.Idx → Elt F .bf16) : sProp 𝕄 := bigSep Finset.univ fun q =>
  if fly c q n v 0 then iprop(emp) else ownsSat (c : Thread nD τ) agM (shr q) (· = X)
def Ags (c : Dev nD) (n v l fl : ℕ) : sProp 𝕄 := iprop(∃ X, ⌜0 < fl → X = red m ρ l c⌝ ∗ AgX c n v X)

/-- The device's own slots of the landing buffers. -/
def Slf (c : Dev nD) (l kk ka : ℕ) : sProp 𝕄 :=
  iprop(ownsSat (c : Thread nD τ) (slotM false c) fullShare (fun X => c.val < kk → X = part m ρ l c c)
    ∗ ownsSat (c : Thread nD τ) (slotM true c) fullShare (fun X => c.val < ka → X = red m ρ l c))

/-- The output the kernel stores. -/
def outAt (c : Dev nD) : S64x2048.Idx → Elt F .f32 := fun i =>
  k0_pay165 (up (red m ρ 2 ⟨(i 1).val / 256, by have h := (i 1).isLt; change _ < 2048 at h; change _ < 8; omega⟩))
    (fun | ⟨0, _⟩ => i 0 | ⟨1, _⟩ => ⟨(i 1).val % 256, Nat.mod_lt _ (by decide)⟩)

def Xs (c : Dev nD) : sProp 𝕄 := ownsSat (c : Thread nD τ) xM fullShare (· = xstg m ρ c)
def Xb (c : Dev nD) (lx kx : ℕ) : sProp 𝕄 :=
  ownsSat (c : Thread nD τ) xbM fullShare fun X => ∀ i, (i 1).val < 256 * kx → X i = xAt m ρ lx c i
def Hh (c : Dev nD) (l kh : ℕ) : sProp 𝕄 :=
  ownsSat (c : Thread nD τ) hM fullShare fun X => ∀ i, (i 1).val < 512 * kh → X i = hAt m ρ l c i
def Oo (c : Dev nD) (ko : ℕ) : sProp 𝕄 :=
  ownsSat (c : Thread nD τ) oM fullShare fun X => ∀ i, (i 1).val < 256 * ko → X i = outAt m ρ c i

/-- All of it. -/
def St (K : Dev nD × Fin 33 → ℕ) (c : Dev nD) (n w v l st kk fl ka iI iW oI oW lx kx kh ko : ℕ) : sProp 𝕄 :=
  iprop(records m ρ K ∗ Ow c n ∗ Bar c w ∗ Prs m ρ c n w v ∗ Snd m ρ c n v l st ∗ Ags m ρ c n v l fl ∗ Slf m ρ c l kk ka
    ∗ wiR.St m c iI iW ∗ woR.St m c oI oW ∗ Xs m ρ c ∗ Xb m ρ c lx kx ∗ Hh m ρ c l kh ∗ Oo m ρ c ko)

variable {m ρ} {c : Dev nD}

/-! ## Counting, per peer -/

theorem peer_ne {n : ℕ} {q : Dev nD} (h : q ≠ peer n) : n % 8 ≠ q.val := fun e => h (Fin.ext e.symm)
theorem lt8 (q : Dev nD) : q.val < 8 := q.isLt
theorem cnt_ne {n : ℕ} {q : Dev nD} (h : q ≠ peer n) : cnt 8 (n + 1) q.val = cnt 8 n q.val := cnt8_other (lt8 q) (peer_ne h)
theorem cnt_at (n : ℕ) : cnt 8 n (peer n).val = n / 8 := cnt8_self rfl
theorem cnt_succ (n : ℕ) : cnt 8 (n + 1) (peer n).val = n / 8 + 1 := cnt8_next rfl
theorem cnt_mul {n : ℕ} (h : n % 8 = 0) (q : Dev nD) : cnt 8 n q.val = n / 8 := cnt8_mul (lt8 q) h

theorem fly_congr {q : Dev nD} {n v n' v' b : ℕ} (hn : q ≠ c → cnt 8 n' q.val = cnt 8 n q.val) (hv : q ≠ c → cnt 8 v' q.val = cnt 8 v q.val) :
    fly c q n' v' b ↔ fly c q n v b := by
  unfold fly
  constructor
  · rintro ⟨h, h1, h2⟩; rw [hn h, hv h] at h1; rw [hv h] at h2; exact ⟨h, h1, h2⟩
  · rintro ⟨h, h1, h2⟩; rw [← hn h, ← hv h] at h1; rw [← hv h] at h2; exact ⟨h, h1, h2⟩
/-- A step in a phase of the other parity. -/
theorem fly_n {q : Dev nD} {n v b : ℕ} (h : n / 8 < v / 8 ∨ v / 8 % 2 ≠ b) (h8 : v % 8 = 0) : fly c q (n + 1) v b ↔ fly c q n v b := by
  by_cases hq : q = peer n
  · subst hq
    unfold fly
    rw [cnt_succ, cnt_at, cnt_mul h8]
    constructor <;> rintro ⟨-, h1, h2⟩ <;> omega
  · exact fly_congr (fun _ => cnt_ne hq) (fun _ => rfl)
theorem fly_v {q : Dev nD} {n v b : ℕ} (h : v / 8 % 2 ≠ b) (hn : n = 8 * (v / 8 + 1)) : fly c q n (v + 1) b ↔ fly c q n v b := by
  by_cases hq : q = peer v
  · subst hq
    unfold fly
    rw [cnt_succ, cnt_at, hn, cnt_mul (by omega)]
    constructor <;> rintro ⟨-, h1, h2⟩ <;> omega
  · exact fly_congr (fun _ => rfl) (fun _ => cnt_ne hq)

/-! ## One peer, one slot, one share taken out -/

theorem prs_at {q : Dev nD} (hq : q ≠ c) {n w v n' w' v' : ℕ} (hn : ∀ j, j ≠ q → cnt 8 n' (Fin.val (n := nD) j) = cnt 8 n j.val)
    (hw : ∀ j, j ≠ q → cnt 8 w' (Fin.val (n := nD) j) = cnt 8 w j.val) (hv : ∀ j, j ≠ q → cnt 8 v' (Fin.val (n := nD) j) = cnt 8 v j.val) :
    Prs m ρ c n w v ⊢ iprop(Peer m ρ c q (cnt 8 n q.val) (cnt 8 w q.val) (cnt 8 v q.val)
      ∗ (Peer m ρ c q (cnt 8 n' q.val) (cnt 8 w' q.val) (cnt 8 v' q.val) -∗ Prs m ρ c n' w' v')) :=
  bigSep_upd (s := Finset.univ.erase c) (Φ := fun q => Peer m ρ c q (cnt 8 n q.val) (cnt 8 w q.val) (cnt 8 v q.val))
    (Ψ := fun q => Peer m ρ c q (cnt 8 n' q.val) (cnt 8 w' q.val) (cnt 8 v' q.val)) q (Finset.mem_erase.mpr ⟨hq, Finset.mem_univ _⟩)
    (fun j _ h => by rw [hn j h, hw j h, hv j h])
theorem prs_congr {n w v n' w' v' : ℕ} (hn : ∀ j, j ≠ c → cnt 8 n' (Fin.val (n := nD) j) = cnt 8 n j.val)
    (hw : ∀ j, j ≠ c → cnt 8 w' (Fin.val (n := nD) j) = cnt 8 w j.val) (hv : ∀ j, j ≠ c → cnt 8 v' (Fin.val (n := nD) j) = cnt 8 v j.val) :
    Prs m ρ c n' w' v' = Prs m ρ c n w v :=
  bigSep_congr fun j hj => by
    have h := Finset.ne_of_mem_erase hj
    rw [hn j h, hw j h, hv j h]

theorem snd_congr {n v n' v' l st : ℕ} (h : ∀ q, fly c q n' v' 1 ↔ fly c q n v 1) : Snd m ρ c n' v' l st = Snd m ρ c n v l st :=
  bigSep_congr fun q _ => by rw [if_congr (h q) rfl rfl]
theorem agx_congr {n v n' v' : ℕ} {X : S64x256.Idx → Elt F .bf16} (h : ∀ q, fly c q n' v' 0 ↔ fly c q n v 0) : AgX c n' v' X = AgX c n v X :=
  bigSep_congr fun q _ => by rw [if_congr (h q) rfl rfl]
theorem ags_congr {n v n' v' l fl : ℕ} (h : ∀ q, fly c q n' v' 0 ↔ fly c q n v 0) : Ags m ρ c n' v' l fl = Ags m ρ c n v l fl := by
  unfold Ags; simp only [agx_congr h]

/-- A slot of the send buffer, in hand before and after. -/
theorem snd_slot {q : Dev nD} {n v l st st' : ℕ} (h : ¬ fly c q n v 1) (hst : ∀ j : Dev nD, j ≠ q → (j.val < st' ↔ j.val < st)) :
    Snd m ρ c n v l st ⊢ iprop(ownsSat (c : Thread nD τ) (sendM q) fullShare (fun X => q.val < st → X = part m ρ l c q)
      ∗ (ownsSat (c : Thread nD τ) (sendM q) fullShare (fun X => q.val < st' → X = part m ρ l c q) -∗ Snd m ρ c n v l st')) := by
  have hup := bigSep_upd (s := Finset.univ)
    (Φ := fun q => if fly c q n v 1 then iprop(emp) else ownsSat (c : Thread nD τ) (sendM q) fullShare fun X => q.val < st → X = part m ρ l c q)
    (Ψ := fun q => if fly c q n v 1 then iprop(emp) else ownsSat (c : Thread nD τ) (sendM q) fullShare fun X => q.val < st' → X = part m ρ l c q)
    q (Finset.mem_univ q) (fun j _ hj => by simp only [hst j hj])
  simp only [if_neg h] at hup
  exact hup
/-- A slot sent, -/
theorem snd_send {q : Dev nD} {n v l st : ℕ} (hq : q = peer n) (h : ¬ fly c q n v 1) (h' : fly c q (n + 1) v 1) (hst : q.val < st) :
    Snd m ρ c n v l st ⊢ iprop(ownsSat (c : Thread nD τ) (sendM q) fullShare (· = part m ρ l c q) ∗ Snd m ρ c (n + 1) v l st) := by
  have hup := bigSep_upd (s := Finset.univ)
    (Φ := fun q => if fly c q n v 1 then iprop(emp) else ownsSat (c : Thread nD τ) (sendM q) fullShare fun X => q.val < st → X = part m ρ l c q)
    (Ψ := fun q => if fly c q (n + 1) v 1 then iprop(emp) else ownsSat (c : Thread nD τ) (sendM q) fullShare fun X => q.val < st → X = part m ρ l c q)
    q (Finset.mem_univ q) (fun j _ hj => by rw [if_congr (fly_congr (fun _ => cnt_ne (hq ▸ hj)) (fun _ => rfl)) rfl rfl])
  simp only [if_neg h, if_pos h'] at hup
  have e : (fun X : S64x256.Idx → Elt F .bf16 => q.val < st → X = part m ρ l c q) = (· = part m ρ l c q) := by
    funext X; exact propext ⟨fun h => h hst, fun h _ => h⟩
  rw [e] at hup
  unfold Snd
  iintro H
  ihave H := hup $$ H
  icases H with ⟨H1, H2⟩
  isplitl [H1]; · iexact H1
  iapply H2; iempintro
/-- and given back. -/
theorem snd_back {q : Dev nD} {n v l : ℕ} (hq : q = peer v) (h : fly c q n v 1) (h' : ¬ fly c q n (v + 1) 1) :
    iprop(Snd m ρ c n v l 0 ∗ anyAt c (sendM q)) ⊢ Snd m ρ c n (v + 1) l 0 := by
  have hup := bigSep_upd (s := Finset.univ)
    (Φ := fun q => if fly c q n v 1 then iprop(emp) else ownsSat (c : Thread nD τ) (sendM q) fullShare fun X => q.val < 0 → X = part m ρ l c q)
    (Ψ := fun q => if fly c q n (v + 1) 1 then iprop(emp) else ownsSat (c : Thread nD τ) (sendM q) fullShare fun X => q.val < 0 → X = part m ρ l c q)
    q (Finset.mem_univ q) (fun j _ hj => by rw [if_congr (fly_congr (fun _ => rfl) (fun _ => cnt_ne (hq ▸ hj))) rfl rfl])
  simp only [if_pos h, if_neg h'] at hup
  have e : (fun X : S64x256.Idx → Elt F .bf16 => q.val < 0 → X = part m ρ l c q) = fun _ => True := by
    funext X; exact propext ⟨fun _ => trivial, fun _ h => absurd h (Nat.not_lt_zero _)⟩
  rw [e] at hup
  unfold Snd anyAt
  iintro ⟨H, Ha⟩
  ihave H := hup $$ H
  icases H with ⟨H1, H2⟩
  iapply H2; iexact Ha
theorem snd_forget {n v l st l' : ℕ} : Snd m ρ c n v l st ⊢ Snd m ρ c n v l' 0 :=
  bigSep_mono fun q _ => by
    split
    · exact Entails.refl _
    · exact ownsSat_mono (c : Thread nD τ) _ _ fun X _ h => absurd h (Nat.not_lt_zero _)

theorem ag_slot {q : Dev nD} {n v : ℕ} {X : S64x256.Idx → Elt F .bf16} (h : ¬ fly c q n v 0) :
    AgX c n v X ⊢ (iprop(ownsSat (c : Thread nD τ) agM (shr q) (· = X) ∗ (ownsSat (c : Thread nD τ) agM (shr q) (· = X) -∗ AgX c n v X)) : sProp 𝕄) := by
  have hup := bigSep_upd (s := Finset.univ)
    (Φ := fun q => if fly c q n v 0 then iprop(emp) else (ownsSat (c : Thread nD τ) agM (shr q) (· = X) : sProp 𝕄))
    (Ψ := fun q => if fly c q n v 0 then iprop(emp) else (ownsSat (c : Thread nD τ) agM (shr q) (· = X) : sProp 𝕄))
    q (Finset.mem_univ q) (fun _ _ _ => rfl)
  simp only [if_neg h] at hup
  exact hup
theorem ag_send {q : Dev nD} {n v : ℕ} {X : S64x256.Idx → Elt F .bf16} (hq : q = peer n) (h : ¬ fly c q n v 0) (h' : fly c q (n + 1) v 0) :
    AgX c n v X ⊢ (iprop(ownsSat (c : Thread nD τ) agM (shr q) (· = X) ∗ AgX c (n + 1) v X) : sProp 𝕄) := by
  have hup := bigSep_upd (s := Finset.univ)
    (Φ := fun q => if fly c q n v 0 then iprop(emp) else (ownsSat (c : Thread nD τ) agM (shr q) (· = X) : sProp 𝕄))
    (Ψ := fun q => if fly c q (n + 1) v 0 then iprop(emp) else (ownsSat (c : Thread nD τ) agM (shr q) (· = X) : sProp 𝕄))
    q (Finset.mem_univ q) (fun j _ hj => by rw [if_congr (fly_congr (fun _ => cnt_ne (hq ▸ hj)) (fun _ => rfl)) rfl rfl])
  simp only [if_neg h, if_pos h'] at hup
  unfold AgX
  iintro H
  ihave H := hup $$ H
  icases H with ⟨H1, H2⟩
  isplitl [H1]; · iexact H1
  iapply H2; iempintro
theorem ag_back {q : Dev nD} {n v : ℕ} {X : S64x256.Idx → Elt F .bf16} (hq : q = peer v) (h : fly c q n v 0) (h' : ¬ fly c q n (v + 1) 0) :
    iprop(AgX c n v X ∗ ownsSat (c : Thread nD τ) agM (shr q) (· = X)) ⊢ (AgX c n (v + 1) X : sProp 𝕄) := by
  have hup := bigSep_upd (s := Finset.univ)
    (Φ := fun q => if fly c q n v 0 then iprop(emp) else (ownsSat (c : Thread nD τ) agM (shr q) (· = X) : sProp 𝕄))
    (Ψ := fun q => if fly c q n (v + 1) 0 then iprop(emp) else (ownsSat (c : Thread nD τ) agM (shr q) (· = X) : sProp 𝕄))
    q (Finset.mem_univ q) (fun j _ hj => by rw [if_congr (fly_congr (fun _ => rfl) (fun _ => cnt_ne (hq ▸ hj))) rfl rfl])
  simp only [if_pos h, if_neg h'] at hup
  unfold AgX
  iintro ⟨H, Ha⟩
  ihave H := hup $$ H
  icases H with ⟨H1, H2⟩
  iapply H2; iexact Ha

/-- The all-gather's source whole, with nothing in flight. -/
theorem ag_join (X : S64x256.Idx → Elt F .bf16) {n v : ℕ} (h : ∀ q, ¬ fly c q n v 0) :
    AgX c n v X = (ownsSat (c : Thread nD τ) agM fullShare (· = X) : sProp 𝕄) := by
  have hrd (f : agM.view.ty.Contents (Elt F)) : agM.view.read (Elt F) f = f := rfl
  have e (s : PosShare TreeShare) : (ownsSat (c : Thread nD τ) agM s (· = X) : sProp 𝕄) = (agM.view.loc (c : Thread nD τ) ↦[agM.view.set]{s} X) := by
    have h1 : ownsSat (c : Thread nD τ) agM s (· = X) ⊢ ((agM.view.loc (c : Thread nD τ) ↦[agM.view.set]{s} X) : sProp 𝕄) := by
      unfold ownsSat
      iintro ⟨%f, %hf, H⟩
      rw [hrd] at hf; subst hf; iexact H
    exact Entails.antisymm h1 (ownsSat_of (c : Thread nD τ) agM s (hrd X))
  unfold AgX
  rw [e, Transfers.pointsTo_deal Finset.univ ⟨c, Finset.mem_univ _⟩ fullShare]
  exact bigSep_congr fun q _ => by rw [if_neg (h q), e]; rfl

end Cert.Mlp

end
-- ==== Proof.Slots.lean ====
module

public import proofs.«01_k».proof.Proof.Device

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## A buffer and its slots -/

section Split
variable (c : Dev nD) {sp : Space} {sh s2 : Shape} {e : EltTy} (M : Memref sig .tc sp sh e) {T : Type} (S : Finset T)
  (r : T → Rect sh) (hr : ∀ t a, (r t).stride a = 1) (hsq : ∀ t, (r t).shape.Squeezes s2)
  (hd : ∀ t ∈ S, ∀ t' ∈ S, t ≠ t' → Disjoint (r t).set (r t').set) (hcov : ∀ i, ∃ t ∈ S, i ∈ (r t).set)

include hcov in
theorem slots_cover : M.view.set = S.biUnion fun t => (M.access (r t)).set := by
  ext i; constructor
  · intro hi
    rw [View.set, Finset.mem_map] at hi
    obtain ⟨x, -, rfl⟩ := hi
    obtain ⟨t, ht, hx⟩ := hcov x
    exact Finset.mem_biUnion.mpr ⟨t, ht, by rw [View.set_slice]; exact Finset.mem_map_of_mem _ hx⟩
  · intro hi
    obtain ⟨t, -, hi⟩ := Finset.mem_biUnion.mp hi
    exact View.set_slice_subset _ _ hi
include hd in
theorem slots_disj : ∀ t ∈ S, ∀ t' ∈ S, t ≠ t' → Disjoint (M.access (r t)).set (M.access (r t')).set := fun t ht t' ht' h => by
  rw [View.set_slice, View.set_slice]; exact (Finset.disjoint_map _).mpr (hd t ht t' ht' h)

include hd hcov
theorem slots_split (f : M.view.ty.Contents (Elt F)) : (M.view.loc (c : Thread nD τ) ↦[M.view.set]{fullShare} f)
    ⊢ (bigSep S fun t => ownsSat (c : Thread nD τ) ((M.slice (r t) (hr t)).squeeze s2 (hsq t)) fullShare fun _ => True : sProp 𝕄) := by
  rw [slots_cover M S r hcov, pointsTo_biUnion _ _ (slots_disj M S r hd)]
  refine bigSep_mono fun t _ => ?_
  rw [← slot_set M (r t) (hr t) (hsq t)]
  exact ownsSat_of (c : Thread nD τ) ((M.slice (r t) (hr t)).squeeze s2 (hsq t)) fullShare (f := f) trivial
theorem slots_join (Φ : T → (s2.Idx → Elt F e) → Prop) :
    (bigSep S fun t => ownsSat (c : Thread nD τ) ((M.slice (r t) (hr t)).squeeze s2 (hsq t)) fullShare (Φ t))
      ⊢ (iprop(∃ f : M.view.ty.Contents (Elt F), M.view.loc (c : Thread nD τ) ↦[M.view.set]{fullShare} f) : sProp 𝕄) := by
  classical
  have h1 : ∀ t ∈ S, ownsSat (c : Thread nD τ) ((M.slice (r t) (hr t)).squeeze s2 (hsq t)) fullShare (Φ t)
      ⊢ (iprop(∃ f : M.view.ty.Contents (Elt F), M.view.loc (c : Thread nD τ) ↦[(M.access (r t)).set]{fullShare} f) : sProp 𝕄) := fun t _ => by
    rw [← slot_set M (r t) (hr t) (hsq t)]
    unfold ownsSat
    iintro ⟨%f, -, H⟩
    iexists f; iexact H
  rw [slots_cover M S r hcov]
  refine (bigSep_mono h1).trans ((BI.bigSep_exists_pi S (fun (t : T) (f : M.view.ty.Contents (Elt F)) =>
    (M.view.loc (c : Thread nD τ) ↦[(M.access (r t)).set]{fullShare} f : sProp 𝕄))).trans ?_)
  iintro ⟨%fs, H⟩
  ihave H := (pointsTo_biUnion_join (ℓ := M.view.loc (c : Thread nD τ)) (q := fullShare) S (fun t => (M.access (r t)).set) fs (fun _ => Classical.arbitrary _) (slots_disj M S r hd)) $$ H
  icases H with ⟨%g, -, H⟩
  iexists g; iexact H
end Split

/-! ### The five buffers -/

theorem s8_disj : ∀ t ∈ (Finset.univ : Finset (Dev nD)), ∀ t' ∈ (Finset.univ : Finset (Dev nD)), t ≠ t' →
    Disjoint (Rect.unit (s := S8x64x256) ![t.val, 0, 0] S1x64x256.size (inb8 t)).set (Rect.unit (s := S8x64x256) ![t'.val, 0, 0] S1x64x256.size (inb8 t')).set :=
  fun t _ t' _ h => Rect.unit_disjoint (0 : Fin 3) (by
    have : t.val ≠ t'.val := fun e => h (Fin.ext e)
    change t.val + 1 ≤ t'.val ∨ t'.val + 1 ≤ t.val; omega)
theorem s8_cover (i : S8x64x256.Idx) : ∃ t ∈ (Finset.univ : Finset (Dev nD)), i ∈ (Rect.unit (s := S8x64x256) ![t.val, 0, 0] S1x64x256.size (inb8 t)).set :=
  ⟨⟨(i 0).val, (i 0).isLt⟩, Finset.mem_univ _, by
    rw [Rect.mem_set_unit]
    intro a; fin_cases a
    · exact ⟨le_refl _, Nat.lt_succ_self _⟩
    · exact ⟨Nat.zero_le _, lt_of_lt_of_eq (i 1).isLt (Nat.zero_add _).symm⟩
    · exact ⟨Nat.zero_le _, lt_of_lt_of_eq (i 2).isLt (Nat.zero_add _).symm⟩⟩
theorem s5_disj : ∀ t ∈ Finset.range 5, ∀ t' ∈ Finset.range 5, t ≠ t' →
    Disjoint (Rect.unit (s := S5x2048x512) ![t % 5, 0, 0] S1x2048x512.size (inb5 t)).set (Rect.unit (s := S5x2048x512) ![t' % 5, 0, 0] S1x2048x512.size (inb5 t')).set :=
  fun t ht t' ht' h => Rect.unit_disjoint (0 : Fin 3) (by
    rw [Finset.mem_range] at ht ht'
    change t % 5 + 1 ≤ t' % 5 ∨ t' % 5 + 1 ≤ t % 5; omega)
theorem s5_cover (i : S5x2048x512.Idx) : ∃ t ∈ Finset.range 5, i ∈ (Rect.unit (s := S5x2048x512) ![t % 5, 0, 0] S1x2048x512.size (inb5 t)).set :=
  ⟨(i 0).val, Finset.mem_range.mpr (i 0).isLt, by
    rw [Rect.mem_set_unit]
    have h : (i 0).val % 5 = (i 0).val := Nat.mod_eq_of_lt (i 0).isLt
    intro a; fin_cases a
    · change (i 0).val % 5 ≤ (i 0).val ∧ (i 0).val < (i 0).val % 5 + 1; omega
    · exact ⟨Nat.zero_le _, lt_of_lt_of_eq (i 1).isLt (Nat.zero_add _).symm⟩
    · exact ⟨Nat.zero_le _, lt_of_lt_of_eq (i 2).isLt (Nat.zero_add _).symm⟩⟩
theorem s3_disj : ∀ t ∈ Finset.range 3, ∀ t' ∈ Finset.range 3, t ≠ t' →
    Disjoint (Rect.unit (s := S3x4096x512) ![t % 3, 0, 0] S1x4096x512.size (inb3 t)).set (Rect.unit (s := S3x4096x512) ![t' % 3, 0, 0] S1x4096x512.size (inb3 t')).set :=
  fun t ht t' ht' h => Rect.unit_disjoint (0 : Fin 3) (by
    rw [Finset.mem_range] at ht ht'
    change t % 3 + 1 ≤ t' % 3 ∨ t' % 3 + 1 ≤ t % 3; omega)
theorem s3_cover (i : S3x4096x512.Idx) : ∃ t ∈ Finset.range 3, i ∈ (Rect.unit (s := S3x4096x512) ![t % 3, 0, 0] S1x4096x512.size (inb3 t)).set :=
  ⟨(i 0).val, Finset.mem_range.mpr (i 0).isLt, by
    rw [Rect.mem_set_unit]
    have h : (i 0).val % 3 = (i 0).val := Nat.mod_eq_of_lt (i 0).isLt
    intro a; fin_cases a
    · change (i 0).val % 3 ≤ (i 0).val ∧ (i 0).val < (i 0).val % 3 + 1; omega
    · exact ⟨Nat.zero_le _, lt_of_lt_of_eq (i 1).isLt (Nat.zero_add _).symm⟩
    · exact ⟨Nat.zero_le _, lt_of_lt_of_eq (i 2).isLt (Nat.zero_add _).symm⟩⟩

/-- A whole buffer of device `c`, whatever it holds. -/
abbrev junk (c : Dev nD) (b : Ref sig .tc) : sProp 𝕄 := iprop(∃ f : Buf (Elt F) ((c : Thread nD τ).loc b), ((c : Thread nD τ).loc b) ↦{fullShare} f)

section Buffers
variable (c : Dev nD)

theorem send_split : (junk c cc0_scratch2 : sProp 𝕄) ⊢ bigSep Finset.univ fun q => anyAt c (sendM q) := by
  iintro ⟨%f, H⟩
  iapply (slots_split c sM Finset.univ _ (fun _ _ => rfl) (fun _ => squeezes_S1x64x256_S64x256) s8_disj s8_cover f)
  rw [View.set_whole]; iexact H
theorem send_join (Φ : Dev nD → (S64x256.Idx → Elt F .bf16) → Prop) :
    (bigSep Finset.univ fun q => ownsSat (c : Thread nD τ) (sendM q) fullShare (Φ q)) ⊢ (junk c cc0_scratch2 : sProp 𝕄) := by
  have h := slots_join c sM Finset.univ _ (fun _ _ => rfl) (fun _ => squeezes_S1x64x256_S64x256) s8_disj s8_cover Φ
  rw [View.set_whole] at h; exact h

abbrev landB : Bool → Ref sig .tc
  | false => cc0_scratch3
  | true => cc0_scratch5
theorem land_split (b : Bool) : (junk c (landB b) : sProp 𝕄) ⊢ bigSep Finset.univ fun q => anyAt c (slotM b q) := by
  cases b
  all_goals
    iintro ⟨%f, H⟩
    iapply (slots_split c (landM _) Finset.univ _ (fun _ _ => rfl) (fun _ => squeezes_S1x64x256_S64x256) s8_disj s8_cover f)
    rw [View.set_whole]; iexact H
theorem land_join (b : Bool) : (bigSep Finset.univ fun q => anyAt c (slotM b q)) ⊢ (junk c (landB b) : sProp 𝕄) := by
  have h := slots_join c (landM b) Finset.univ _ (fun _ _ => rfl) (fun _ => squeezes_S1x64x256_S64x256) s8_disj s8_cover (fun _ (_ : S64x256.Idx → Elt F .bf16) => True)
  cases b <;> (rw [View.set_whole] at h; exact h)

theorem wi_split : (junk c cc0_scratch6 : sProp 𝕄) ⊢ bigSep (Finset.range 5) fun k => wiR.slotAt c k fun _ => True := by
  unfold Ring.slotAt
  iintro ⟨%f, H⟩
  iapply (slots_split c wiM (Finset.range 5) _ (fun _ _ => rfl) (fun _ => squeezes_S1x2048x512_S2048x512) s5_disj s5_cover f)
  rw [View.set_whole]; iexact H
theorem wi_join (Φ : ℕ → (S2048x512.Idx → Elt F .f32) → Prop) :
    (bigSep (Finset.range 5) fun k => wiR.slotAt c k (Φ k)) ⊢ (junk c cc0_scratch6 : sProp 𝕄) := by
  have h := slots_join c wiM (Finset.range 5) _ (fun _ _ => rfl) (fun _ => squeezes_S1x2048x512_S2048x512) s5_disj s5_cover Φ
  rw [View.set_whole] at h; exact h
theorem wo_split : (junk c cc0_scratch7 : sProp 𝕄) ⊢ bigSep (Finset.range 3) fun k => woR.slotAt c k fun _ => True := by
  unfold Ring.slotAt
  iintro ⟨%f, H⟩
  iapply (slots_split c woM (Finset.range 3) _ (fun _ _ => rfl) (fun _ => squeezes_S1x4096x512_S4096x512) s3_disj s3_cover f)
  rw [View.set_whole]; iexact H
theorem wo_join (Φ : ℕ → (S4096x512.Idx → Elt F .f32) → Prop) :
    (bigSep (Finset.range 3) fun k => woR.slotAt c k (Φ k)) ⊢ (junk c cc0_scratch7 : sProp 𝕄) := by
  have h := slots_join c woM (Finset.range 3) _ (fun _ _ => rfl) (fun _ => squeezes_S1x4096x512_S4096x512) s3_disj s3_cover Φ
  rw [View.set_whole] at h; exact h

theorem whole_in (b : Ref sig .tc) (Φ : (b.ty.shape.Idx → Elt F b.ty.elt) → Prop) (f : Buf (Elt F) ((c : Thread nD τ).loc b)) (h : Φ f) :
    (((c : Thread nD τ).loc b) ↦{fullShare} f) ⊢ (ownsSat (c : Thread nD τ) (Memref.whole b) fullShare Φ : sProp 𝕄) := by
  iintro H
  iapply (ownsSat_of (c : Thread nD τ) (Memref.whole b) fullShare (Φ := Φ) (f := f) h)
  rw [View.set_whole]; iexact H
theorem whole_out (b : Ref sig .tc) (Φ : (b.ty.shape.Idx → Elt F b.ty.elt) → Prop) :
    ownsSat (c : Thread nD τ) (Memref.whole b) fullShare Φ
      ⊢ (iprop(∃ f : Buf (Elt F) ((c : Thread nD τ).loc b), ⌜Φ f⌝ ∗ ((c : Thread nD τ).loc b) ↦{fullShare} f) : sProp 𝕄) := by
  unfold ownsSat
  simp only [Memref.view_whole, View.read_whole, View.set_whole]
  exact Entails.refl _
end Buffers

end Cert.Mlp

end
-- ==== Proof.Fund.lean ====
module

public import proofs.«01_k».proof.Proof.Slots

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Conjunctions regrouped -/

theorem bigSep_ex {I J : Type} [DecidableEq I] [DecidableEq J] (s : Finset I) (t : Finset J) (Φ : I → J → sProp 𝕄) :
    bigSep s (fun i => bigSep t (Φ i)) = bigSep t (fun j => bigSep s fun i => Φ i j) := by
  induction s using Finset.induction_on with
  | empty =>
    rw [bigSep_empty]
    have h : bigSep t (fun j => bigSep (∅ : Finset I) fun i => Φ i j) = bigSep t (fun _ => (iprop(emp) : sProp 𝕄)) :=
      bigSep_congr fun j _ => bigSep_empty
    rw [h]
    induction t using Finset.induction_on with
    | empty => rw [bigSep_empty]
    | insert j t hj ih =>
      rw [bigSep_put hj, ← ih (bigSep_congr fun j _ => bigSep_empty)]
      exact (BI.equiv_iff.mp emp_sep).symm
  | insert i s hi ih =>
    rw [bigSep_put hi, ih]
    have h : bigSep t (fun j => bigSep (insert i s) fun i => Φ i j) = bigSep t (fun j => iprop(Φ i j ∗ bigSep s fun i => Φ i j)) :=
      bigSep_congr fun j _ => bigSep_put hi _
    rw [h, bigSep_sep']

theorem bigSep_sub {I : Type} [DecidableEq I] {s t : Finset I} (h : t ⊆ s) (Φ : I → sProp 𝕄) : bigSep s Φ ⊢ bigSep t Φ := bigSep_subset h
theorem bigSep_emb {I J : Type} [DecidableEq I] [DecidableEq J] (f : J ↪ I) (t : Finset J) (Φ : I → sProp 𝕄) :
    bigSep (t.map f) Φ = bigSep t (fun j => Φ (f j)) := bigSep_map f

/-! ## The launch's credit -/

theorem owe_parts (c : Dev nD) (s : Finset ℕ) :
    (Pipeline.launchCred (fun d => ∑ i ∈ s, tly d i) c : sProp 𝕄) = bigSep s fun i => Pipeline.launchCred (fun d => tly d i) c := by
  induction s using Finset.induction_on with
  | empty => simp only [Finset.sum_empty]; rw [bigSep_empty]; exact Pipeline.launchCred_zero c
  | insert i s hi ih =>
    rw [bigSep_put hi, ← ih, ← Pipeline.launchCred_add]
    simp only [Finset.sum_insert hi]

theorem rcell_inj {b : Bool} {q d c : Dev nD} : rcell b q c = rcell b d c ↔ q = d := by
  constructor
  · intro h
    have h2 : kind (.dma (rsem b q)) = kind (.dma (rsem b d)) := congrArg (fun g : GSem nD τ sig => kind g.2) h
    rw [kind_r, kind_r] at h2
    injection h2
  · rintro rfl; rfl

theorem step_peer (φ : ℕ) (c : Dev nD) : peer (8 * φ + c.val) = c := Fin.ext (by
  have := lt8 c
  change (8 * φ + c.val) % 8 = c.val; omega)
theorem step_phase (φ : ℕ) (c : Dev nD) : (8 * φ + c.val) / 8 = φ := by have := lt8 c; omega

/-- The seven units of the barrier; -/
theorem cred_bar (c : Dev nD) : (Pipeline.launchCred (fun d => tly d (8 * 0 + c.val)) c : sProp 𝕄) ⊢ cred (tallyAt (barCell c) 0 7) := by
  refine (Pipeline.launchCred_elim _ c (.reg barS)).trans (Entails.of_eq (congrArg cred ?_))
  refine congrArg (tallyOn (barCell c)) (Finsupp.ext fun u => ?_)
  rw [Pipeline.launchCredit_owing, Finsupp.single_apply]
  have e (d : Dev nD) : tly d (8 * 0 + c.val) (barCell c) u = if 0 = u then (if c = d then 0 else 1) else 0 := by
    have h8 : 8 * 0 + c.val < 8 := by have := lt8 c; omega
    unfold tly pcell pamt
    rw [step_peer, step_phase, if_pos h8, if_pos h8]
    by_cases hd : c = d
    · rw [if_pos hd, if_pos hd, ite_self]; rfl
    · rw [if_neg hd, if_neg hd, tallyAt_apply]
      by_cases hu : u = 0
      · rw [if_pos ⟨rfl, hu⟩, if_pos hu.symm]
      · rw [if_neg (fun h => hu h.2), if_neg (fun h => hu h.symm)]
  rw [Finset.sum_congr rfl fun d _ => e d]
  have e7 : ∀ c : Dev nD, (∑ d : Dev nD, if c = d then 0 else 1) = 7 := by decide
  by_cases hu : 0 = u
  · simp only [if_pos hu]
    exact e7 c
  · simp only [if_neg hu, Finset.sum_const_zero]

/-- a phase's credit, one landing from each other device. -/
theorem cred_phase (c : Dev nD) {φ : ℕ} (h1 : 1 ≤ φ) : (Pipeline.launchCred (fun d => tly d (8 * φ + c.val)) c : sProp 𝕄)
    ⊢ bigSep (Finset.univ.erase c) fun q => credR c q φ := by
  have e (q : Dev nD) (hq : q ∈ Finset.univ.erase c) : (tallyOn (rcell (par φ) q c) (launchCredit (Pipeline.owing fun d => tly d (8 * φ + c.val)) 0 (rcell (par φ) q c)))
      = (tallyAt (rcell (par φ) q c) (rnd φ) N : CellTallies nD τ sig ℕ) := by
    have hq := Finset.ne_of_mem_erase hq
    refine congrArg (tallyOn (rcell (par φ) q c)) (Finsupp.ext fun u => ?_)
    rw [Pipeline.launchCredit_owing, Finsupp.single_apply]
    have h8 : ¬ 8 * φ + c.val < 8 := by omega
    have e (d : Dev nD) : tly d (8 * φ + c.val) (rcell (par φ) q c) u = if d = q then (if rnd φ = u then N else 0) else 0 := by
      unfold tly pcell pamt
      rw [step_peer, step_phase, if_neg h8, if_neg h8]
      by_cases hd : c = d
      · rw [if_pos hd, if_neg (fun h : d = q => hq (h.symm.trans hd.symm))]; rfl
      · rw [if_neg hd, tallyAt_apply]
        by_cases hdq : d = q
        · subst hdq
          rw [if_pos rfl]
          by_cases hu : rnd φ = u
          · rw [if_pos hu, if_pos ⟨rfl, hu.symm⟩]
          · rw [if_neg hu, if_neg (fun h => hu h.2.symm)]
        · rw [if_neg hdq, if_neg (fun h => hdq (rcell_inj.mp h.1).symm)]
    rw [Finset.sum_congr rfl fun d _ => e d, Finset.sum_ite_eq' Finset.univ q fun _ => _, if_pos (Finset.mem_univ _)]
  have hinj : Function.Injective (fun q : Dev nD => (SemLoc.dma (rsem (par φ) q) : SemLoc sig)) := fun q d h => by
    have h2 := congrArg kind h
    dsimp only at h2
    rw [kind_r, kind_r] at h2
    injection h2
  unfold Pipeline.launchCred
  refine (bigSep_sub (Finset.subset_univ ((Finset.univ.erase c).map ⟨_, hinj⟩)) _).trans ?_
  rw [bigSep_emb]
  refine Entails.of_eq (bigSep_congr fun q hq => ?_)
  unfold credR
  rw [← e q hq]; rfl

/-- What device `c` may count on: its barrier's seven units and, from each other device, a landing in each of six phases. -/
theorem creds (c : Dev nD) : (Pipeline.launchCred (fun d => Owe d 0) c : sProp 𝕄)
    ⊢ iprop(cred (tallyAt (barCell c) 0 7) ∗ bigSep (Finset.univ.erase c) fun q => bigSep (Finset.Ico 1 7) fun φ => credR c q φ) := by
  have hinj : Function.Injective (fun φ : ℕ => 8 * φ + c.val) := fun a b h => by dsimp only at h; omega
  have hsub : (Finset.Ico 0 7).map ⟨fun φ : ℕ => 8 * φ + c.val, hinj⟩ ⊆ Finset.Ico 0 56 := fun i hi => by
    rw [Finset.mem_map] at hi
    obtain ⟨φ, hφ, rfl⟩ := hi
    rw [Finset.mem_Ico] at hφ ⊢
    have := lt8 c
    dsimp only [Function.Embedding.coeFn_mk]; omega
  unfold Owe
  rw [owe_parts]
  refine (bigSep_sub hsub _).trans ?_
  rw [bigSep_emb, bigSep_next (by decide : 0 < 7), bigSep_ex]
  refine BIClass.sep_mono (cred_bar c) (bigSep_mono fun φ hφ => cred_phase c (Finset.mem_Ico.mp hφ).1)

/-! ## The cells and the duties dealt at launch -/

theorem kcell_injective : Function.Injective (kcell : Dev nD × Fin 33 → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : Fin 33, csem k = csem k' → k = k' := by decide
  rw [h3 k k' h2]
def myCells : Finset (GSem nD τ sig) := Finset.univ.map ⟨kcell, kcell_injective⟩

/-- Device `c`'s duties towards `q`: the signal, the six landings, the six sends. -/
def tokOf (x : (Dev nD × Dev nD) × Fin 13) : GSem nD τ sig × ℕ × Dev nD :=
  if x.2.val = 0 then (barCell x.1.2, 0, x.1.1)
  else if x.2.val < 7 then (rcell (par x.2.val) x.1.1 x.1.2, rnd x.2.val, x.1.1)
  else (scell (par (x.2.val - 6)) x.1.2 x.1.1, rnd (x.2.val - 6), x.1.2)

theorem tokOf_injective : Function.Injective tokOf := by
  rintro ⟨⟨c, q⟩, j⟩ ⟨⟨c', q'⟩, j'⟩ h
  have hk := congrArg (fun x : GSem nD τ sig × ℕ × Dev nD => kind x.1.2) h
  have hc := congrArg (fun x : GSem nD τ sig × ℕ × Dev nD => x.1.1.1) h
  have hr := congrArg (fun x : GSem nD τ sig × ℕ × Dev nD => x.2.1) h
  have hd := congrArg (fun x : GSem nD τ sig × ℕ × Dev nD => x.2.2) h
  clear h
  unfold tokOf at hk hc hr hd
  dsimp only at hk hc hr hd
  have e {x y : ℕ} (hx : 0 < x) (hy : 0 < y) (hp : par x = par y) (hrn : rnd x = rnd y) : x = y := by
    rw [← phase_rnd hx, ← phase_rnd hy, hp, hrn]
  by_cases h0 : j.val = 0 <;> by_cases h0' : j'.val = 0 <;> by_cases h7 : j.val < 7 <;> by_cases h7' : j'.val < 7 <;>
    simp only [h0, h0', h7, h7', if_true, if_false, kind_bar, kind_r, kind_s, reduceCtorEq, Kind.recv.injEq, Kind.send.injEq] at hk hc hr hd
  all_goals first
    | omega
    | skip
  · obtain rfl : j = j' := Fin.ext (h0.trans h0'.symm)
    rw [hc, hd]
  · obtain rfl : j = j' := Fin.ext (e (by omega) (by omega) hk.1 hr)
    rw [hc, hd]
  · obtain rfl : j = j' := Fin.ext (by have := e (x := j.val - 6) (y := j'.val - 6) (by omega) (by omega) hk.1 hr; omega)
    rw [hc, hd]
def myToks : Finset (GSem nD τ sig × ℕ × Dev nD) := Finset.univ.map ⟨tokOf, tokOf_injective⟩

def u₀ : UU := (initOf (Pipeline.cells cfgs cellOf_inj) (Pipeline.launchToks cfgs cellOf_inj), (initOf myCells myToks, 1))

/-- Device `c`'s duties towards `q`, as dealt. -/
def deal (c q : Dev nD) : sProp 𝕄 := bigSep Finset.univ fun j : Fin 13 => dutyTok ER (tokOf ((c, q), j)).1 (tokOf ((c, q), j)).2.1 (tokOf ((c, q), j)).2.2

theorem deal_tok (c q : Dev nD) : deal c q ⊢ (bigSep (Finset.Ico 0 7) fun φ => tok c q φ : sProp 𝕄) := by
  have e (Φ : Fin 13 → sProp 𝕄) : bigSep Finset.univ Φ
      = iprop(Φ 0 ∗ Φ 1 ∗ Φ 7 ∗ Φ 2 ∗ Φ 8 ∗ Φ 3 ∗ Φ 9 ∗ Φ 4 ∗ Φ 10 ∗ Φ 5 ∗ Φ 11 ∗ Φ 6 ∗ Φ 12) :=
    bigSep_univ_eq_bigSepL [(0 : Fin 13), 1, 7, 2, 8, 3, 9, 4, 10, 5, 11, 6, 12] (by decide) (by decide) Φ
  have tz : dutyTok ER (tokOf ((c, q), 0)).1 (tokOf ((c, q), 0)).2.1 (tokOf ((c, q), 0)).2.2 ⊢ (tok c q 0 : sProp 𝕄) := Entails.of_eq (by
    unfold tok; rw [if_pos rfl]; rfl)
  have ts (a b : Fin 13) (k : ℕ) (ha : a.val = k) (hb : b.val = k + 6) (h0 : 0 < k) (h7 : k < 7) :
      iprop(dutyTok ER (tokOf ((c, q), a)).1 (tokOf ((c, q), a)).2.1 (tokOf ((c, q), a)).2.2
        ∗ dutyTok ER (tokOf ((c, q), b)).1 (tokOf ((c, q), b)).2.1 (tokOf ((c, q), b)).2.2) ⊢ (tok c q k : sProp 𝕄) := Entails.of_eq (by
    unfold tok tokOf
    dsimp only
    rw [ha, hb, if_neg (by omega : ¬ k = 0), if_pos h7, if_neg (by omega : ¬ k + 6 = 0), if_neg (by omega : ¬ k + 6 < 7), if_neg (by omega : ¬ k = 0), Nat.add_sub_cancel])
  unfold deal
  rw [e, bigSep_next (by decide : 0 < 7), bigSep_next (by decide : 1 < 7), bigSep_next (by decide : 2 < 7), bigSep_next (by decide : 3 < 7),
    bigSep_next (by decide : 4 < 7), bigSep_next (by decide : 5 < 7), bigSep_next (by decide : 6 < 7)]
  iintro ⟨H0, H1, H7, H2, H8, H3, H9, H4, H10, H5, H11, H6, H12⟩
  isplitl [H0]; · iapply tz $$ H0
  isplitl [H1 H7]
  · iapply (ts 1 7 1 rfl rfl (by decide) (by decide))
    isplitl [H1] <;> iassumption
  isplitl [H2 H8]
  · iapply (ts 2 8 2 rfl rfl (by decide) (by decide))
    isplitl [H2] <;> iassumption
  isplitl [H3 H9]
  · iapply (ts 3 9 3 rfl rfl (by decide) (by decide))
    isplitl [H3] <;> iassumption
  isplitl [H4 H10]
  · iapply (ts 4 10 4 rfl rfl (by decide) (by decide))
    isplitl [H4] <;> iassumption
  isplitl [H5 H11]
  · iapply (ts 5 11 5 rfl rfl (by decide) (by decide))
    isplitl [H5] <;> iassumption
  isplitl [H6 H12]
  · iapply (ts 6 12 6 rfl rfl (by decide) (by decide))
    isplitl [H6] <;> iassumption
  iempintro

/-- What the launch deals device `c`. -/
def G (c : Dev nD) : sProp 𝕄 :=
  iprop((bigSep Finset.univ fun k : Fin 33 => roundState ER (Rd m ρ) (kcell (c, k)) 0)
    ∗ (bigSep Finset.univ fun k : Fin 33 => iprop(atPos ER (kcell (c, k)) 0 ∅ 0 ∗ reached ER (kcell (c, k)) 0))
    ∗ bigSep Finset.univ fun q => deal c q)

theorem fund_cells : BI.own (ER (initOf myCells myToks)) ⊢ (|==> bigSep Finset.univ (G m ρ) : sProp 𝕄) := by
  have hX (Φ : GSem nD τ sig → sProp 𝕄) : bigSep myCells Φ = bigSep Finset.univ fun c : Dev nD => bigSep Finset.univ fun k : Fin 33 => Φ (kcell (c, k)) := by
    unfold myCells; rw [bigSep_emb, bigSep_univ_prod]; rfl
  have hT : bigSep myToks (fun x => (dutyTok ER x.1 x.2.1 x.2.2 : sProp 𝕄)) = bigSep Finset.univ fun c : Dev nD => bigSep Finset.univ fun q => deal c q := by
    unfold myToks; rw [bigSep_emb, bigSep_univ_prod, bigSep_univ_prod]; rfl
  iintro HX
  imod (Rounds.fund ER (Rd m ρ) myCells myToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores. -/
def osem (i : Fin 40) : SemLoc sig := .dma ⟨i.val + 2, by have := i.isLt; change _ < 42; omega⟩
/-- Of these the two rings' eight, -/
def lsem (i : Fin 8) : SemLoc sig := .dma ⟨i.val + 2, by have := i.isLt; change _ < 42; omega⟩

theorem ownSemFacts : Pipeline.OwnSemFacts cfg0.spec osem := by decide

/-- and the exchange's thirty-two, the barrier's semaphore aside. -/
theorem fin40 : (Finset.univ : Finset (Fin 40)) = (Finset.univ : Finset (Fin 8)).map (Fin.castAddEmb 32) ∪ (Finset.univ : Finset (Fin 32)).map (Fin.natAddEmb 8) := by decide
theorem fin40_disj : Disjoint ((Finset.univ : Finset (Fin 8)).map (Fin.castAddEmb 32)) ((Finset.univ : Finset (Fin 32)).map (Fin.natAddEmb 8)) := by decide
theorem fin33 : (Finset.univ : Finset (Fin 33)) = insert 0 ((Finset.univ : Finset (Fin 32)).map (Fin.succEmb 32)) := by decide

theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := ℕ) (Name := ℕ) (U := UU) (Lvl := ℕ) (Val := Elt F) (τ := τ) osem c ∗ unscopedSems0 c)
      ⊣⊢ (iprop((bigSep Finset.univ fun k : Fin 33 => semVal (kcell (c, k)) 0) ∗ bigSep Finset.univ fun i : Fin 8 => semVal ((c : Thread nD τ), lsem i) 0) : sProp 𝕄) := by
  have e : (Pipeline.ownSems0 (Ix := ℕ) (Name := ℕ) (U := UU) (Lvl := ℕ) (Val := Elt F) (τ := τ) osem c : sProp 𝕄)
      = bigSep (Finset.univ : Finset (Fin 40)) fun i => semVal ((c : Thread nD τ), osem i) 0 := rfl
  have e2 : bigSep (Finset.univ : Finset (Fin 40)) (fun i => (semVal ((c : Thread nD τ), osem i) 0 : sProp 𝕄))
      = iprop((bigSep Finset.univ fun i : Fin 8 => semVal ((c : Thread nD τ), lsem i) 0)
        ∗ bigSep Finset.univ fun k : Fin 32 => semVal (kcell (c, k.succ)) 0) := by
    rw [fin40, bigSep_union fin40_disj, bigSep_emb, bigSep_emb]
    congr 1
  have e3 : bigSep (Finset.univ : Finset (Fin 33)) (fun k => (semVal (kcell (c, k)) 0 : sProp 𝕄))
      = iprop(semVal (barCell c) 0 ∗ bigSep Finset.univ fun k : Fin 32 => semVal (kcell (c, k.succ)) 0) := by
    rw [fin33, bigSep_put (by decide), bigSep_emb]; rfl
  rw [e, e2, e3, unscoped_eq]
  constructor
  · iintro ⟨⟨H1, H2⟩, H3⟩
    iframe
  · iintro ⟨⟨H3, H2⟩, H1⟩
    iframe

/-! ## The exchange's records -/

def recs (K : Dev nD × Fin 33 → ℕ) : sProp 𝕄 :=
  iprop((bigSep Finset.univ fun ck : Dev nD × Fin 33 => cellInv ER (Rd m ρ) (K ck) (kcell ck))
    ∗ bigSep Finset.univ fun ck : Dev nD × Fin 33 => reached ER (kcell ck) 0)
instance recs_persistent (K : Dev nD × Fin 33 → ℕ) : BI.Persistent (recs m ρ K) := by unfold recs; infer_instance

/-- What stays with device `c`: its positions, its duties, its rings' semaphores. -/
def lin (c : Dev nD) : sProp 𝕄 :=
  iprop((bigSep Finset.univ fun k : Fin 33 => atPos ER (kcell (c, k)) 0 ∅ 0) ∗ (bigSep Finset.univ fun q => deal c q)
    ∗ bigSep Finset.univ fun i : Fin 8 => semVal ((c : Thread nD τ), lsem i) 0)
def G' (c : Dev nD) : sProp 𝕄 := iprop(∃ K, recs m ρ K ∗ lin c)

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : Fin 33 => reached ER (kcell (c, k)) 0) ∗ lin c) := by
  unfold G lin
  simp only [bigSep_sep']
  iintro ⟨Hos, Hus, Hst, ⟨Hat, Hre⟩, Htok⟩
  ihave Hv := (sems_eq (F := F) c).1 $$ [Hos Hus]
  · isplitl [Hos] <;> iassumption
  icases Hv with ⟨Hv, Hl⟩
  imod (show iprop((bigSep Finset.univ fun k : Fin 33 => semVal (kcell (c, k)) 0) ∗ bigSep Finset.univ fun k : Fin 33 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok] <;> iassumption

theorem share_recs {I : Type} [DecidableEq I] {S : Finset I} {R : sProp 𝕄} [BI.Persistent R] (Φ : I → sProp 𝕄) :
    iprop(R ∗ bigSep S Φ) ⊢ bigSep S fun i => iprop(R ∗ Φ i) := by
  have h : iprop(R ∗ bigSep S Φ) ⊢ iprop((bigSep S fun _ => R) ∗ bigSep S Φ) := sep_mono_left (BI.bigSep_of_persistent S R)
  rw [← bigSep_sep'] at h
  exact h

theorem regroup :
    (bigSep Finset.univ fun c : Dev nD => iprop((bigSep Finset.univ fun k => iprop(∃ κ : ℕ, cellInv ER (Rd m ρ) κ (kcell (c, k))))
          ∗ (bigSep Finset.univ fun k : Fin 33 => reached ER (kcell (c, k)) 0) ∗ lin c) : sProp 𝕄)
      ⊢ bigSep Finset.univ (G' m ρ) := by
  rw [bigSep_sep', bigSep_sep', ← bigSep_univ_prod (fun ck : Dev nD × Fin 33 => iprop(∃ κ : ℕ, cellInv ER (Rd m ρ) κ (kcell ck))),
    ← bigSep_univ_prod (fun ck : Dev nD × Fin 33 => (reached ER (kcell ck) 0 : sProp 𝕄))]
  iintro ⟨HI, HR, Hl⟩
  ihave HK := (BI.bigSep_exists_pi Finset.univ (fun (ck : Dev nD × Fin 33) (κ : ℕ) => (cellInv ER (Rd m ρ) κ (kcell ck) : sProp 𝕄))) $$ HI
  icases HK with ⟨%K, HI⟩
  ihave H := (share_recs (R := recs m ρ K) (S := Finset.univ) (fun c : Dev nD => lin c)) $$ [HI HR Hl]
  · unfold recs
    isplitr [Hl]
    · isplitl [HI] <;> iassumption
    · iexact Hl
  have hi (c : Dev nD) : iprop(recs m ρ K ∗ lin c) ⊢ G' m ρ c := by
    unfold G'; iintro H; iexists K; iexact H
  have hm : (bigSep Finset.univ fun c : Dev nD => iprop(recs m ρ K ∗ lin c) : sProp 𝕄) ⊢ bigSep Finset.univ (G' m ρ) :=
    bigSep_mono fun c _ => hi c
  iapply hm; iexact H

/-- The cells' invariants set up on all devices at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.Mlp

end
-- ==== Proof.Entry.lean ====
module

public import proofs.«01_k».proof.Proof.Fund

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem pt_sub (ℓ : Loc nD τ sig) (S : Finset (Idx ℓ)) (q : PosShare TreeShare) (f : Buf (Elt F) ℓ) : (ℓ ↦{q} f) ⊢ (ℓ ↦[S]{q} f : sProp 𝕄) := by
  have h := (pointsTo_union (ℓ := ℓ) (q := q) (f := f) (I := S) (J := Finset.univ \ S) (Ix := ℕ) (Name := ℕ) (U := UU) (Lvl := ℕ) Finset.disjoint_sdiff).1
  rw [Finset.union_sdiff_of_subset (Finset.subset_univ S)] at h
  iintro H
  ihave H := h $$ H
  icases H with ⟨H, -⟩
  iexact H

/-! ## The cells, sorted by peer -/

theorem rIx_inj (b : Bool) : Function.Injective (rIx b) := by cases b <;> decide
theorem sIx_inj (b : Bool) : Function.Injective (sIx b) := by cases b <;> decide
theorem fin33_sort : (Finset.univ : Finset (Fin 33)) = insert 0 ((Finset.univ.map ⟨rIx false, rIx_inj false⟩ ∪ Finset.univ.map ⟨rIx true, rIx_inj true⟩)
    ∪ (Finset.univ.map ⟨sIx false, sIx_inj false⟩ ∪ Finset.univ.map ⟨sIx true, sIx_inj true⟩)) := by decide

theorem cells_eq (Φ : SemLoc sig → sProp 𝕄) : bigSep Finset.univ (fun k : Fin 33 => Φ (csem k))
    = iprop(Φ (.reg barS) ∗ bigSep Finset.univ fun q : Dev nD =>
        iprop((Φ (.dma (rsem false q)) ∗ Φ (.dma (rsem true q))) ∗ Φ (.dma (ssem false q)) ∗ Φ (.dma (ssem true q)))) := by
  rw [fin33_sort, bigSep_put (by decide), bigSep_union (by decide), bigSep_union (by decide), bigSep_union (by decide)]
  simp only [bigSep_emb, Function.Embedding.coeFn_mk, csem_r, csem_s, csem_bar]
  rw [bigSep_sep', bigSep_sep', bigSep_sep']
  rfl

theorem five (A₀ A₁ A₂ A₃ A₄ B : sProp 𝕄) : iprop(A₀ ∗ A₁ ∗ A₂ ∗ A₃ ∗ A₄ ∗ B) = iprop((A₀ ∗ A₁ ∗ A₂ ∗ A₃ ∗ A₄) ∗ B) := by
  have h₁ : iprop(A₀ ∗ A₁ ∗ A₂ ∗ A₃ ∗ A₄ ∗ B) ⊢ iprop((A₀ ∗ A₁ ∗ A₂ ∗ A₃ ∗ A₄) ∗ B) := by
    iintro ⟨H0, H1, H2, H3, H4, H5⟩
    iframe
  have h₂ : iprop((A₀ ∗ A₁ ∗ A₂ ∗ A₃ ∗ A₄) ∗ B) ⊢ iprop(A₀ ∗ A₁ ∗ A₂ ∗ A₃ ∗ A₄ ∗ B) := by
    iintro ⟨⟨H0, H1, H2, H3, H4⟩, H5⟩
    iframe
  exact Entails.antisymm h₁ h₂

theorem low_eq (Φ : SemLoc sig → sProp 𝕄) : bigSep Finset.univ (fun i : Fin 8 => Φ (lsem i))
    = iprop((bigSep (Finset.range 5) fun k => Φ (.dma (wiSem k))) ∗ bigSep (Finset.range 3) fun k => Φ (.dma (woSem k))) := by
  have e : bigSep Finset.univ (fun i : Fin 8 => Φ (lsem i))
      = iprop(Φ (.dma (wiSem 0)) ∗ Φ (.dma (wiSem 1)) ∗ Φ (.dma (wiSem 2)) ∗ Φ (.dma (wiSem 3)) ∗ Φ (.dma (wiSem 4))
        ∗ Φ (.dma (woSem 0)) ∗ Φ (.dma (woSem 1)) ∗ Φ (.dma (woSem 2))) :=
    bigSep_univ_eq_bigSepL [(0 : Fin 8), 1, 2, 3, 4, 5, 6, 7] (by decide) (by decide) _
  have e5 (Ψ : ℕ → sProp 𝕄) : bigSep (Finset.range 5) Ψ = iprop(Ψ 0 ∗ Ψ 1 ∗ Ψ 2 ∗ Ψ 3 ∗ Ψ 4) :=
    bigSep_eq_bigSepL_of_eq [0, 1, 2, 3, 4] (by decide) (by decide) Ψ
  have e3 (Ψ : ℕ → sProp 𝕄) : bigSep (Finset.range 3) Ψ = iprop(Ψ 0 ∗ Ψ 1 ∗ Ψ 2) :=
    bigSep_eq_bigSepL_of_eq [0, 1, 2] (by decide) (by decide) Ψ
  rw [e, e5, e3]
  exact five _ _ _ _ _ _

/-! ## The weights' shares -/

section Weights
variable (c : Dev nD)

theorem arr_toks (b : Ref sig .tc) (k : ℕ) (f : Buf (Elt F) ((c : Thread nD τ).loc b)) : (((c : Thread nD τ).loc b) ↦{fullShare} f)
    ⊢ (iprop((((c : Thread nD τ).loc b) ↦{Transfers.shareDrop fullShare k} f)
      ∗ bigSep (Finset.range k) fun i => ((c : Thread nD τ).loc b) ↦{Transfers.shareTokN fullShare i} f) : sProp 𝕄) :=
  (Transfers.pointsTo_toks_range fullShare k).1

/-- One array of each layer, split into shares. -/
abbrev tk (b : Ref sig .tc) (i : ℕ) : sProp 𝕄 := ((c : Thread nD τ).loc b) ↦{Transfers.shareTokN fullShare i} m ((c : Thread nD τ).loc b)

theorem wi_tok (i : ℕ) : iprop(tk m c main_arg1 i ∗ tk m c main_arg3 i ∗ tk m c main_arg5 i) ⊢ wiR.srcTok m c i := by
  have h : ∀ l : ℕ, iprop(tk m c main_arg1 i ∗ tk m c main_arg3 i ∗ tk m c main_arg5 i)
      ⊢ ((winM l).view.loc (c : Thread nD τ) ↦[((winM l).slice (Rect.unit (s := S2048x4096) ![0, 512 * (i % 8)] S2048x512.size (inb_wi i)) (fun _ => rfl)).view.set]{Transfers.shareTokN fullShare i}
        m ((winM l).view.loc (c : Thread nD τ)) : sProp 𝕄)
    | 0 => by iintro ⟨H, -, -⟩; iapply (pt_sub _ _ _ _) $$ H
    | 1 => by iintro ⟨-, H, -⟩; iapply (pt_sub _ _ _ _) $$ H
    | _ + 2 => by iintro ⟨-, -, H⟩; iapply (pt_sub _ _ _ _) $$ H
  exact h (i / 8)
theorem wo_tok (i : ℕ) : iprop(tk m c main_arg2 i ∗ tk m c main_arg4 i ∗ tk m c main_arg6 i) ⊢ woR.srcTok m c i := by
  have h : ∀ l : ℕ, iprop(tk m c main_arg2 i ∗ tk m c main_arg4 i ∗ tk m c main_arg6 i)
      ⊢ ((woutM l).view.loc (c : Thread nD τ) ↦[((woutM l).slice (Rect.unit (s := S4096x2048) ![0, 512 * (i % 4)] S4096x512.size (inb_wo i)) (fun _ => rfl)).view.set]{Transfers.shareTokN fullShare i}
        m ((woutM l).view.loc (c : Thread nD τ)) : sProp 𝕄)
    | 0 => by iintro ⟨H, -, -⟩; iapply (pt_sub _ _ _ _) $$ H
    | 1 => by iintro ⟨-, H, -⟩; iapply (pt_sub _ _ _ _) $$ H
    | _ + 2 => by iintro ⟨-, -, H⟩; iapply (pt_sub _ _ _ _) $$ H
  exact h (i / 4)

/-- What stays behind of a weight array, to say at the end that it is unchanged. -/
abbrev kept (b : Ref sig .tc) (k : ℕ) : sProp 𝕄 := ((c : Thread nD τ).loc b) ↦{Transfers.shareDrop fullShare k} m ((c : Thread nD τ).loc b)
def Zk : sProp 𝕄 := iprop(kept m c main_arg1 24 ∗ kept m c main_arg2 12 ∗ kept m c main_arg3 24 ∗ kept m c main_arg4 12 ∗ kept m c main_arg5 24 ∗ kept m c main_arg6 12)
def Wts : sProp 𝕄 := iprop((bigSep (Finset.range 24) fun i => wiR.srcTok m c i) ∗ bigSep (Finset.range 12) fun i => woR.srcTok m c i)

theorem weights : Pipeline.unscopedRest (Ix := ℕ) (Name := ℕ) (U := UU) (Lvl := ℕ) spec0 c (fun b => m ((c : Thread nD τ).loc b)) ⊢ iprop(Zk m c ∗ Wts m c) := by
  have hi : iprop((bigSep (Finset.range 24) fun i => tk m c main_arg1 i) ∗ (bigSep (Finset.range 24) fun i => tk m c main_arg3 i) ∗ bigSep (Finset.range 24) fun i => tk m c main_arg5 i)
      ⊢ bigSep (Finset.range 24) fun i => wiR.srcTok m c i := by
    rw [← bigSep_sep', ← bigSep_sep']; exact bigSep_mono fun i _ => wi_tok m c i
  have ho : iprop((bigSep (Finset.range 12) fun i => tk m c main_arg2 i) ∗ (bigSep (Finset.range 12) fun i => tk m c main_arg4 i) ∗ bigSep (Finset.range 12) fun i => tk m c main_arg6 i)
      ⊢ bigSep (Finset.range 12) fun i => woR.srcTok m c i := by
    rw [← bigSep_sep', ← bigSep_sep']; exact bigSep_mono fun i _ => wo_tok m c i
  rw [unscopedRest0_eq]
  unfold Zk Wts
  iintro ⟨H1, H2, H3, H4, H5, H6⟩
  ihave H1 := (arr_toks c main_arg1 24 _) $$ H1
  ihave H2 := (arr_toks c main_arg2 12 _) $$ H2
  ihave H3 := (arr_toks c main_arg3 24 _) $$ H3
  ihave H4 := (arr_toks c main_arg4 12 _) $$ H4
  ihave H5 := (arr_toks c main_arg5 24 _) $$ H5
  ihave H6 := (arr_toks c main_arg6 12 _) $$ H6
  icases H1 with ⟨K1, H1⟩
  icases H2 with ⟨K2, H2⟩
  icases H3 with ⟨K3, H3⟩
  icases H4 with ⟨K4, H4⟩
  icases H5 with ⟨K5, H5⟩
  icases H6 with ⟨K6, H6⟩
  isplitl [K1 K2 K3 K4 K5 K6]
  · isplitl [K1]; · iexact K1
    isplitl [K2]; · iexact K2
    isplitl [K3]; · iexact K3
    isplitl [K4]; · iexact K4
    isplitl [K5]; · iexact K5
    iexact K6
  isplitl [H1 H3 H5]
  · iapply hi
    isplitl [H1]; · iexact H1
    isplitl [H3]; · iexact H3
    iexact H5
  · iapply ho
    isplitl [H2]; · iexact H2
    isplitl [H4]; · iexact H4
    iexact H6
end Weights

/-! ## The body's first state -/

/-- The device's cells no copy uses: its own slots of the four semaphore arrays. -/
def Idle (c : Dev nD) : sProp 𝕄 :=
  iprop((atPos ER (rcell false c c) 0 ∅ 0 ∗ atPos ER (rcell true c c) 0 ∅ 0) ∗ atPos ER (scell false c c) 0 ∅ 0 ∗ atPos ER (scell true c c) 0 ∅ 0)

/-- What device `c`'s body starts from, the buffers aside. -/
def start (c : Dev nD) : sProp 𝕄 :=
  iprop(∃ K, records m ρ K ∗ lin c ∗ (cred (tallyAt (barCell c) 0 7) ∗ bigSep (Finset.univ.erase c) fun q => bigSep (Finset.Ico 1 7) fun φ => credR c q φ) ∗ Wts m c)

def junks (c : Dev nD) : sProp 𝕄 :=
  iprop(junk c cc0_scratch0 ∗ junk c cc0_scratch1 ∗ junk c cc0_scratch2 ∗ junk c (landB false) ∗ junk c cc0_scratch4 ∗ junk c (landB true) ∗ junk c cc0_scratch6 ∗ junk c cc0_scratch7)

def Φ₀ (c : Dev nD) : sProp 𝕄 :=
  iprop(∃ K, (records m ρ K ∗ Bar c 0 ∗ Prs m ρ c 0 0 8 ∗ Snd m ρ c 0 8 0 0 ∗ Ags m ρ c 0 8 0 0 ∗ Slf m ρ c 0 0 0
    ∗ wiR.St m c 0 0 ∗ woR.St m c 0 0 ∗ Xb m ρ c 0 0 ∗ Hh m ρ c 0 0) ∗ Idle c)

section Start
variable {m ρ} {K : Dev nD × Fin 33 → ℕ} {c : Dev nD}

theorem peer_start {q : Dev nD} :
    iprop(records m ρ K ∗ deal c q ∗ (bigSep (Finset.Ico 1 7) fun φ => credR c q φ) ∗ anyAt c (slotM false q) ∗ anyAt c (slotM true q)
        ∗ (atPos ER (rcell false q c) 0 ∅ 0 ∗ atPos ER (rcell true q c) 0 ∅ 0) ∗ atPos ER (scell false q c) 0 ∅ 0 ∗ atPos ER (scell true q c) 0 ∅ 0)
      ⊢ Peer m ρ c q 0 0 1 := by
  unfold Peer Hold PosR PosS
  rw [show max 0 1 = 1 from rfl, if_neg (by omega : ¬ 1 < 0), if_pos rfl, if_pos (by omega : 0 ≤ 1), if_neg (by omega : ¬ (0 = 0 ∧ 0 < 0)), if_neg (by omega : ¬ (0 = 0 ∧ 1 < 0)),
    if_neg (by omega : ¬ 0 = 7), show par 1 = false from rfl, show par (1 + 1) = true from rfl, show rnd 1 = 0 from rfl, show rnd (1 + 1) = 0 from rfl]
  iintro ⟨#Hr, Hd, Hc, H1, H2, ⟨Ha1, Ha2⟩, Hb1, Hb2⟩
  ihave Hd := (deal_tok c q) $$ Hd
  isplitl [Hd]; · iexact Hd
  isplitl [Hc]; · iexact Hc
  isplitl []; · iempintro
  isplitl [H1 H2]
  · isplitl [H1]; · iexact H1
    isplitl [H2]; · iexact H2
    isplitl []; · iempintro
    isplitl []; · iempintro
    iempintro
  isplitl [Ha1 Ha2]
  · isplitl [Ha1] <;> iassumption
  isplitl [Hb1]
  · isplitl [Hb1]; · iexact Hb1
    iapply (reached_s m ρ K false q c) $$ Hr
  · isplitl [Hb2]; · iexact Hb2
    iapply (reached_s m ρ K true q c) $$ Hr

theorem prs_start :
    iprop(records m ρ K ∗ (bigSep (Finset.univ.erase c) fun q => deal c q) ∗ (bigSep (Finset.univ.erase c) fun q => bigSep (Finset.Ico 1 7) fun φ => credR c q φ)
        ∗ (bigSep (Finset.univ.erase c) fun q => anyAt c (slotM false q)) ∗ (bigSep (Finset.univ.erase c) fun q => anyAt c (slotM true q))
        ∗ bigSep (Finset.univ.erase c) fun q => iprop((atPos ER (rcell false q c) 0 ∅ 0 ∗ atPos ER (rcell true q c) 0 ∅ 0) ∗ atPos ER (scell false q c) 0 ∅ 0 ∗ atPos ER (scell true q c) 0 ∅ 0))
      ⊢ Prs m ρ c 0 0 8 := by
  rw [← bigSep_sep', ← bigSep_sep', ← bigSep_sep', ← bigSep_sep']
  refine (share_recs (R := records m ρ K) _).trans ?_
  unfold Prs
  refine bigSep_mono fun q _ => ?_
  rw [cnt_mul (by rfl : 0 % 8 = 0) q, cnt_mul (by rfl : 8 % 8 = 0) q]
  exact peer_start

theorem snd_start : (bigSep Finset.univ fun q => anyAt c (sendM q)) ⊢ Snd m ρ c 0 8 0 0 := by
  unfold Snd
  refine bigSep_mono fun q _ => ?_
  rw [if_neg (fun h : fly c q 0 8 1 => by have := h.2.1; rw [cnt_mul (by rfl : 0 % 8 = 0) q, cnt_mul (by rfl : 8 % 8 = 0) q] at this; omega)]
  exact ownsSat_mono (c : Thread nD τ) _ _ fun X _ h => absurd h (Nat.not_lt_zero _)

theorem ags_start : junk c cc0_scratch4 ⊢ Ags m ρ c 0 8 0 0 := by
  unfold Ags
  iintro ⟨%f, H⟩
  iexists f
  isplitr
  · ipureintro; exact fun h => absurd h (Nat.lt_irrefl 0)
  rw [ag_join (c := c) f (n := 0) (v := 8) (fun q h => by have := h.2.1; rw [cnt_mul (by rfl : 0 % 8 = 0) q, cnt_mul (by rfl : 8 % 8 = 0) q] at this; omega)]
  iapply (whole_in c cc0_scratch4 (· = f) f rfl) $$ H

theorem ring_start (R : Ring) : iprop((bigSep (Finset.range R.tot) fun i => R.srcTok m c i)
    ∗ (bigSep (Finset.range R.d) fun k => semVal ((c : Thread nD τ), .dma (R.sem k)) 0) ∗ bigSep (Finset.range R.d) fun k => R.slotAt c k fun _ => True) ⊢ R.St m c 0 0 := by
  have h : ∀ k ∈ Finset.range R.d, iprop(semVal ((c : Thread nD τ), .dma (R.sem k)) 0 ∗ R.slotAt c k fun _ => True) ⊢ R.slotSt m c (cnt R.d 0 k) (cnt R.d 0 k) k := fun k hk => by
    have e : cnt R.d 0 k = 0 := by unfold cnt; rw [Nat.zero_div, Nat.zero_mod, if_neg (Nat.not_lt_zero _)]
    unfold Ring.slotSt Ring.slotAt
    rw [if_neg (Nat.lt_irrefl _), e]
    exact sep_mono_right (ownsSat_mono (c : Thread nD τ) _ _ fun X _ h => absurd h (Nat.lt_irrefl 0))
  unfold Ring.St
  rw [← Finset.range_eq_Ico]
  iintro ⟨H1, H2⟩
  isplitl [H1]; · iexact H1
  have hh : iprop((bigSep (Finset.range R.d) fun k => semVal ((c : Thread nD τ), .dma (R.sem k)) 0) ∗ bigSep (Finset.range R.d) fun k => R.slotAt c k fun _ => True)
      ⊢ bigSep (Finset.range R.d) fun k => R.slotSt m c (cnt R.d 0 k) (cnt R.d 0 k) k := by
    rw [← bigSep_sep']; exact bigSep_mono h
  iapply hh; iexact H2

theorem phi_start : iprop(start m ρ c ∗ junks c) ⊢ Φ₀ m ρ c := by
  have hp := cells_eq (F := F) (fun sm => atPos ER ((c : Thread nD τ), sm) 0 ∅ 0)
  have hl := low_eq (F := F) (fun sm => semVal ((c : Thread nD τ), sm) 0)
  have hwi := ring_start (m := m) (c := c) wiR
  have hwo := ring_start (m := m) (c := c) woR
  have hx : (junk c cc0_scratch0 : sProp 𝕄) ⊢ Xb m ρ c 0 0 := by
    unfold Xb; iintro ⟨%f, H⟩
    iapply (whole_in c cc0_scratch0 _ f (fun i h => absurd h (by omega))) $$ H
  have hh : (junk c cc0_scratch1 : sProp 𝕄) ⊢ Hh m ρ c 0 0 := by
    unfold Hh; iintro ⟨%f, H⟩
    iapply (whole_in c cc0_scratch1 _ f (fun i h => absurd h (by omega))) $$ H
  have hs : iprop(anyAt c (slotM false c) ∗ anyAt c (slotM true c)) ⊢ Slf m ρ c 0 0 0 :=
    BIClass.sep_mono (ownsSat_mono (c : Thread nD τ) _ _ fun X _ h => absurd h (Nat.not_lt_zero _))
      (ownsSat_mono (c : Thread nD τ) _ _ fun X _ h => absurd h (Nat.not_lt_zero _))
  have hb : iprop(cred (tallyAt (barCell c) 0 7) ∗ atPos ER (barCell c) 0 ∅ 0) ⊢ (Bar c 0 : sProp 𝕄) := by unfold Bar; rw [if_pos rfl]
  have hpull (Φ : Dev nD → sProp 𝕄) : bigSep Finset.univ Φ = iprop(Φ c ∗ bigSep (Finset.univ.erase c) Φ) := bigSep_pull (Finset.mem_univ c) Φ
  unfold start lin junks Wts Φ₀ Idle
  iintro ⟨⟨%K, #Hr, ⟨Hat, Hdeal, Hlow⟩, ⟨Hcb, Hcr⟩, Hwi, Hwo⟩, J0, J1, J2, J3, J4, J5, J6, J7⟩
  ihave Hat := (Entails.of_eq hp) $$ Hat
  ihave Hlow := (Entails.of_eq hl) $$ Hlow
  icases Hat with ⟨Hbar, Hat⟩
  icases Hlow with ⟨Hli, Hlo⟩
  ihave Hat := (Entails.of_eq (hpull _)) $$ Hat
  icases Hat with ⟨Hidle, Hat⟩
  ihave Hdeal := (Entails.of_eq (hpull _)) $$ Hdeal
  icases Hdeal with ⟨-, Hdeal⟩
  ihave J3 := (land_split c false) $$ J3
  ihave J3 := (Entails.of_eq (hpull _)) $$ J3
  icases J3 with ⟨S3, J3⟩
  ihave J5 := (land_split c true) $$ J5
  ihave J5 := (Entails.of_eq (hpull _)) $$ J5
  icases J5 with ⟨S5, J5⟩
  iexists K
  isplitr [Hidle]
  · isplitl []; · iexact Hr
    isplitl [Hcb Hbar]
    · iapply hb; isplitl [Hcb] <;> iassumption
    isplitl [Hdeal Hcr J3 J5 Hat]
    · iapply (prs_start (m := m) (ρ := ρ) (K := K) (c := c))
      isplitl []; · iexact Hr
      isplitl [Hdeal]; · iexact Hdeal
      isplitl [Hcr]; · iexact Hcr
      isplitl [J3]; · iexact J3
      isplitl [J5]; · iexact J5
      iexact Hat
    isplitl [J2]
    · iapply snd_start
      iapply (send_split c) $$ J2
    isplitl [J4]
    · iapply ags_start $$ J4
    isplitl [S3 S5]
    · iapply hs; isplitl [S3] <;> iassumption
    isplitl [Hwi Hli J6]
    · iapply hwi
      isplitl [Hwi]; · iexact Hwi
      isplitl [Hli]; · iexact Hli
      iapply (wi_split c) $$ J6
    isplitl [Hwo Hlo J7]
    · iapply hwo
      isplitl [Hwo]; · iexact Hwo
      isplitl [Hlo]; · iexact Hlo
      iapply (wo_split c) $$ J7
    isplitl [J0]
    · iapply hx $$ J0
    iapply hh $$ J1
  · iexact Hidle
end Start

/-! ## The body's last state -/

section Stop
variable {m ρ} {K : Dev nD × Fin 33 → ℕ} {c : Dev nD}

theorem close_bar : iprop(records m ρ K ∗ atPos ER (barCell c) 1 ∅ 0) ⊢ (iprop(|={Set.univ}=> semVal (barCell c) 0) : sProp 𝕄) :=
  (sep_mono_left (inv_bar m ρ K c)).trans (Rounds.cell_close ER (Rd m ρ) (Set.mem_univ _) (fun h => h) (duties_bar_later m ρ c))
theorem close_r (b : Bool) (q : Dev nD) {R : ℕ} (h : q ≠ c → 3 ≤ R) :
    iprop(records m ρ K ∗ atPos ER (rcell b q c) R ∅ 0) ⊢ (iprop(|={Set.univ}=> semVal (rcell b q c) 0) : sProp 𝕄) :=
  (sep_mono_left (inv_r m ρ K b q c)).trans (Rounds.cell_close ER (Rd m ρ) (Set.mem_univ _) (fun h => h) (duties_r_later m ρ c b q h))
theorem close_s (b : Bool) (q : Dev nD) {R : ℕ} (h : q ≠ c → 3 ≤ R) :
    iprop(records m ρ K ∗ atPos ER (scell b q c) R ∅ 0) ⊢ (iprop(|={Set.univ}=> semVal (scell b q c) 0) : sProp 𝕄) :=
  (sep_mono_left (inv_s m ρ K b q c)).trans (Rounds.cell_close ER (Rd m ρ) (Set.mem_univ _) (fun h => h) (duties_s_later m ρ c b q h))

/-- The four cells of one peer, closed. -/
abbrev four (c q : Dev nD) : sProp 𝕄 :=
  iprop((semVal (rcell false q c) 0 ∗ semVal (rcell true q c) 0) ∗ semVal (scell false q c) 0 ∗ semVal (scell true q c) 0)

theorem close_four (q : Dev nD) {R : ℕ} (h : q ≠ c → 3 ≤ R) :
    iprop(records m ρ K ∗ (atPos ER (rcell false q c) R ∅ 0 ∗ atPos ER (rcell true q c) R ∅ 0) ∗ atPos ER (scell false q c) R ∅ 0 ∗ atPos ER (scell true q c) R ∅ 0)
      ⊢ (iprop(|={Set.univ}=> four c q) : sProp 𝕄) := by
  iintro ⟨#Hr, ⟨H1, H2⟩, H3, H4⟩
  imod (close_r (m := m) (ρ := ρ) (K := K) (c := c) false q h) $$ [H1] with H1
  · isplitl []; · iexact Hr
    iexact H1
  imod (close_r (m := m) (ρ := ρ) (K := K) (c := c) true q h) $$ [H2] with H2
  · isplitl []; · iexact Hr
    iexact H2
  imod (close_s (m := m) (ρ := ρ) (K := K) (c := c) false q h) $$ [H3] with H3
  · isplitl []; · iexact Hr
    iexact H3
  imod (close_s (m := m) (ρ := ρ) (K := K) (c := c) true q h) $$ [H4] with H4
  · isplitl []; · iexact Hr
    iexact H4
  imodintro
  isplitl [H1 H2]
  · isplitl [H1] <;> iassumption
  isplitl [H3] <;> iassumption

theorem peer_stop {q : Dev nD} : iprop(records m ρ K ∗ Peer m ρ c q 7 7 7)
    ⊢ (iprop(|={Set.univ}=> iprop(four c q ∗ anyAt c (slotM false q) ∗ anyAt c (slotM true q))) : sProp 𝕄) := by
  unfold Peer Hold PosR PosS
  rw [show max 7 1 = 7 from rfl, if_neg (by omega : ¬ 7 = 0), if_neg (by omega : ¬ 7 ≤ 1), if_pos (by omega : 7 = 7 ∧ 0 < 7), if_pos (by omega : 7 = 7 ∧ 1 < 7),
    if_pos rfl, show par (7 - 1) = true from rfl, show par 7 = false from rfl, show par (7 + 1) = true from rfl, show rnd 7 = 3 from rfl, show rnd (7 + 1) = 3 from rfl]
  iintro ⟨#Hr, -, -, -, ⟨-, -, -, ⟨Hv, -⟩, Hz⟩, ⟨Hp1, Hp2⟩, ⟨Hq1, -⟩, Hq2, -⟩
  ihave Hv := (isAt_any _ _) $$ Hv
  imod (close_four (m := m) (ρ := ρ) (K := K) (c := c) q (R := 3) (fun _ => le_refl 3)) $$ [Hp1 Hp2 Hq1 Hq2] with H
  · isplitl []; · iexact Hr
    isplitl [Hp1 Hp2]
    · isplitl [Hp1] <;> iassumption
    isplitl [Hq1] <;> iassumption
  imodintro
  isplitl [H]; · iexact H
  isplitl [Hz] <;> iassumption

theorem prs_stop : iprop(records m ρ K ∗ Prs m ρ c 56 56 56) ⊢ (iprop(|={Set.univ}=> iprop((bigSep (Finset.univ.erase c) fun q => four c q)
    ∗ (bigSep (Finset.univ.erase c) fun q => anyAt c (slotM false q)) ∗ bigSep (Finset.univ.erase c) fun q => anyAt c (slotM true q))) : sProp 𝕄) := by
  rw [← bigSep_sep', ← bigSep_sep']
  unfold Prs
  refine (share_recs (R := records m ρ K) _).trans (BIBase.Entails.trans (bigSep_mono fun q _ => ?_) (bigSep_fupd _ _))
  rw [cnt_mul (by rfl : 56 % 8 = 0) q]
  exact peer_stop

theorem ring_stop (R : Ring) {i : ℕ} : R.St m c i i ⊢ (iprop((bigSep (Finset.range R.d) fun k => semVal ((c : Thread nD τ), .dma (R.sem k)) 0)
    ∗ bigSep (Finset.range R.d) fun k => R.slotAt c k fun _ => True) : sProp 𝕄) := by
  have h : ∀ k ∈ Finset.range R.d, R.slotSt m c (cnt R.d i k) (cnt R.d i k) k ⊢ iprop(semVal ((c : Thread nD τ), .dma (R.sem k)) 0 ∗ R.slotAt c k fun _ => True) := fun k hk => by
    unfold Ring.slotSt Ring.slotAt
    rw [if_neg (Nat.lt_irrefl _)]
    exact sep_mono_right (ownsSat_mono (c : Thread nD τ) _ _ fun X _ => trivial)
  have hh : (bigSep (Finset.range R.d) fun k => R.slotSt m c (cnt R.d i k) (cnt R.d i k) k)
      ⊢ iprop((bigSep (Finset.range R.d) fun k => semVal ((c : Thread nD τ), .dma (R.sem k)) 0) ∗ bigSep (Finset.range R.d) fun k => R.slotAt c k fun _ => True) := by
    rw [← bigSep_sep']; exact bigSep_mono h
  unfold Ring.St
  iintro ⟨-, H⟩
  iapply hh; iexact H

/-- What the body leaves, the staging buffers aside. -/
def Φ₁ (c : Dev nD) : sProp 𝕄 :=
  iprop((bigSep Finset.univ fun k : Fin 33 => semVal (kcell (c, k)) 0) ∗ (bigSep Finset.univ fun i : Fin 8 => semVal ((c : Thread nD τ), lsem i) 0) ∗ junks c)

theorem whole_junk (b : Ref sig .tc) (Φ : (b.ty.shape.Idx → Elt F b.ty.elt) → Prop) : ownsSat (c : Thread nD τ) (Memref.whole b) fullShare Φ ⊢ (junk c b : sProp 𝕄) := by
  iintro H
  ihave H := (whole_out c b Φ) $$ H
  icases H with ⟨%f, -, H⟩
  iexists f; iexact H

theorem st_stop : iprop(St m ρ K c 56 56 56 2 0 8 1 8 24 24 12 12 2 8 8 8 ∗ Idle c)
    ⊢ (iprop(|={Set.univ}=> iprop(Φ₁ c ∗ Ow c 56 ∗ Xs m ρ c ∗ Oo m ρ c 8)) : sProp 𝕄) := by
  have hp := cells_eq (F := F) (fun sm => semVal ((c : Thread nD τ), sm) 0)
  have hl := low_eq (F := F) (fun sm => semVal ((c : Thread nD τ), sm) 0)
  have hpull (Φ : Dev nD → sProp 𝕄) : bigSep Finset.univ Φ = iprop(Φ c ∗ bigSep (Finset.univ.erase c) Φ) := bigSep_pull (Finset.mem_univ c) Φ
  have hb : (Bar c 56 : sProp 𝕄) ⊢ atPos ER (barCell c) 1 ∅ 0 := by unfold Bar; rw [if_neg (by decide)]
  have hs : Snd m ρ c 56 56 2 0 ⊢ junk c cc0_scratch2 := by
    have e : Snd m ρ c 56 56 2 0 = bigSep Finset.univ fun q => ownsSat (c : Thread nD τ) (sendM q) fullShare fun X => q.val < 0 → X = part m ρ 2 c q :=
      bigSep_congr fun q _ => if_neg fun h : fly c q 56 56 1 => Nat.lt_irrefl _ h.2.1
    rw [e]; exact send_join c _
  have ha : Ags m ρ c 56 56 2 1 ⊢ junk c cc0_scratch4 := by
    unfold Ags
    iintro ⟨%X, -, H⟩
    have e := ag_join (c := c) X (n := 56) (v := 56) (fun q h => Nat.lt_irrefl _ h.2.1)
    ihave H := (Entails.of_eq e) $$ H
    iapply (whole_junk cc0_scratch4 _) $$ H
  have hslf : Slf m ρ c 2 8 8 ⊢ iprop(anyAt c (slotM false c) ∗ anyAt c (slotM true c)) :=
    BIClass.sep_mono (ownsSat_mono (c : Thread nD τ) _ _ fun X _ => trivial) (ownsSat_mono (c : Thread nD τ) _ _ fun X _ => trivial)
  have hx : Xb m ρ c 2 8 ⊢ junk c cc0_scratch0 := whole_junk cc0_scratch0 _
  have hh : Hh m ρ c 2 8 ⊢ junk c cc0_scratch1 := whole_junk cc0_scratch1 _
  unfold St Idle Φ₁ junks
  iintro ⟨⟨#Hr, HO, Hbar, Hprs, Hsnd, Hags, Hslf, Hwi, Hwo, Hxs, Hxb, Hhh, Hoo⟩, Hidle⟩
  ihave Hbar := hb $$ Hbar
  imod (close_bar (m := m) (ρ := ρ) (K := K) (c := c)) $$ [Hbar] with Hbar
  · isplitl []; · iexact Hr
    iexact Hbar
  imod (prs_stop (m := m) (ρ := ρ) (K := K) (c := c)) $$ [Hprs] with ⟨Hfour, Hland, Hland'⟩
  · isplitl []; · iexact Hr
    iexact Hprs
  imod (close_four (m := m) (ρ := ρ) (K := K) (c := c) c (R := 0) (fun h => absurd rfl h)) $$ [Hidle] with Hidle
  · isplitl []; · iexact Hr
    iexact Hidle
  ihave Hslf := hslf $$ Hslf
  icases Hslf with ⟨S3, S5⟩
  ihave Hwi := (ring_stop (m := m) (c := c) wiR) $$ Hwi
  icases Hwi with ⟨Hli, J6⟩
  ihave Hwo := (ring_stop (m := m) (c := c) woR) $$ Hwo
  icases Hwo with ⟨Hlo, J7⟩
  imodintro
  isplitr [HO Hxs Hoo]
  · isplitl [Hbar Hfour Hidle]
    · iapply (Entails.of_eq hp.symm)
      isplitl [Hbar]; · iexact Hbar
      iapply (Entails.of_eq (hpull _).symm)
      isplitl [Hidle]; · iexact Hidle
      iexact Hfour
    isplitl [Hli Hlo]
    · iapply (Entails.of_eq hl.symm)
      isplitl [Hli]; · iexact Hli
      iexact Hlo
    isplitl [Hxb]; · iapply hx $$ Hxb
    isplitl [Hhh]; · iapply hh $$ Hhh
    isplitl [Hsnd]; · iapply hs $$ Hsnd
    isplitl [S3 Hland]
    · iapply (land_join c false)
      iapply (Entails.of_eq (hpull _).symm)
      isplitl [S3]; · iexact S3
      iexact Hland
    isplitl [Hags]; · iapply ha $$ Hags
    isplitl [S5 Hland']
    · iapply (land_join c true)
      iapply (Entails.of_eq (hpull _).symm)
      isplitl [S5]; · iexact S5
      iexact Hland'
    isplitl [J6]; · iapply (wi_join c (fun _ _ => True)) $$ J6
    iapply (wo_join c (fun _ _ => True)) $$ J7
  isplitl [HO]; · iexact HO
  isplitl [Hxs] <;> iassumption
end Stop

end Cert.Mlp

end
-- ==== Proof.Steps.lean ====
/-
# 01_k — one statement of the kernel at a time: barrier, local copies, loads and stores
-/
module

public import proofs.«01_k».proof.Proof.Device

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {m : (ℓ : Loc nD τ sig) → Buf (Elt F) ℓ} {ρ : Dev nD → PrngReg} {K : Dev nD × Fin 33 → ℕ} {c : Dev nD} {α : Type}
variable {n w v l st kk fl ka iI iW oI oW lx kx kh ko : ℕ}

theorem st_start {Q : α → sProp 𝕄} {k : Dev nD → Prog (TpuEff nD τ sig (Elt F) Λ₀ .tc) α}
    (hk : St m ρ K c n w v l st kk fl ka iI iW oI oW lx kx kh ko ⊢ WP c (k c) Q) :
    St m ρ K c n w v l st kk fl ka iI iW oI oW lx kx kh ko ⊢ WP c (Prog.lift .deviceId >>= k) Q := by
  simpa only [Prog.lift, Prog.bind_op, Prog.bind_ret, wp_deviceId] using hk

theorem st_ret {Q : α → sProp 𝕄} {a : α} {P : sProp 𝕄} (hk : P ⊢ Q a) : P ⊢ WP c (pure a) Q :=
  hk.trans (le_wp_ret (Fr := frame) (wpE := wpE (defs₀ (F := F)) 𝒱₀ (c : Thread nD τ) none) (E := Set.univ) a Q)

/-! ## A step that is for the device itself -/

theorem ow_self (hc : peer n = c) (h : n < 56) : (Ow c (n + 1) : sProp 𝕄) = Ow c n := by
  unfold Ow; rw [Owe_step h, tly, if_pos hc, add_zero]

theorem skip_n (hc : peer n = c) (h : n < 56) :
    St m ρ K c n w v l st kk fl ka iI iW oI oW lx kx kh ko = St m ρ K c (n + 1) w v l st kk fl ka iI iW oI oW lx kx kh ko := by
  have hne (j : Dev nD) (hj : j ≠ c) : cnt 8 (n + 1) j.val = cnt 8 n j.val := cnt_ne (hc ▸ hj)
  unfold St
  rw [ow_self hc h, prs_congr (n := n) (n' := n + 1) hne (fun _ _ => rfl) (fun _ _ => rfl),
    snd_congr (n := n) (n' := n + 1) fun q => fly_congr (hne q) (fun _ => rfl), ags_congr (n := n) (n' := n + 1) fun q => fly_congr (hne q) (fun _ => rfl)]
theorem skip_w (hc : peer w = c) (h : w ≠ 0) :
    St m ρ K c n w v l st kk fl ka iI iW oI oW lx kx kh ko = St m ρ K c n (w + 1) v l st kk fl ka iI iW oI oW lx kx kh ko := by
  have hne (j : Dev nD) (hj : j ≠ c) : cnt 8 (w + 1) j.val = cnt 8 w j.val := cnt_ne (hc ▸ hj)
  unfold St Bar
  rw [if_neg h, if_neg (Nat.succ_ne_zero w), prs_congr (w := w) (w' := w + 1) (fun _ _ => rfl) hne (fun _ _ => rfl)]
theorem skip_v (hc : peer v = c) :
    St m ρ K c n w v l st kk fl ka iI iW oI oW lx kx kh ko = St m ρ K c n w (v + 1) l st kk fl ka iI iW oI oW lx kx kh ko := by
  have hne (j : Dev nD) (hj : j ≠ c) : cnt 8 (v + 1) j.val = cnt 8 v j.val := cnt_ne (hc ▸ hj)
  unfold St
  rw [prs_congr (v := v) (v' := v + 1) (fun _ _ => rfl) (fun _ _ => rfl) hne,
    snd_congr (v := v) (v' := v + 1) fun q => fly_congr (fun _ => rfl) (hne q), ags_congr (v := v) (v' := v + 1) fun q => fly_congr (fun _ => rfl) (hne q)]

/-! ## The barrier -/

theorem st_signal {Q : α → sProp 𝕄} {cd : Dev nD → BitVec 1} {dv : ℕ} {dvl : cd c = 1#1 → dv < nD} {sm : Sem sig}
    {j : Prog (TpuEff nD τ sig (Elt F) Λ₀ .tc) α} (hcd : ∀ d, cd d = 1#1 ↔ peer n ≠ d) (hdv : dv = n % 8) (hn : n < 8) (hv : v = 8) (hw : w = 0)
    (hsm : sm = barS) (hk : St m ρ K c (n + 1) w v l st kk fl ka iI iW oI oW lx kx kh ko ⊢ WP c j Q) :
    St m ρ K c n w v l st kk fl ka iI iW oI oW lx kx kh ko
      ⊢ WP c (dite (cd c = 1#1) (fun h => semSignalWord (⟨dv, dvl h⟩ : Dev nD) sm 1#32 >>= fun _ => j) (fun _ => j)) Q := by
  by_cases h : cd c = 1#1
  · have hq := (hcd c).mp h
    have e : (⟨dv, dvl h⟩ : Dev nD) = peer n := Fin.ext hdv
    rw [dif_pos h, e]
    have hp := prs_at (m := m) (ρ := ρ) hq (n := n) (w := w) (v := v) (n' := n + 1) (w' := w) (v' := v) (fun j hj => cnt_ne hj) (fun _ _ => rfl) (fun _ _ => rfl)
    have hp0 : n / 8 = 0 := by omega
    rw [cnt_at, cnt_succ, cnt_mul (n := w) (by omega), cnt_mul (n := v) (by omega), hp0, hw, hv] at hp
    have hcore := signal_core (m := m) (ρ := ρ) (K := K) (c := c) (q := peer n) (n := n) (v := 1) (Q := Q) hn Nat.one_pos rfl hq hsm (k := fun _ => j)
    have hs := snd_congr (m := m) (ρ := ρ) (c := c) (n := n) (v := 8) (n' := n + 1) (v' := 8) (l := l) (st := st) (fun q => fly_n (by omega) rfl)
    have ha := ags_congr (m := m) (ρ := ρ) (c := c) (n := n) (v := 8) (n' := n + 1) (v' := 8) (l := l) (fl := fl) (fun q => fly_n (by omega) rfl)
    subst hw hv
    unfold St at hk ⊢
    rw [hs, ha] at hk
    iintro ⟨#Hr, HO, HB, HP, HR⟩
    ihave HP := hp $$ HP
    icases HP with ⟨HP, Hcl⟩
    iapply hcore $$ [HO HP]
    · isplitr; · iexact Hr
      isplitl [HO] <;> iassumption
    iintro ⟨HO, HP⟩
    iapply hk
    isplitr; · iexact Hr
    isplitl [HO]; · iexact HO
    isplitl [HB]; · iexact HB
    isplitl [HP Hcl]
    · iapply Hcl; iexact HP
    · iexact HR
  · rw [dif_neg h, skip_n (not_not.mp fun hq => h ((hcd c).mpr hq)) (by omega)]
    exact hk

theorem st_barrier {Q : α → sProp 𝕄} {sm : Sem sig} {k : PUnit → Prog (TpuEff nD τ sig (Elt F) Λ₀ .tc) α}
    (hn : n = 8) (hv : v = 8) (hw : w = 0) (hsm : sm = barS)
    (hk : St m ρ K c n 8 v l st kk fl ka iI iW oI oW lx kx kh ko ⊢ WP c (k ⟨⟩) Q) :
    St m ρ K c n w v l st kk fl ka iI iW oI oW lx kx kh ko ⊢ WP c (semWaitWord sm 7#32 >>= k) Q := by
  subst hn hv hw hsm
  show _ ⊢ WP c (.op (.semWait barS (7#32 : BitVec 32).toInt) k) Q
  have hp : iprop(Prs m ρ c 8 0 8 ∗ bigSep (Finset.univ.erase c) fun q => feed 0 c q) ⊢ Prs m ρ c 8 8 8 := by
    unfold Prs
    rw [← bigSep_sep']
    refine bigSep_mono fun q _ => ?_
    rw [cnt_mul (n := 8) rfl, cnt_mul (n := 0) rfl]
    exact peer_bar
  have hl : lv (barCell c) 0 ≤ 8 / 8 := by rw [lv_bar]
  have hk7 : 0 + (7#32 : BitVec 32).toInt.toNat = (Rd (F := F) m ρ).expect (barCell c) 0 := by rw [expect_bar]; decide
  have hb0 : (Bar c 0 : sProp 𝕄) = iprop(cred (tallyAt (barCell c) 0 7) ∗ atPos ER (barCell c) 0 ∅ 0) := rfl
  have hb1 : (Bar c 8 : sProp 𝕄) = atPos ER (barCell c) 1 ∅ 0 := rfl
  unfold St Ow at hk ⊢
  rw [hb1] at hk
  rw [hb0]
  iintro ⟨#Hr, ⟨%W, HO⟩, ⟨Hc, Ha⟩, HP, HR⟩
  ihave Hi := (inv_bar m ρ K c) $$ Hr
  ihave Hl := (rec_lev m ρ K) $$ Hr
  ihave Hm := (mayWait c (.reg barS) 0 8 (by decide) hl) $$ Hl
  iapply (Rounds.wp_wait_rest_token 𝒱₀ ER (Rd m ρ) (c : Thread nD τ) none (κ := K (c, 0)) (wpE_semWait_eq 𝒱₀ (c : Thread nD τ) none Set.univ) (Set.mem_univ _) 0
    (O := Owe c 8) (W := W) (R := 0) (m := 0) (T := ∅) hk7) $$ [Hi Hc HO Hm Ha]
  · isplitl [Hi]; · iexact Hi
    isplitl [Hc]; · iexact Hc
    isplitl [HO]; · iexact HO
    isplitl [Hm] <;> iassumption
  rw [rest_bar m ρ c]
  iintro ⟨HO, Ha, -, Hp⟩
  iapply hk
  isplitr; · iexact Hr
  isplitl [HO]; · iexists _; iexact HO
  isplitl [Ha]; · iexact Ha
  isplitl [HP Hp]
  · iapply hp
    isplitl [HP] <;> iassumption
  · iexact HR

/-! ## The weights' blocks -/

theorem st_issue_wi {Q : α → sProp 𝕄} {src : Memref sig .tc .hbm S2048x512 .f32} {dst : Memref sig .tc .vmem S2048x512 .f32} {sm : SemLoc sig}
    {hsrc : src.view.WordExact} {hdst : dst.view.WordExact} {hsem : (DmaTarget.here dst : DmaTarget nD τ sig .tc .vmem S2048x512 .f32).Typed .hbm sm}
    {k : PUnit → Prog (TpuEff nD τ sig (Elt F) Λ₀ .tc) α} (hi : iI < 24) (h1 : cnt 5 iW (iI % 5) = iI / 5)
    (hs : src = wiSrc iI) (hd : dst = wiSlot (iI % 5)) (hsm : sm = .dma (wiSem (iI % 5)))
    (hk : St m ρ K c n w v l st kk fl ka (iI + 1) iW oI oW lx kx kh ko ⊢ WP c (k ⟨⟩) Q) :
    St m ρ K c n w v l st kk fl ka iI iW oI oW lx kx kh ko ⊢ WP c (Prog.lift (.enqueueDma src (.here dst) sm hsrc hdst hsem) >>= k) Q := by
  have core := Ring.issue m (R := wiR) (c := c) (i := iI) (w := iW) (Q := Q) hi h1 hs hd hsm (hsrc := hsrc) (hdst := hdst) (hsem := hsem) (k := k)
  unfold St at hk ⊢
  iintro ⟨Hr, HO, HB, HP, HS, HA, HL, HI, HR⟩
  iapply core $$ HI
  iintro HI
  iapply hk
  iframe

theorem st_issue_wo {Q : α → sProp 𝕄} {src : Memref sig .tc .hbm S4096x512 .f32} {dst : Memref sig .tc .vmem S4096x512 .f32} {sm : SemLoc sig}
    {hsrc : src.view.WordExact} {hdst : dst.view.WordExact} {hsem : (DmaTarget.here dst : DmaTarget nD τ sig .tc .vmem S4096x512 .f32).Typed .hbm sm}
    {k : PUnit → Prog (TpuEff nD τ sig (Elt F) Λ₀ .tc) α} (hi : oI < 12) (h1 : cnt 3 oW (oI % 3) = oI / 3)
    (hs : src = woSrc oI) (hd : dst = woSlot (oI % 3)) (hsm : sm = .dma (woSem (oI % 3)))
    (hk : St m ρ K c n w v l st kk fl ka iI iW (oI + 1) oW lx kx kh ko ⊢ WP c (k ⟨⟩) Q) :
    St m ρ K c n w v l st kk fl ka iI iW oI oW lx kx kh ko ⊢ WP c (Prog.lift (.enqueueDma src (.here dst) sm hsrc hdst hsem) >>= k) Q := by
  have core := Ring.issue m (R := woR) (c := c) (i := oI) (w := oW) (Q := Q) hi h1 hs hd hsm (hsrc := hsrc) (hdst := hdst) (hsem := hsem) (k := k)
  unfold St at hk ⊢
  iintro ⟨Hr, HO, HB, HP, HS, HA, HL, HI, HW, HR⟩
  iapply core $$ HW
  iintro HW
  iapply hk
  iframe

theorem st_wait_wi {Q : α → sProp 𝕄} {srcw : Memref sig .tc .hbm S2048x512 .f32} {dst : Memref sig .tc .vmem S2048x512 .f32} {sm : DmaSem sig}
    {hsrc : srcw.view.WordExact} {hdst : dst.view.WordExact} {k : PUnit → Prog (TpuEff nD τ sig (Elt F) Λ₀ .tc) α}
    (h1 : cnt 5 iI (iW % 5) = iW / 5 + 1) (hd : dst = wiSlot (iW % 5)) (hsm : sm = wiSem (iW % 5))
    (hk : St m ρ K c n w v l st kk fl ka iI (iW + 1) oI oW lx kx kh ko ⊢ WP c (k ⟨⟩) Q) :
    St m ρ K c n w v l st kk fl ka iI iW oI oW lx kx kh ko ⊢ WP c (Prog.lift (.waitDma2 sm srcw dst hsrc hdst) >>= k) Q := by
  have core := Ring.wait m ρ (R := wiR) (K := K) (c := c) (n := n) (i := iI) (w := iW) (Q := Q) h1 hd hsm (srcw := srcw) (hsrc := hsrc) (hdst := hdst) (k := k)
  unfold St at hk ⊢
  iintro ⟨#Hr, HO, HB, HP, HS, HA, HL, HI, HR⟩
  iapply core $$ [HO HI]
  · isplitr; · iexact Hr
    isplitl [HO] <;> iassumption
  iintro ⟨HO, HI⟩
  iapply hk
  isplitr; · iexact Hr
  iframe

theorem st_wait_wo {Q : α → sProp 𝕄} {srcw : Memref sig .tc .hbm S4096x512 .f32} {dst : Memref sig .tc .vmem S4096x512 .f32} {sm : DmaSem sig}
    {hsrc : srcw.view.WordExact} {hdst : dst.view.WordExact} {k : PUnit → Prog (TpuEff nD τ sig (Elt F) Λ₀ .tc) α}
    (h1 : cnt 3 oI (oW % 3) = oW / 3 + 1) (hd : dst = woSlot (oW % 3)) (hsm : sm = woSem (oW % 3))
    (hk : St m ρ K c n w v l st kk fl ka iI iW oI (oW + 1) lx kx kh ko ⊢ WP c (k ⟨⟩) Q) :
    St m ρ K c n w v l st kk fl ka iI iW oI oW lx kx kh ko ⊢ WP c (Prog.lift (.waitDma2 sm srcw dst hsrc hdst) >>= k) Q := by
  have core := Ring.wait m ρ (R := woR) (K := K) (c := c) (n := n) (i := oI) (w := oW) (Q := Q) h1 hd hsm (srcw := srcw) (hsrc := hsrc) (hdst := hdst) (k := k)
  unfold St at hk ⊢
  iintro ⟨#Hr, HO, HB, HP, HS, HA, HL, HI, HW, HR⟩
  iapply core $$ [HO HW]
  · isplitr; · iexact Hr
    isplitl [HO] <;> iassumption
  iintro ⟨HO, HW⟩
  iapply hk
  isplitr; · iexact Hr
  iframe

theorem st_load_wi {Q : α → sProp 𝕄} {off : Fin 3 → ℕ} {inb : ∀ a, off a + S1x2048x512.size a ≤ S5x2048x512.size a}
    {hl : wiM.view.LoadsAt (Rect.unit (s := S5x2048x512) off S1x2048x512.size inb).toLoadRect}
    {k : Vec F S1x2048x512 .f32 → Prog (TpuEff nD τ sig (Elt F) Λ₀ .tc) α} (h0 : 0 < iW) (hoff : off = ![((iW - 1) % 5) % 5, 0, 0])
    (h1 : cnt 5 iI ((iW - 1) % 5) = (iW - 1) / 5 + 1) (h2 : cnt 5 iW ((iW - 1) % 5) = (iW - 1) / 5 + 1)
    (hk : St m ρ K c n w v l st kk fl ka iI iW oI oW lx kx kh ko ⊢ WP c (k (wiUp (wiV m c (iW - 1)))) Q) :
    St m ρ K c n w v l st kk fl ka iI iW oI oW lx kx kh ko
      ⊢ WP c (Prog.lift (.load wiM (Rect.unit (s := S5x2048x512) off S1x2048x512.size inb).toLoadRect hl) >>= k) Q := by
  subst hoff
  have core := load_slot (c := c) (M := wiM) (r := Rect.unit (s := S5x2048x512) ![((iW - 1) % 5) % 5, 0, 0] S1x2048x512.size inb) (hl := hl) (fun _ => rfl)
    squeezes_S1x2048x512_S2048x512 casts_wi (q := fullShare) (X := wiV m c (iW - 1)) (Q := Q) (k := k)
  have take : (bigSep (Finset.range 5) fun k => Ring.slotSt m wiR c (cnt 5 iI k) (cnt 5 iW k) k)
      ⊢ iprop(ownsSat (c : Thread nD τ) ((wiM.slice (Rect.unit (s := S5x2048x512) ![((iW - 1) % 5) % 5, 0, 0] S1x2048x512.size inb) (fun _ => rfl)).squeeze S2048x512 squeezes_S1x2048x512_S2048x512) fullShare (· = wiV m c (iW - 1))
        ∗ (ownsSat (c : Thread nD τ) ((wiM.slice (Rect.unit (s := S5x2048x512) ![((iW - 1) % 5) % 5, 0, 0] S1x2048x512.size inb) (fun _ => rfl)).squeeze S2048x512 squeezes_S1x2048x512_S2048x512) fullShare (· = wiV m c (iW - 1))
          -∗ (bigSep (Finset.range 5) fun k => Ring.slotSt m wiR c (cnt 5 iI k) (cnt 5 iW k) k))) :=
    Ring.take_load m (R := wiR) (c := c) (i := iI) (w := iW) (j := iW - 1) h1 h2
  unfold St at hk ⊢
  unfold Ring.St at hk ⊢
  iintro ⟨Hr, HO, HB, HP, HS, HA, HL, ⟨HI, Hsl⟩, HR⟩
  ihave H := take $$ Hsl
  icases H with ⟨H, Hcl⟩
  iapply core $$ H
  iintro H
  iapply hk
  ihave H := Hcl $$ H
  iframe

theorem st_load_wo {Q : α → sProp 𝕄} {off : Fin 3 → ℕ} {inb : ∀ a, off a + S1x4096x512.size a ≤ S3x4096x512.size a}
    {hl : woM.view.LoadsAt (Rect.unit (s := S3x4096x512) off S1x4096x512.size inb).toLoadRect}
    {k : Vec F S1x4096x512 .f32 → Prog (TpuEff nD τ sig (Elt F) Λ₀ .tc) α} (h0 : 0 < oW) (hoff : off = ![((oW - 1) % 3) % 3, 0, 0])
    (h1 : cnt 3 oI ((oW - 1) % 3) = (oW - 1) / 3 + 1) (h2 : cnt 3 oW ((oW - 1) % 3) = (oW - 1) / 3 + 1)
    (hk : St m ρ K c n w v l st kk fl ka iI iW oI oW lx kx kh ko ⊢ WP c (k (woUp (woV m c (oW - 1)))) Q) :
    St m ρ K c n w v l st kk fl ka iI iW oI oW lx kx kh ko
      ⊢ WP c (Prog.lift (.load woM (Rect.unit (s := S3x4096x512) off S1x4096x512.size inb).toLoadRect hl) >>= k) Q := by
  subst hoff
  have core := load_slot (c := c) (M := woM) (r := Rect.unit (s := S3x4096x512) ![((oW - 1) % 3) % 3, 0, 0] S1x4096x512.size inb) (hl := hl) (fun _ => rfl)
    squeezes_S1x4096x512_S4096x512 casts_wo (q := fullShare) (X := woV m c (oW - 1)) (Q := Q) (k := k)
  have take : (bigSep (Finset.range 3) fun k => Ring.slotSt m woR c (cnt 3 oI k) (cnt 3 oW k) k)
      ⊢ iprop(ownsSat (c : Thread nD τ) ((woM.slice (Rect.unit (s := S3x4096x512) ![((oW - 1) % 3) % 3, 0, 0] S1x4096x512.size inb) (fun _ => rfl)).squeeze S4096x512 squeezes_S1x4096x512_S4096x512) fullShare (· = woV m c (oW - 1))
        ∗ (ownsSat (c : Thread nD τ) ((woM.slice (Rect.unit (s := S3x4096x512) ![((oW - 1) % 3) % 3, 0, 0] S1x4096x512.size inb) (fun _ => rfl)).squeeze S4096x512 squeezes_S1x4096x512_S4096x512) fullShare (· = woV m c (oW - 1))
          -∗ (bigSep (Finset.range 3) fun k => Ring.slotSt m woR c (cnt 3 oI k) (cnt 3 oW k) k))) :=
    Ring.take_load m (R := woR) (c := c) (i := oI) (w := oW) (j := oW - 1) h1 h2
  unfold St at hk ⊢
  unfold Ring.St at hk ⊢
  iintro ⟨Hr, HO, HB, HP, HS, HA, HL, HI, ⟨HW, Hsl⟩, HR⟩
  ihave H := take $$ Hsl
  icases H with ⟨H, Hcl⟩
  iapply core $$ H
  iintro H
  iapply hk
  ihave H := Hcl $$ H
  iframe

/-! ## The input, the hidden layer and the output -/

theorem st_load_x {Q : α → sProp 𝕄} {off : Fin 2 → ℕ} {inb : ∀ a, off a + S64x2048.size a ≤ S64x2048.size a}
    {hl : xM.view.LoadsAt (Rect.unit (s := S64x2048) off S64x2048.size inb).toLoadRect}
    {k : Vec F S64x2048 .f32 → Prog (TpuEff nD τ sig (Elt F) Λ₀ .tc) α} (hoff : off = fun _ => 0)
    (hk : St m ρ K c n w v l st kk fl ka iI iW oI oW lx kx kh ko ⊢ WP c (k (xstg m ρ c)) Q) :
    St m ρ K c n w v l st kk fl ka iI iW oI oW lx kx kh ko
      ⊢ WP c (Prog.lift (.load xM (Rect.unit (s := S64x2048) off S64x2048.size inb).toLoadRect hl) >>= k) Q := by
  have core := load_full (c := c) (M := xM) hoff (inb := inb) (hl := hl) (q := fullShare) (X := xstg m ρ c) (Q := Q) (k := k)
  unfold St Xs at hk ⊢
  iintro ⟨Hr, HO, HB, HP, HS, HA, HL, HI, HW, HX, HR⟩
  iapply core $$ HX
  iintro HX
  iapply hk
  iframe

/-- All columns known is the whole known. -/
theorem cols_all {A B N : ℕ} {T : Type} (hAB : A * B = N) (G : (⟨2, ![64, N]⟩ : Shape).Idx → T) :
    (fun X : (⟨2, ![64, N]⟩ : Shape).Idx → T => ∀ i, (i 1).val < B * A → X i = G i) = (· = G) := by
  funext X
  refine propext ⟨fun h => funext fun i => h i ?_, fun h i _ => by rw [h]⟩
  have h1 := (i 1).isLt
  change _ < N at h1
  rw [Nat.mul_comm, hAB]; exact h1

theorem st_load_xb {Q : α → sProp 𝕄} {off : Fin 2 → ℕ} {inb : ∀ a, off a + S64x2048.size a ≤ S64x2048.size a}
    {hl : xbM.view.LoadsAt (Rect.unit (s := S64x2048) off S64x2048.size inb).toLoadRect}
    {k : Vec F S64x2048 .bf16 → Prog (TpuEff nD τ sig (Elt F) Λ₀ .tc) α} (hkx : kx = 8) (hoff : off = fun _ => 0)
    (hk : St m ρ K c n w v l st kk fl ka iI iW oI oW lx kx kh ko ⊢ WP c (k (xAt m ρ lx c)) Q) :
    St m ρ K c n w v l st kk fl ka iI iW oI oW lx kx kh ko
      ⊢ WP c (Prog.lift (.load xbM (Rect.unit (s := S64x2048) off S64x2048.size inb).toLoadRect hl) >>= k) Q := by
  subst hkx
  have e : Xb m ρ c lx 8 = ownsSat (c : Thread nD τ) xbM fullShare (· = xAt m ρ lx c) := by
    unfold Xb; rw [cols_all (A := 8) (B := 256) rfl]
  have core := load_full (c := c) (M := xbM) hoff (inb := inb) (hl := hl) (q := fullShare) (X := xAt m ρ lx c) (Q := Q) (k := k)
  unfold St at hk ⊢
  rw [e] at hk ⊢
  iintro ⟨Hr, HO, HB, HP, HS, HA, HL, HI, HW, HX, HXb, HR⟩
  iapply core $$ HXb
  iintro HXb
  iapply hk
  iframe

theorem st_load_xb_any {Q : α → sProp 𝕄} {r : Rect S64x2048} {hl : xbM.view.LoadsAt r.toLoadRect}
    {k : (r.shape.Idx → Elt F .bf16) → Prog (TpuEff nD τ sig (Elt F) Λ₀ .tc) α}
    (hk : ∀ x, St m ρ K c n w v l st kk fl ka iI iW oI oW lx kx kh ko ⊢ WP c (k x) Q) :
    St m ρ K c n w v l st kk fl ka iI iW oI oW lx kx kh ko ⊢ WP c (Prog.lift (.load xbM r.toLoadRect hl) >>= k) Q := by
  have core := load_any (c := c) (M := xbM) (r := r) (hl := hl) (q := fullShare)
    (Φ := fun X => ∀ i, (i 1).val < 256 * kx → X i = xAt m ρ lx c i) (Q := Q) (k := k)
  unfold St Xb at hk ⊢
  iintro ⟨Hr, HO, HB, HP, HS, HA, HL, HI, HW, HX, HXb, HR⟩
  iapply core $$ HXb
  iintro %x HXb
  iapply (hk x)
  iframe

theorem st_load_h {Q : α → sProp 𝕄} {off : Fin 2 → ℕ} {inb : ∀ a, off a + S64x4096.size a ≤ S64x4096.size a}
    {hl : hM.view.LoadsAt (Rect.unit (s := S64x4096) off S64x4096.size inb).toLoadRect}
    {k : Vec F S64x4096 .bf16 → Prog (TpuEff nD τ sig (Elt F) Λ₀ .tc) α} (hkh : kh = 8) (hoff : off = fun _ => 0)
    (hk : St m ρ K c n w v l st kk fl ka iI iW oI oW lx kx kh ko ⊢ WP c (k (hAt m ρ l c)) Q) :
    St m ρ K c n w v l st kk fl ka iI iW oI oW lx kx kh ko
      ⊢ WP c (Prog.lift (.load hM (Rect.unit (s := S64x4096) off S64x4096.size inb).toLoadRect hl) >>= k) Q := by
  subst hkh
  have e : Hh m ρ c l 8 = ownsSat (c : Thread nD τ) hM fullShare (· = hAt m ρ l c) := by
    unfold Hh; rw [cols_all (A := 8) (B := 512) rfl]
  have core := load_full (c := c) (M := hM) hoff (inb := inb) (hl := hl) (q := fullShare) (X := hAt m ρ l c) (Q := Q) (k := k)
  unfold St at hk ⊢
  rw [e] at hk ⊢
  iintro ⟨Hr, HO, HB, HP, HS, HA, HL, HI, HW, HX, HXb, HH, HR⟩
  iapply core $$ HH
  iintro HH
  iapply hk
  iframe

theorem st_load_h_any {Q : α → sProp 𝕄} {r : Rect S64x4096} {hl : hM.view.LoadsAt r.toLoadRect}
    {k : (r.shape.Idx → Elt F .bf16) → Prog (TpuEff nD τ sig (Elt F) Λ₀ .tc) α}
    (hk : ∀ x, St m ρ K c n w v l st kk fl ka iI iW oI oW lx kx kh ko ⊢ WP c (k x) Q) :
    St m ρ K c n w v l st kk fl ka iI iW oI oW lx kx kh ko ⊢ WP c (Prog.lift (.load hM r.toLoadRect hl) >>= k) Q := by
  have core := load_any (c := c) (M := hM) (r := r) (hl := hl) (q := fullShare)
    (Φ := fun X => ∀ i, (i 1).val < 512 * kh → X i = hAt m ρ l c i) (Q := Q) (k := k)
  unfold St Hh at hk ⊢
  iintro ⟨Hr, HO, HB, HP, HS, HA, HL, HI, HW, HX, HXb, HH, HR⟩
  iapply core $$ HH
  iintro %x HH
  iapply (hk x)
  iframe

theorem st_load_o_any {Q : α → sProp 𝕄} {r : Rect S64x2048} {hl : oM.view.LoadsAt r.toLoadRect}
    {k : (r.shape.Idx → Elt F .f32) → Prog (TpuEff nD τ sig (Elt F) Λ₀ .tc) α}
    (hk : ∀ x, St m ρ K c n w v l st kk fl ka iI iW oI oW lx kx kh ko ⊢ WP c (k x) Q) :
    St m ρ K c n w v l st kk fl ka iI iW oI oW lx kx kh ko ⊢ WP c (Prog.lift (.load oM r.toLoadRect hl) >>= k) Q := by
  have core := load_any (c := c) (M := oM) (r := r) (hl := hl) (q := fullShare)
    (Φ := fun X => ∀ i, (i 1).val < 256 * ko → X i = outAt m ρ c i) (Q := Q) (k := k)
  unfold St Oo at hk ⊢
  iintro ⟨Hr, HO, HB, HP, HS, HA, HL, HI, HW, HX, HXb, HH, Ho⟩
  iapply core $$ Ho
  iintro %x Ho
  iapply (hk x)
  iframe

/-- Column block `k` stored after the `k` before it. -/
theorem cols_step {B N k : ℕ} {T : Type} {G : (⟨2, ![64, N]⟩ : Shape).Idx → T} {inb : ∀ a, (![0, B * k] : Fin 2 → ℕ) a + ![64, B] a ≤ ![64, N] a}
    {w : (⟨2, ![64, B]⟩ : Shape).Idx → T} (hw : ∀ j, w j = G ((Rect.unit (s := ⟨2, ![64, N]⟩) ![0, B * k] ![64, B] inb).emb j))
    (X Y : (⟨2, ![64, N]⟩ : Shape).Idx → T) (hX : ∀ i, (i 1).val < B * k → X i = G i)
    (h1 : ∀ j, Y ((Rect.unit (s := ⟨2, ![64, N]⟩) ![0, B * k] ![64, B] inb).emb j) = w j)
    (h2 : ∀ i, (∀ j, (Rect.unit (s := ⟨2, ![64, N]⟩) ![0, B * k] ![64, B] inb).emb j ≠ i) → Y i = X i) :
    ∀ i, (i 1).val < B * (k + 1) → Y i = G i := by
  intro i hi
  by_cases hlt : (i 1).val < B * k
  · rw [h2 i ?_, hX i hlt]
    intro j hj
    have e := congrArg (fun i => (i 1).val) hj
    rw [Rect.emb_apply] at e
    change B * k + 1 * _ = _ at e
    omega
  · let j : (⟨2, ![64, B]⟩ : Shape).Idx := fun | ⟨0, _⟩ => i 0 | ⟨1, _⟩ => ⟨(i 1).val - B * k, by change _ < B; rw [Nat.mul_succ] at hi; omega⟩
    have e : (Rect.unit (s := ⟨2, ![64, N]⟩) ![0, B * k] ![64, B] inb).emb j = i := by
      funext a; apply Fin.ext; rw [Rect.emb_apply]
      fin_cases a
      · show 0 + 1 * (i 0).val = (i 0).val
        omega
      · show B * k + 1 * ((i 1).val - B * k) = (i 1).val
        omega
    rw [← e, h1 j, hw j]

/-- A row and a column within its block, back together. -/
theorem idx2 {B : ℕ} {i j : (⟨2, ![64, B]⟩ : Shape).Idx} (h0 : (i 0).val = (j 0).val) (h1 : (i 1).val = (j 1).val) : i = j := by
  funext a; apply Fin.ext
  fin_cases a
  · exact h0
  · exact h1

theorem emb_col {B N k : ℕ} {inb : ∀ a, (![0, B * k] : Fin 2 → ℕ) a + ![64, B] a ≤ ![64, N] a} (j : (⟨2, ![64, B]⟩ : Shape).Idx) :
    ((Rect.unit (s := ⟨2, ![64, N]⟩) ![0, B * k] ![64, B] inb).emb j 0).val = (j 0).val
      ∧ ((Rect.unit (s := ⟨2, ![64, N]⟩) ![0, B * k] ![64, B] inb).emb j 1).val / B = k
      ∧ ((Rect.unit (s := ⟨2, ![64, N]⟩) ![0, B * k] ![64, B] inb).emb j 1).val % B = (j 1).val := by
  have hj := (j 1).isLt
  change _ < B at hj
  have e1 : ((Rect.unit (s := ⟨2, ![64, N]⟩) ![0, B * k] ![64, B] inb).emb j 1).val = B * k + (j 1).val := by
    rw [Rect.emb_apply]; show B * k + 1 * _ = _; rw [Nat.one_mul]
  refine ⟨?_, ?_, ?_⟩
  · rw [Rect.emb_apply]; show 0 + 1 * _ = _; omega
  · rw [e1, Nat.mul_add_div (by omega), Nat.div_eq_of_lt hj, Nat.add_zero]
  · rw [e1, Nat.mul_add_mod, Nat.mod_eq_of_lt hj]

theorem wide_col {p : Dev nD → S64x256.Idx → Elt F .bf16} {k : ℕ} {inb : ∀ a, (![0, 256 * k] : Fin 2 → ℕ) a + ![64, 256] a ≤ ![64, 2048] a} (hk : k < 8)
    (j : (⟨2, ![64, 256]⟩ : Shape).Idx) : p (peer k) j = wide p ((Rect.unit (s := ⟨2, ![64, 2048]⟩) ![0, 256 * k] ![64, 256] inb).emb j) := by
  obtain ⟨h0, h1, h2⟩ := emb_col (inb := inb) j
  unfold wide
  congr 1
  · congr 1; apply Fin.ext; exact (Nat.mod_eq_of_lt hk).trans h1.symm
  · exact idx2 h0.symm h2.symm
theorem h_col {x : Vec F S64x2048 .bf16} {k : ℕ} {inb : ∀ a, (![0, 512 * k] : Fin 2 → ℕ) a + ![64, 512] a ≤ ![64, 4096] a}
    (j : (⟨2, ![64, 512]⟩ : Shape).Idx) : k0_pay2 (wiUp (wiV m c (8 * l + k))) x j
      = hOf m c l x ((Rect.unit (s := ⟨2, ![64, 4096]⟩) ![0, 512 * k] ![64, 512] inb).emb j) := by
  obtain ⟨h0, h1, h2⟩ := emb_col (inb := inb) j
  unfold hOf
  congr 1
  · rw [h1]
  · exact idx2 h0.symm h2.symm
theorem out_col {k : ℕ} {inb : ∀ a, (![0, 256 * k] : Fin 2 → ℕ) a + ![64, 256] a ≤ ![64, 2048] a} (hk : k < 8)
    (j : (⟨2, ![64, 256]⟩ : Shape).Idx) : k0_pay165 (up (red m ρ 2 (peer k))) j
      = outAt m ρ c ((Rect.unit (s := ⟨2, ![64, 2048]⟩) ![0, 256 * k] ![64, 256] inb).emb j) := by
  obtain ⟨h0, h1, h2⟩ := emb_col (inb := inb) j
  unfold outAt
  congr 1
  · congr 3; apply Fin.ext; exact (Nat.mod_eq_of_lt hk).trans h1.symm
  · exact idx2 h0.symm h2.symm
/-- A block loaded and stored again. -/
theorem pay53_up (X : S64x256.Idx → Elt F .bf16) : k0_pay53 (up X) = X := by
  funext j
  show X (Shape.reshapeEquiv _ (Shape.reshapeEquiv _ (Shape.reshapeEquiv _ j))) = X j
  rw [Shape.reshapeEquiv_reshapeEquiv, Shape.reshapeEquiv_reshapeEquiv, Shape.reshapeEquiv_self]

theorem st_store_h {Q : α → sProp 𝕄} {off : Fin 2 → ℕ} {inb : ∀ a, off a + S64x512.size a ≤ S64x4096.size a} {pay : S64x512.Idx → Elt F .bf16}
    {hx : (hM.access (Rect.unit (s := S64x4096) off S64x512.size inb)).Stores Finset.univ}
    {hm : (Finset.univ : Finset (Rect.unit (s := S64x4096) off S64x512.size inb).shape.Idx) = Finset.univ ∨ ∀ a, (Rect.unit (s := S64x4096) off S64x512.size inb).stride a = 1}
    {k : PUnit → Prog (TpuEff nD τ sig (Elt F) Λ₀ .tc) α} (hlx : lx = l) (hoff : off = ![0, 512 * kh])
    (hpay : pay = k0_pay2 (wiUp (wiV m c (8 * l + kh))) (xAt m ρ l c))
    (hk : St m ρ K c n w v l st kk fl ka iI iW oI oW lx kx (kh + 1) ko ⊢ WP c (k ⟨⟩) Q) :
    St m ρ K c n w v l st kk fl ka iI iW oI oW lx kx kh ko
      ⊢ WP c (Prog.lift (.store hM (Rect.unit (s := S64x4096) off S64x512.size inb) pay Finset.univ hx hm) >>= k) Q := by
  subst hoff hpay
  have core := store_rect (c := c) (M := hM) (hx := hx) (hm := hm) (Q := Q) (k := k) (cols_step (B := 512) (N := 4096) (k := kh) (G := hAt m ρ l c) (h_col))
  unfold St Hh at hk ⊢
  iintro ⟨Hr, HO, HB, HP, HS, HA, HL, HI, HW, HX, HXb, HH, HR⟩
  iapply core $$ HH
  iintro HH
  iapply hk
  iframe

/-- The same store opening the next layer. -/
theorem st_store_h0 {Q : α → sProp 𝕄} {off : Fin 2 → ℕ} {inb : ∀ a, off a + S64x512.size a ≤ S64x4096.size a} {pay : S64x512.Idx → Elt F .bf16}
    {hx : (hM.access (Rect.unit (s := S64x4096) off S64x512.size inb)).Stores Finset.univ}
    {hm : (Finset.univ : Finset (Rect.unit (s := S64x4096) off S64x512.size inb).shape.Idx) = Finset.univ ∨ ∀ a, (Rect.unit (s := S64x4096) off S64x512.size inb).stride a = 1}
    {k : PUnit → Prog (TpuEff nD τ sig (Elt F) Λ₀ .tc) α} (hlx : lx = l + 1) (hoff : off = ![0, 512 * 0])
    (hpay : pay = k0_pay2 (wiUp (wiV m c (8 * (l + 1) + 0))) (xAt m ρ (l + 1) c))
    (hk : St m ρ K c n w v (l + 1) 0 0 0 0 iI iW oI oW lx kx 1 ko ⊢ WP c (k ⟨⟩) Q) :
    St m ρ K c n w v l st kk fl ka iI iW oI oW lx kx kh ko
      ⊢ WP c (Prog.lift (.store hM (Rect.unit (s := S64x4096) off S64x512.size inb) pay Finset.univ hx hm) >>= k) Q := by
  have hstep := st_store_h (m := m) (ρ := ρ) (K := K) (c := c) (n := n) (w := w) (v := v) (l := l + 1) (st := 0) (kk := 0) (fl := 0) (ka := 0) (iI := iI) (iW := iW)
    (oI := oI) (oW := oW) (lx := lx) (kx := kx) (kh := 0) (ko := ko) (Q := Q) (hx := hx) (hm := hm) hlx hoff hpay hk
  refine BIBase.Entails.trans ?_ hstep
  have hs := snd_forget (m := m) (ρ := ρ) (c := c) (n := n) (v := v) (l := l) (st := st) (l' := l + 1)
  have ha : Ags m ρ c n v l fl ⊢ Ags m ρ c n v (l + 1) 0 := by
    unfold Ags
    iintro ⟨%X, -, H⟩
    iexists X
    isplitr
    · ipureintro; exact fun h => absurd h (Nat.lt_irrefl _)
    · iexact H
  have hl : Slf m ρ c l kk ka ⊢ Slf m ρ c (l + 1) 0 0 :=
    BIClass.sep_mono (ownsSat_mono (c : Thread nD τ) _ _ fun X _ h => absurd h (Nat.not_lt_zero _)) (ownsSat_mono (c : Thread nD τ) _ _ fun X _ h => absurd h (Nat.not_lt_zero _))
  have hh : Hh m ρ c l kh ⊢ Hh m ρ c (l + 1) 0 := ownsSat_mono (c : Thread nD τ) _ _ fun X _ i h => absurd h (by rw [Nat.mul_zero]; exact Nat.not_lt_zero _)
  unfold St
  iintro ⟨Hr, HO, HB, HP, HS, HA, HL, HI, HW, HX, HXb, HH, HR⟩
  ihave HS := hs $$ HS
  ihave HA := ha $$ HA
  ihave HL := hl $$ HL
  ihave HH := hh $$ HH
  iframe

theorem st_store_xb {Q : α → sProp 𝕄} {off : Fin 2 → ℕ} {inb : ∀ a, off a + S64x256.size a ≤ S64x2048.size a} {pay : S64x256.Idx → Elt F .bf16}
    {hx : (xbM.access (Rect.unit (s := S64x2048) off S64x256.size inb)).Stores Finset.univ}
    {hm : (Finset.univ : Finset (Rect.unit (s := S64x2048) off S64x256.size inb).shape.Idx) = Finset.univ ∨ ∀ a, (Rect.unit (s := S64x2048) off S64x256.size inb).stride a = 1}
    {k : PUnit → Prog (TpuEff nD τ sig (Elt F) Λ₀ .tc) α} (hlx : lx = l + 1) (h8 : kx < 8) (hoff : off = ![0, 256 * kx])
    (hpay : pay = k0_pay53 (up (red m ρ l (peer kx))))
    (hk : St m ρ K c n w v l st kk fl ka iI iW oI oW lx (kx + 1) kh ko ⊢ WP c (k ⟨⟩) Q) :
    St m ρ K c n w v l st kk fl ka iI iW oI oW lx kx kh ko
      ⊢ WP c (Prog.lift (.store xbM (Rect.unit (s := S64x2048) off S64x256.size inb) pay Finset.univ hx hm) >>= k) Q := by
  subst hoff hpay hlx
  have core := store_rect (c := c) (M := xbM) (hx := hx) (hm := hm) (Q := Q) (k := k)
    (cols_step (B := 256) (N := 2048) (k := kx) (G := xAt m ρ (l + 1) c) (w := k0_pay53 (up (red m ρ l (peer kx)))) (by rw [pay53_up]; exact wide_col h8))
  unfold St Xb at hk ⊢
  iintro ⟨Hr, HO, HB, HP, HS, HA, HL, HI, HW, HX, HXb, HR⟩
  iapply core $$ HXb
  iintro HXb
  iapply hk
  iframe

/-- The same store opening the next layer's input. -/
theorem st_store_xb0 {Q : α → sProp 𝕄} {off : Fin 2 → ℕ} {inb : ∀ a, off a + S64x256.size a ≤ S64x2048.size a} {pay : S64x256.Idx → Elt F .bf16}
    {hx : (xbM.access (Rect.unit (s := S64x2048) off S64x256.size inb)).Stores Finset.univ}
    {hm : (Finset.univ : Finset (Rect.unit (s := S64x2048) off S64x256.size inb).shape.Idx) = Finset.univ ∨ ∀ a, (Rect.unit (s := S64x2048) off S64x256.size inb).stride a = 1}
    {k : PUnit → Prog (TpuEff nD τ sig (Elt F) Λ₀ .tc) α} (hoff : off = ![0, 256 * 0])
    (hpay : pay = k0_pay53 (up (red m ρ l (peer 0))))
    (hk : St m ρ K c n w v l st kk fl ka iI iW oI oW (l + 1) 1 kh ko ⊢ WP c (k ⟨⟩) Q) :
    St m ρ K c n w v l st kk fl ka iI iW oI oW lx kx kh ko
      ⊢ WP c (Prog.lift (.store xbM (Rect.unit (s := S64x2048) off S64x256.size inb) pay Finset.univ hx hm) >>= k) Q := by
  have hstep := st_store_xb (m := m) (ρ := ρ) (K := K) (c := c) (n := n) (w := w) (v := v) (l := l) (st := st) (kk := kk) (fl := fl) (ka := ka) (iI := iI) (iW := iW)
    (oI := oI) (oW := oW) (lx := l + 1) (kx := 0) (kh := kh) (ko := ko) (Q := Q) (hx := hx) (hm := hm) rfl (by decide) hoff hpay hk
  refine BIBase.Entails.trans ?_ hstep
  have hb : Xb m ρ c lx kx ⊢ Xb m ρ c (l + 1) 0 := ownsSat_mono (c : Thread nD τ) _ _ fun X _ i h => absurd h (by rw [Nat.mul_zero]; exact Nat.not_lt_zero _)
  unfold St
  iintro ⟨Hr, HO, HB, HP, HS, HA, HL, HI, HW, HX, HXb, HR⟩
  ihave HXb := hb $$ HXb
  iframe

/-- The device's own input stored. -/
theorem st_store_xb_all {Q : α → sProp 𝕄} {off : Fin 2 → ℕ} {inb : ∀ a, off a + S64x2048.size a ≤ S64x2048.size a} {pay : S64x2048.Idx → Elt F .bf16}
    {hx : (xbM.access (Rect.unit (s := S64x2048) off S64x2048.size inb)).Stores Finset.univ}
    {hm : (Finset.univ : Finset (Rect.unit (s := S64x2048) off S64x2048.size inb).shape.Idx) = Finset.univ ∨ ∀ a, (Rect.unit (s := S64x2048) off S64x2048.size inb).stride a = 1}
    {k : PUnit → Prog (TpuEff nD τ sig (Elt F) Λ₀ .tc) α} (hlx : lx = 0) (hoff : off = fun _ => 0)
    (hpay : pay = k0_pay1 (xstg m ρ c))
    (hk : St m ρ K c n w v l st kk fl ka iI iW oI oW 0 8 kh ko ⊢ WP c (k ⟨⟩) Q) :
    St m ρ K c n w v l st kk fl ka iI iW oI oW lx kx kh ko
      ⊢ WP c (Prog.lift (.store xbM (Rect.unit (s := S64x2048) off S64x2048.size inb) pay Finset.univ hx hm) >>= k) Q := by
  subst hoff hpay hlx
  have core := store_rect (c := c) (M := xbM) (hx := hx) (hm := hm) (Q := Q) (k := k) (w := k0_pay1 (xstg m ρ c))
    (Φ := fun X => ∀ i, (i 1).val < 256 * kx → X i = xAt m ρ 0 c i) (Ψ := fun X => ∀ i, (i 1).val < 256 * 8 → X i = xAt m ρ 0 c i)
    (fun X Y _ h1 _ i _ => by
      have e : (Rect.unit (s := S64x2048) (fun _ => 0) S64x2048.size inb).emb i = i := by
        funext a; apply Fin.ext; rw [Rect.emb_apply]; show 0 + 1 * _ = _; omega
      have := h1 i
      rw [e] at this
      exact this)
  unfold St Xb at hk ⊢
  iintro ⟨Hr, HO, HB, HP, HS, HA, HL, HI, HW, HX, HXb, HR⟩
  iapply core $$ HXb
  iintro HXb
  iapply hk
  iframe

theorem st_store_o {Q : α → sProp 𝕄} {off : Fin 2 → ℕ} {inb : ∀ a, off a + S64x256.size a ≤ S64x2048.size a} {pay : S64x256.Idx → Elt F .f32}
    {hx : (oM.access (Rect.unit (s := S64x2048) off S64x256.size inb)).Stores Finset.univ}
    {hm : (Finset.univ : Finset (Rect.unit (s := S64x2048) off S64x256.size inb).shape.Idx) = Finset.univ ∨ ∀ a, (Rect.unit (s := S64x2048) off S64x256.size inb).stride a = 1}
    {k : PUnit → Prog (TpuEff nD τ sig (Elt F) Λ₀ .tc) α} (h8 : ko < 8) (hoff : off = ![0, 256 * ko])
    (hpay : pay = k0_pay165 (up (red m ρ 2 (peer ko))))
    (hk : St m ρ K c n w v l st kk fl ka iI iW oI oW lx kx kh (ko + 1) ⊢ WP c (k ⟨⟩) Q) :
    St m ρ K c n w v l st kk fl ka iI iW oI oW lx kx kh ko
      ⊢ WP c (Prog.lift (.store oM (Rect.unit (s := S64x2048) off S64x256.size inb) pay Finset.univ hx hm) >>= k) Q := by
  subst hoff hpay
  have core := store_rect (c := c) (M := oM) (hx := hx) (hm := hm) (Q := Q) (k := k)
    (cols_step (B := 256) (N := 2048) (k := ko) (G := outAt m ρ c) (out_col h8))
  unfold St Oo at hk ⊢
  iintro ⟨Hr, HO, HB, HP, HS, HA, HL, HI, HW, HX, HXb, HH, Ho⟩
  iapply core $$ Ho
  iintro Ho
  iapply hk
  iframe

end Cert.Mlp

end
-- ==== Proof.Exchange.lean ====
/-
# 01_k — one statement of the exchange at a time
-/
module

public import proofs.«01_k».proof.Proof.Steps

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {m : (ℓ : Loc nD τ sig) → Buf (Elt F) ℓ} {ρ : Dev nD → PrngReg} {K : Dev nD × Fin 33 → ℕ} {c : Dev nD} {α : Type}
variable {n w v l st kk fl ka iI iW oI oW lx kx kh ko : ℕ}

abbrev rsM : Memref sig .tc .vmem S8x64x256 .bf16 := Memref.whole cc0_scratch3
abbrev arM : Memref sig .tc .vmem S8x64x256 .bf16 := Memref.whole cc0_scratch5

theorem par_odd {φ : ℕ} (h : φ % 2 = 1) : par φ = false := decide_eq_false (by omega)
theorem par_even {φ : ℕ} (h : φ % 2 = 0) : par φ = true := decide_eq_true h
theorem val_odd {φ : ℕ} (h : φ % 2 = 1) (q d : Dev nD) : val m ρ φ q d = part m ρ (rnd φ) q d := by unfold val; rw [par_odd h]; rfl
theorem val_even {φ : ℕ} (h : φ % 2 = 0) (q d : Dev nD) : val m ρ φ q d = red m ρ (rnd φ) q := by unfold val; rw [par_even h]; rfl

/-- A slot named by its offset. -/
theorem slot_eq (M : Memref sig .tc .vmem S8x64x256 .bf16) (d : Dev nD) {off : Fin 3 → ℕ} (ho : off = ![d.val, 0, 0])
    (inb : ∀ a, off a + S1x64x256.size a ≤ S8x64x256.size a) :
    (M.slice (Rect.unit (s := S8x64x256) off S1x64x256.size inb) (fun _ => rfl)).squeeze S64x256 squeezes_S1x64x256_S64x256 = sl8 M d := by
  subst ho; rfl

/-- The receive semaphore a send names. -/
theorem sem_rs (d : Dev nD) {off : Fin 1 → ℕ} (ho : off = ![d.val]) (inb : ∀ a, off a + S1.size a ≤ S8.size a) :
    ((cc0_scratch11.slice (Rect.unit (s := S8) off S1.size inb)).squeeze S_ squeezes_S1_S_).sem = rsem false d := by
  subst ho; revert inb; revert d; decide
theorem sem_ag (d : Dev nD) {off : Fin 1 → ℕ} (ho : off = ![d.val]) (inb : ∀ a, off a + S1.size a ≤ S8.size a) :
    ((cc0_scratch13.slice (Rect.unit (s := S8) off S1.size inb)).squeeze S_ squeezes_S1_S_).sem = rsem true d := by
  subst ho; revert inb; revert d; decide

/-! ## The reduce-scatter -/

theorem not_fly_st {b : ℕ} (hst : st % 8 = n % 8) (hv : v = 8 * (n / 8)) : ¬ fly c (peer st) n v b := by
  have e : peer st = peer n := Fin.ext hst
  rw [e]; unfold fly; rw [cnt_at, cnt_mul (by omega)]
  rintro ⟨-, h, -⟩; omega

theorem fly_st {b : ℕ} (hq : peer n ≠ c) (hb : n / 8 % 2 = b) (hv : v = 8 * (n / 8)) : fly c (peer n) (n + 1) v b := by
  unfold fly; rw [cnt_succ, cnt_mul (by omega)]
  exact ⟨hq, by omega, by omega⟩

theorem prs_send (hq : peer n ≠ c) (hw : w = 8 * (n / 8)) (hv : v = 8 * (n / 8)) :
    Prs m ρ c n w v ⊢ iprop(Peer m ρ c (peer n) (n / 8) (n / 8) (n / 8) ∗ (Peer m ρ c (peer n) (n / 8 + 1) (n / 8) (n / 8) -∗ Prs m ρ c (n + 1) w v)) := by
  have hp := prs_at (m := m) (ρ := ρ) hq (n := n) (w := w) (v := v) (n' := n + 1) (w' := w) (v' := v) (fun j hj => cnt_ne hj) (fun _ _ => rfl) (fun _ _ => rfl)
  rw [cnt_at, cnt_succ, cnt_mul (n := w) (by omega), cnt_mul (n := v) (by omega), show w / 8 = n / 8 by omega, show v / 8 = n / 8 by omega] at hp
  exact hp

theorem st_load_snd {Q : α → sProp 𝕄} {off : Fin 3 → ℕ} {inb : ∀ a, off a + S1x64x256.size a ≤ S8x64x256.size a}
    {hl : sM.view.LoadsAt (Rect.unit (s := S8x64x256) off S1x64x256.size inb).toLoadRect}
    {k : Vec F S1x64x256 .bf16 → Prog (TpuEff nD τ sig (Elt F) Λ₀ .tc) α} (hst : st % 8 = n % 8) (hv : v = 8 * (n / 8)) (hoff : off = ![(peer st).val, 0, 0])
    (hk : ∀ x, St m ρ K c n w v l st kk fl ka iI iW oI oW lx kx kh ko ⊢ WP c (k x) Q) :
    St m ρ K c n w v l st kk fl ka iI iW oI oW lx kx kh ko
      ⊢ WP c (Prog.lift (.load sM (Rect.unit (s := S8x64x256) off S1x64x256.size inb).toLoadRect hl) >>= k) Q := by
  subst hoff
  have core := load_slot_any (c := c) (M := sM) (r := Rect.unit (s := S8x64x256) ![(peer st).val, 0, 0] S1x64x256.size inb) (hl := hl) (fun _ => rfl)
    squeezes_S1x64x256_S64x256 (q := fullShare) (Φ := fun X => (peer st).val < st → X = part m ρ l c (peer st)) (Q := Q) (k := k)
  have take := snd_slot (m := m) (ρ := ρ) (c := c) (q := peer st) (n := n) (v := v) (l := l) (st := st) (st' := st) (not_fly_st hst hv) (fun _ _ => Iff.rfl)
  unfold St at hk ⊢
  iintro ⟨Hr, HO, HB, HP, HS, HR⟩
  ihave H := take $$ HS
  icases H with ⟨H, Hcl⟩
  iapply core $$ H
  iintro %x H
  iapply (hk x)
  ihave H := Hcl $$ H
  iframe

theorem st_store_snd {Q : α → sProp 𝕄} {off : Fin 3 → ℕ} {inb : ∀ a, off a + S1x64x256.size a ≤ S8x64x256.size a} {pay : S1x64x256.Idx → Elt F .bf16}
    {hx : (sM.access (Rect.unit (s := S8x64x256) off S1x64x256.size inb)).Stores Finset.univ}
    {hm : (Finset.univ : Finset (Rect.unit (s := S8x64x256) off S1x64x256.size inb).shape.Idx) = Finset.univ ∨ ∀ a, (Rect.unit (s := S8x64x256) off S1x64x256.size inb).stride a = 1}
    {k : PUnit → Prog (TpuEff nD τ sig (Elt F) Λ₀ .tc) α} (h8 : st < 8) (hst : st % 8 = n % 8) (hv : v = 8 * (n / 8)) (hoff : off = ![(peer st).val, 0, 0])
    (hpay : pay = up (part m ρ l c (peer st)))
    (hk : St m ρ K c n w v l (st + 1) kk fl ka iI iW oI oW lx kx kh ko ⊢ WP c (k ⟨⟩) Q) :
    St m ρ K c n w v l st kk fl ka iI iW oI oW lx kx kh ko
      ⊢ WP c (Prog.lift (.store sM (Rect.unit (s := S8x64x256) off S1x64x256.size inb) pay Finset.univ hx hm) >>= k) Q := by
  subst hoff
  have core := store_slot (c := c) (M := sM) (r := Rect.unit (s := S8x64x256) ![(peer st).val, 0, 0] S1x64x256.size inb) (hx := hx) (hm := hm) (fun _ => rfl)
    squeezes_S1x64x256_S64x256 shapeCasts_S64x256_S1x64x256 (Φ := fun X => (peer st).val < st → X = part m ρ l c (peer st)) (X := part m ρ l c (peer st)) hpay (Q := Q) (k := k)
  have take := snd_slot (m := m) (ρ := ρ) (c := c) (q := peer st) (n := n) (v := v) (l := l) (st := st) (st' := st + 1) (not_fly_st hst hv) (fun j hj => by
    have hne := peer_ne hj
    omega)
  have e : (fun X : S64x256.Idx → Elt F .bf16 => (peer st).val < st + 1 → X = part m ρ l c (peer st)) = (· = part m ρ l c (peer st)) := by
    funext X; exact propext ⟨fun h => h (by show st % 8 < st + 1; omega), fun h _ => h⟩
  rw [e] at take
  unfold St at hk ⊢
  iintro ⟨Hr, HO, HB, HP, HS, HR⟩
  ihave H := take $$ HS
  icases H with ⟨H, Hcl⟩
  iapply core $$ H
  iintro H
  iapply hk
  ihave H := Hcl $$ H
  iframe

theorem st_send_rs {Q : α → sProp 𝕄} {cd : Dev nD → BitVec 1} {dv : ℕ} {dvl : cd c = 1#1 → dv < nD}
    {src : Memref sig .tc .vmem S64x256 .bf16} {offB : Dev nD → Fin 3 → ℕ} {inbB : cd c = 1#1 → ∀ a, offB c a + S1x64x256.size a ≤ S8x64x256.size a}
    {offA : Dev nD → Fin 1 → ℕ} {inbA : cd c = 1#1 → ∀ a, offA c a + S1.size a ≤ S8.size a} {sS : SemLoc sig}
    {hsc : ∀ h : cd c = 1#1, ((rsM.slice (Rect.unit (s := S8x64x256) (offB c) S1x64x256.size (inbB h)) (fun _ => rfl)).squeeze S64x256 squeezes_S1x64x256_S64x256).view.ref.isScScratch = false}
    {hsrc : cd c = 1#1 → src.view.WordExact}
    {hdw : ∀ h : cd c = 1#1, ((rsM.slice (Rect.unit (s := S8x64x256) (offB c) S1x64x256.size (inbB h)) (fun _ => rfl)).squeeze S64x256 squeezes_S1x64x256_S64x256).view.WordExact}
    {hsem : ∀ h : cd c = 1#1, (DmaTarget.remote (Dev.tc (⟨dv, dvl h⟩ : Dev nD)) ((rsM.slice (Rect.unit (s := S8x64x256) (offB c) S1x64x256.size (inbB h)) (fun _ => rfl)).squeeze S64x256 squeezes_S1x64x256_S64x256) sS (hsc h)
      : DmaTarget nD τ sig .tc .vmem S64x256 .bf16).Typed .vmem (.dma ((cc0_scratch11.slice (Rect.unit (s := S8) (offA c) S1.size (inbA h))).squeeze S_ squeezes_S1_S_).sem)}
    {j : Prog (TpuEff nD τ sig (Elt F) Λ₀ .tc) α} (hcd : ∀ d, cd d = 1#1 ↔ peer n ≠ d) (hdv : dv = n % 8)
    (h1 : 1 ≤ n / 8) (h7 : n / 8 < 7) (hφ : n / 8 % 2 = 1) (hw : w = 8 * (n / 8)) (hv : v = 8 * (n / 8)) (hl : rnd (n / 8) = l) (hst : n % 8 < st)
    (hs : src = sendM (peer n)) (hB : ∀ d, offB d = ![d.val, 0, 0]) (hA : ∀ d, offA d = ![d.val]) (hsS : sS = .dma (ssem false (peer n)))
    (hk : St m ρ K c (n + 1) w v l st kk fl ka iI iW oI oW lx kx kh ko ⊢ WP c j Q) :
    St m ρ K c n w v l st kk fl ka iI iW oI oW lx kx kh ko
      ⊢ WP c (dite (cd c = 1#1) (fun h => Prog.lift (.enqueueDma src (.remote (Dev.tc (⟨dv, dvl h⟩ : Dev nD))
          ((rsM.slice (Rect.unit (s := S8x64x256) (offB c) S1x64x256.size (inbB h)) (fun _ => rfl)).squeeze S64x256 squeezes_S1x64x256_S64x256) sS (hsc h))
          (.dma ((cc0_scratch11.slice (Rect.unit (s := S8) (offA c) S1.size (inbA h))).squeeze S_ squeezes_S1_S_).sem) (hsrc h) (hdw h) (hsem h)) >>= fun _ => j) (fun _ => j)) Q := by
  by_cases h : cd c = 1#1
  · have hq := (hcd c).mp h
    subst hdv
    rw [dif_pos h]
    have hpar : par (n / 8) = false := par_odd hφ
    have hp := prs_send (m := m) (ρ := ρ) hq hw hv
    have take := snd_send (m := m) (ρ := ρ) (c := c) (q := peer n) (n := n) (v := v) (l := l) (st := st) rfl (not_fly_st rfl hv) (fly_st hq hφ hv) hst
    have ha := ags_congr (m := m) (ρ := ρ) (c := c) (n := n) (v := v) (n' := n + 1) (v' := v) (l := l) (fl := fl) (fun q => fly_n (by omega) (by omega))
    have hval : val m ρ (n / 8) c (peer n) = part m ρ l c (peer n) := by rw [val_odd hφ, hl]
    have core := send_core (m := m) (ρ := ρ) (K := K) (c := c) (q := (⟨n % 8, dvl h⟩ : Dev nD)) (n := n) (φ := n / 8) (Q := Q) h1 h7 rfl rfl hq
      (src := src) (sS := sS) (sh := fullShare) ((slot_eq rsM c (hB c) (inbB h)).trans (by rw [hpar]))
      (by rw [hpar]; exact hsS) (by rw [hpar, sem_rs c (hA c) (inbA h)])
      (by rw [hpar, hs]; exact isAt_any _ _) (hsc := hsc h) (hsrc := hsrc h) (hdw := hdw h) (hsem := hsem h) (k := fun _ => j)
    rw [← hs] at take
    rw [show peer n = (⟨n % 8, dvl h⟩ : Dev nD) from rfl] at take hp hval
    rw [hval] at core
    unfold St at hk ⊢
    rw [ha] at hk
    iintro ⟨#Hr, HO, HB, HP, HS, HR⟩
    ihave H := take $$ HS
    icases H with ⟨H, HS⟩
    ihave HP := hp $$ HP
    icases HP with ⟨HP, Hcl⟩
    iapply core $$ [HO HP H]
    · isplitr; · iexact Hr
      isplitl [HO]; · iexact HO
      isplitl [HP] <;> iassumption
    iintro ⟨HO, HP⟩
    iapply hk
    ihave HP := Hcl $$ HP
    isplitr; · iexact Hr
    iframe
  · rw [dif_neg h, skip_n (not_not.mp fun hq => h ((hcd c).mpr hq)) (by omega)]
    exact hk

/-- What a memref's contents are known to be once a counter has passed. -/
theorem known {c kk : ℕ} {T : Type} {P : T} (h : c < kk) : (fun X : T => c < kk → X = P) = (· = P) := by
  funext X; exact propext ⟨fun g => g h, fun g _ => g⟩
theorem known_iff {c kk kk' : ℕ} {T : Type} {P : T} (h : c < kk' ↔ c < kk) : (fun X : T => c < kk' → X = P) = fun X => c < kk → X = P := by
  funext X; exact propext ⟨fun g h' => g (h.mpr h'), fun g h' => g (h.mp h')⟩

theorem st_keep_rs {Q : α → sProp 𝕄} {cd : Dev nD → BitVec 1} {off : Fin 3 → ℕ} {inb : ∀ a, off a + S1x64x256.size a ≤ S8x64x256.size a}
    {pay : S1x64x256.Idx → Elt F .bf16}
    {hl : cd c = 1#1 → rsM.view.LoadsAt (Rect.unit (s := S8x64x256) off S1x64x256.size inb).toLoadRect}
    {hx : cd c = 1#1 → (rsM.access (Rect.unit (s := S8x64x256) off S1x64x256.size inb)).Stores Finset.univ}
    {hm : cd c = 1#1 → ((Finset.univ : Finset (Rect.unit (s := S8x64x256) off S1x64x256.size inb).shape.Idx) = Finset.univ ∨ ∀ a, (Rect.unit (s := S8x64x256) off S1x64x256.size inb).stride a = 1)}
    {j : Prog (TpuEff nD τ sig (Elt F) Λ₀ .tc) α} (hcd : ∀ d, cd d = 1#1 ↔ peer kk = d) (h8 : kk < 8) (hoff : off = ![(peer kk).val, 0, 0])
    (hpay : pay = up (part m ρ l c (peer kk)))
    (hk : St m ρ K c n w v l st (kk + 1) fl ka iI iW oI oW lx kx kh ko ⊢ WP c j Q) :
    St m ρ K c n w v l st kk fl ka iI iW oI oW lx kx kh ko
      ⊢ WP c (dite (cd c = 1#1) (fun h => Prog.lift (.load rsM (Rect.unit (s := S8x64x256) off S1x64x256.size inb).toLoadRect (hl h)) >>= fun (_ : Vec F S1x64x256 .bf16) =>
          Prog.lift (.store rsM (Rect.unit (s := S8x64x256) off S1x64x256.size inb) pay Finset.univ (hx h) (hm h)) >>= fun _ => j) (fun _ => j)) Q := by
  by_cases h : cd c = 1#1
  · have hq := (hcd c).mp h
    rw [dif_pos h]
    subst hoff hpay
    have ld := load_slot_any (c := c) (M := rsM) (r := Rect.unit (s := S8x64x256) ![(peer kk).val, 0, 0] S1x64x256.size inb) (hl := hl h) (fun _ => rfl)
      squeezes_S1x64x256_S64x256 (q := fullShare) (Φ := fun X => c.val < kk → X = part m ρ l c c) (Q := Q)
      (k := fun (_ : Vec F S1x64x256 .bf16) => Prog.lift (.store rsM (Rect.unit (s := S8x64x256) ![(peer kk).val, 0, 0] S1x64x256.size inb) (up (part m ρ l c (peer kk))) Finset.univ (hx h) (hm h)) >>= fun _ => j)
    have sto := store_slot (c := c) (M := rsM) (r := Rect.unit (s := S8x64x256) ![(peer kk).val, 0, 0] S1x64x256.size inb) (hx := hx h) (hm := hm h) (fun _ => rfl)
      squeezes_S1x64x256_S64x256 shapeCasts_S64x256_S1x64x256 (Φ := fun X => c.val < kk → X = part m ρ l c c) (X := part m ρ l c c)
      (w := up (part m ρ l c (peer kk))) (congrArg (fun q => up (part m ρ l c q)) hq) (Q := Q) (k := fun _ => j)
    rw [slot_eq rsM c (by rw [hq]) inb] at ld sto
    unfold St Slf at hk ⊢
    rw [known (kk := kk + 1) (show c.val < kk + 1 by rw [← hq]; show kk % 8 < kk + 1; omega)] at hk
    iintro ⟨Hr, HO, HB, HP, HS, HA, ⟨HL, HL2⟩, HR⟩
    iapply ld $$ HL
    iintro %x HL
    iapply sto $$ HL
    iintro HL
    iapply hk
    iframe
  · have hq : peer kk ≠ c := fun e => h ((hcd c).mpr e)
    rw [dif_neg h]
    unfold St Slf at hk ⊢
    have hne : kk ≠ c.val := fun e => hq (Fin.ext (by show kk % 8 = _; omega))
    rw [known_iff (kk := kk) (kk' := kk + 1) (by omega)] at hk
    exact hk

/-! ## The waits -/

theorem prs_recv {φ : ℕ} (hq : peer w ≠ c) (hφ : w / 8 = φ) (hn : n = 8 * (φ + 1)) :
    Prs m ρ c n w v ⊢ iprop(Peer m ρ c (peer w) (φ + 1) φ (cnt 8 v (peer w).val) ∗ (Peer m ρ c (peer w) (φ + 1) (φ + 1) (cnt 8 v (peer w).val) -∗ Prs m ρ c n (w + 1) v)) := by
  have hp := prs_at (m := m) (ρ := ρ) hq (n := n) (w := w) (v := v) (n' := n) (w' := w + 1) (v' := v) (fun _ _ => rfl) (fun j hj => cnt_ne hj) (fun _ _ => rfl)
  rw [cnt_at, cnt_succ, cnt_mul (n := n) (by omega), hφ, show n / 8 = φ + 1 by omega] at hp
  exact hp
theorem prs_sdone {φ : ℕ} (hq : peer v ≠ c) (hφ : v / 8 = φ) (hn : n = 8 * (φ + 1)) :
    Prs m ρ c n w v ⊢ iprop(Peer m ρ c (peer v) (φ + 1) (cnt 8 w (peer v).val) φ ∗ (Peer m ρ c (peer v) (φ + 1) (cnt 8 w (peer v).val) (φ + 1) -∗ Prs m ρ c n w (v + 1))) := by
  have hp := prs_at (m := m) (ρ := ρ) hq (n := n) (w := w) (v := v) (n' := n) (w' := w) (v' := v + 1) (fun _ _ => rfl) (fun _ _ => rfl) (fun j hj => cnt_ne hj)
  rw [cnt_at, cnt_succ, cnt_mul (n := n) (by omega), hφ, show n / 8 = φ + 1 by omega] at hp
  exact hp
theorem prs_load {φ : ℕ} {q : Dev nD} (hq : q ≠ c) (hn : n = 8 * (φ + 1)) (hw : w = 8 * (φ + 1)) :
    Prs m ρ c n w v ⊢ iprop(Peer m ρ c q (φ + 1) (φ + 1) (cnt 8 v q.val) ∗ (Peer m ρ c q (φ + 1) (φ + 1) (cnt 8 v q.val) -∗ Prs m ρ c n w v)) := by
  have hp := prs_at (m := m) (ρ := ρ) hq (n := n) (w := w) (v := v) (n' := n) (w' := w) (v' := v) (fun _ _ => rfl) (fun _ _ => rfl) (fun _ _ => rfl)
  rw [cnt_mul (n := n) (by omega), cnt_mul (n := w) (by omega), show n / 8 = φ + 1 by omega, show w / 8 = φ + 1 by omega] at hp
  exact hp

theorem st_recv {Q : α → sProp 𝕄} {cd : Dev nD → BitVec 1} {s' : Shape} {e' : EltTy} {sp' : Space} {srcw : cd c = 1#1 → Memref sig .tc sp' s' e'} {sp : Space}
    {dstw : cd c = 1#1 → Memref sig .tc sp S64x256 .bf16} {sm : cd c = 1#1 → DmaSem sig}
    {hsrc : ∀ h : cd c = 1#1, (srcw h).view.WordExact} {hdw : ∀ h : cd c = 1#1, (dstw h).view.WordExact}
    {j : Prog (TpuEff nD τ sig (Elt F) Λ₀ .tc) α} (hcd : ∀ d, cd d = 1#1 ↔ peer w ≠ d)
    (h1 : 1 ≤ w / 8) (h7 : w / 8 < 7) (hn : n = 8 * (w / 8 + 1)) (hsm : ∀ h, sm h = rsem (par (w / 8)) (peer w)) (hN : ∀ h, (dstw h).view.dmaCredit = N)
    (hk : St m ρ K c n (w + 1) v l st kk fl ka iI iW oI oW lx kx kh ko ⊢ WP c j Q) :
    St m ρ K c n w v l st kk fl ka iI iW oI oW lx kx kh ko
      ⊢ WP c (dite (cd c = 1#1) (fun h => Prog.lift (.waitDma2 (sm h) (srcw h) (dstw h) (hsrc h) (hdw h)) >>= fun _ => j) (fun _ => j)) Q := by
  by_cases h : cd c = 1#1
  · have hq := (hcd c).mp h
    rw [dif_pos h]
    have hp := prs_recv (m := m) (ρ := ρ) (n := n) (v := v) hq rfl hn
    have core := recv_core (m := m) (ρ := ρ) (K := K) (c := c) (q := peer w) (n := n) (φ := w / 8) (v := cnt 8 v (peer w).val) (Q := Q) h1 h7 (by omega) hq
      (hsm h) (hN h) (hsrc := hsrc h) (hdw := hdw h) (k := fun _ => j)
    unfold St Bar at hk ⊢
    rw [if_neg (show w + 1 ≠ 0 by omega)] at hk
    rw [if_neg (show w ≠ 0 by omega)]
    iintro ⟨#Hr, HO, HB, HP, HR⟩
    ihave HP := hp $$ HP
    icases HP with ⟨HP, Hcl⟩
    iapply core $$ [HO HP]
    · isplitr; · iexact Hr
      isplitl [HO] <;> iassumption
    iintro ⟨HO, HP⟩
    iapply hk
    ihave HP := Hcl $$ HP
    isplitr; · iexact Hr
    iframe
  · rw [dif_neg h, skip_w (not_not.mp fun hq => h ((hcd c).mpr hq)) (by omega)]
    exact hk

theorem fly_sd {b : ℕ} (hq : peer v ≠ c) (hb : v / 8 % 2 = b) (hn : n = 8 * (v / 8 + 1)) : fly c (peer v) n v b := by
  unfold fly; rw [cnt_at, cnt_mul (by omega)]
  exact ⟨hq, by omega, hb⟩
theorem not_fly_sd {b : ℕ} (hn : n = 8 * (v / 8 + 1)) : ¬ fly c (peer v) n (v + 1) b := by
  unfold fly; rw [cnt_succ, cnt_mul (by omega)]
  rintro ⟨-, h, -⟩; omega

theorem st_sdone_rs {Q : α → sProp 𝕄} {cd : Dev nD → BitVec 1} {s' : Shape} {e' : EltTy} {sp' : Space} {srcw : cd c = 1#1 → Memref sig .tc sp' s' e'} {sp : Space}
    {dstw : cd c = 1#1 → Memref sig .tc sp S64x256 .bf16} {sm : cd c = 1#1 → DmaSem sig}
    {hsrc : ∀ h : cd c = 1#1, (srcw h).view.WordExact} {hdw : ∀ h : cd c = 1#1, (dstw h).view.WordExact}
    {j : Prog (TpuEff nD τ sig (Elt F) Λ₀ .tc) α} (hcd : ∀ d, cd d = 1#1 ↔ peer v ≠ d)
    (h1 : 1 ≤ v / 8) (h7 : v / 8 < 7) (hφ : v / 8 % 2 = 1) (hn : n = 8 * (v / 8 + 1)) (hsm : ∀ h, sm h = ssem false (peer v)) (hN : ∀ h, (dstw h).view.dmaCredit = N)
    (hk : St m ρ K c n w (v + 1) l 0 kk fl ka iI iW oI oW lx kx kh ko ⊢ WP c j Q) :
    St m ρ K c n w v l st kk fl ka iI iW oI oW lx kx kh ko
      ⊢ WP c (dite (cd c = 1#1) (fun h => Prog.lift (.waitDma2 (sm h) (srcw h) (dstw h) (hsrc h) (hdw h)) >>= fun _ => j) (fun _ => j)) Q := by
  have hf := snd_forget (m := m) (ρ := ρ) (c := c) (n := n) (v := v) (l := l) (st := st) (l' := l)
  by_cases h : cd c = 1#1
  · have hq := (hcd c).mp h
    have hpar := par_odd hφ
    rw [dif_pos h]
    have hp := prs_sdone (m := m) (ρ := ρ) (n := n) (w := w) hq rfl hn
    have core := sdone_core (m := m) (ρ := ρ) (K := K) (c := c) (q := peer v) (n := n) (φ := v / 8) (w := cnt 8 w (peer v).val) (Q := Q) (sm := sm h) h1 h7 hq
      (by rw [hpar]; exact hsm h) (hN h) (hsrc := hsrc h) (hdw := hdw h) (k := fun _ => j)
    rw [hpar] at core
    have hb := snd_back (m := m) (ρ := ρ) (c := c) (q := peer v) (n := n) (v := v) (l := l) rfl (fly_sd hq hφ hn) (not_fly_sd hn)
    have ha := ags_congr (m := m) (ρ := ρ) (c := c) (n := n) (v := v) (n' := n) (v' := v + 1) (l := l) (fl := fl) (fun q => fly_v (by omega) hn)
    unfold St at hk ⊢
    rw [ha] at hk
    iintro ⟨#Hr, HO, HB, HP, HS, HR⟩
    ihave HP := hp $$ HP
    icases HP with ⟨HP, Hcl⟩
    iapply core $$ [HO HP]
    · isplitr; · iexact Hr
      isplitl [HO] <;> iassumption
    iintro ⟨HO, HP, Hs⟩
    iapply hk
    ihave HP := Hcl $$ HP
    ihave HS := hf $$ HS
    ihave HS := hb $$ [HS Hs]
    · isplitl [HS]; · iexact HS
      unfold sPay
      iexact Hs
    isplitr; · iexact Hr
    iframe
  · have e := skip_v (m := m) (ρ := ρ) (K := K) (n := n) (w := w) (l := l) (st := 0) (kk := kk) (fl := fl) (ka := ka) (iI := iI) (iW := iW) (oI := oI) (oW := oW)
      (lx := lx) (kx := kx) (kh := kh) (ko := ko) (not_not.mp fun hq => h ((hcd c).mpr hq))
    rw [dif_neg h]
    rw [← e] at hk
    unfold St at hk ⊢
    iintro ⟨Hr, HO, HB, HP, HS, HR⟩
    ihave HS := hf $$ HS
    iapply hk
    iframe

theorem st_sdone_ag {Q : α → sProp 𝕄} {cd : Dev nD → BitVec 1} {s' : Shape} {e' : EltTy} {sp' : Space} {srcw : cd c = 1#1 → Memref sig .tc sp' s' e'} {sp : Space}
    {dstw : cd c = 1#1 → Memref sig .tc sp S64x256 .bf16} {sm : cd c = 1#1 → DmaSem sig}
    {hsrc : ∀ h : cd c = 1#1, (srcw h).view.WordExact} {hdw : ∀ h : cd c = 1#1, (dstw h).view.WordExact}
    {j : Prog (TpuEff nD τ sig (Elt F) Λ₀ .tc) α} (hcd : ∀ d, cd d = 1#1 ↔ peer v ≠ d)
    (h1 : 1 ≤ v / 8) (h7 : v / 8 < 7) (hφ : v / 8 % 2 = 0) (hn : n = 8 * (v / 8 + 1)) (hl : rnd (v / 8) = l) (hfl : fl = 1)
    (hsm : ∀ h, sm h = ssem true (peer v)) (hN : ∀ h, (dstw h).view.dmaCredit = N)
    (hk : St m ρ K c n w (v + 1) l st kk fl ka iI iW oI oW lx kx kh ko ⊢ WP c j Q) :
    St m ρ K c n w v l st kk fl ka iI iW oI oW lx kx kh ko
      ⊢ WP c (dite (cd c = 1#1) (fun h => Prog.lift (.waitDma2 (sm h) (srcw h) (dstw h) (hsrc h) (hdw h)) >>= fun _ => j) (fun _ => j)) Q := by
  by_cases h : cd c = 1#1
  · have hq := (hcd c).mp h
    have hpar := par_even hφ
    subst hfl
    rw [dif_pos h]
    have hp := prs_sdone (m := m) (ρ := ρ) (n := n) (w := w) hq rfl hn
    have core := sdone_core (m := m) (ρ := ρ) (K := K) (c := c) (q := peer v) (n := n) (φ := v / 8) (w := cnt 8 w (peer v).val) (Q := Q) (sm := sm h) h1 h7 hq
      (by rw [hpar]; exact hsm h) (hN h) (hsrc := hsrc h) (hdw := hdw h) (k := fun _ => j)
    rw [hpar, hl] at core
    have hb := ag_back (F := F) (c := c) (q := peer v) (n := n) (v := v) (X := red m ρ l c) rfl (fly_sd hq hφ hn) (not_fly_sd hn)
    have hs := snd_congr (m := m) (ρ := ρ) (c := c) (n := n) (v := v) (n' := n) (v' := v + 1) (l := l) (st := st) (fun q => fly_v (by omega) hn)
    unfold St Ags at hk ⊢
    rw [hs] at hk
    iintro ⟨#Hr, HO, HB, HP, HS, ⟨%X, %hX, HA⟩, HR⟩
    have hX := hX Nat.zero_lt_one
    subst hX
    ihave HP := hp $$ HP
    icases HP with ⟨HP, Hcl⟩
    iapply core $$ [HO HP]
    · isplitr; · iexact Hr
      isplitl [HO] <;> iassumption
    iintro ⟨HO, HP, Hs⟩
    iapply hk
    ihave HP := Hcl $$ HP
    ihave HA := hb $$ [HA Hs]
    · isplitl [HA]; · iexact HA
      unfold sPay
      iexact Hs
    isplitr; · iexact Hr
    iframe
    iexists _
    iframe
    ipureintro; exact fun _ => rfl
  · rw [dif_neg h, skip_v (not_not.mp fun hq => h ((hcd c).mpr hq))]
    exact hk

/-! ## The loads of the landing buffers -/

theorem slf_rs (hkk : kk = 8) : Slf m ρ c l kk ka ⊢ iprop(ownsSat (c : Thread nD τ) (sl8 rsM c) fullShare (· = part m ρ l c c)
    ∗ (ownsSat (c : Thread nD τ) (sl8 rsM c) fullShare (· = part m ρ l c c) -∗ Slf m ρ c l kk ka)) := by
  unfold Slf
  rw [known (kk := kk) (show c.val < kk by rw [hkk]; exact c.isLt)]
  iintro ⟨H1, H2⟩
  isplitl [H1]; · iexact H1
  iintro H1
  isplitl [H1] <;> iassumption
theorem slf_ag (hka : ka = 8) : Slf m ρ c l kk ka ⊢ iprop(ownsSat (c : Thread nD τ) (sl8 arM c) fullShare (· = red m ρ l c)
    ∗ (ownsSat (c : Thread nD τ) (sl8 arM c) fullShare (· = red m ρ l c) -∗ Slf m ρ c l kk ka)) := by
  unfold Slf
  rw [known (kk := ka) (show c.val < ka by rw [hka]; exact c.isLt)]
  iintro ⟨H1, H2⟩
  isplitl [H2]; · iexact H2
  iintro H2
  isplitl [H1] <;> iassumption

theorem take_rs {q : Dev nD} (hn : n = 8 * (2 * l + 2)) (hw : w = n) (hkk : kk = 8) :
    iprop(Prs m ρ c n w v ∗ Slf m ρ c l kk ka) ⊢ iprop(ownsSat (c : Thread nD τ) (sl8 rsM q) fullShare (· = part m ρ l q c)
      ∗ (ownsSat (c : Thread nD τ) (sl8 rsM q) fullShare (· = part m ρ l q c) -∗ Prs m ρ c n w v ∗ Slf m ρ c l kk ka)) := by
  by_cases hq : q = c
  · subst hq
    have h := slf_rs (m := m) (ρ := ρ) (c := q) (l := l) (ka := ka) hkk
    iintro ⟨HP, HL⟩
    ihave HL := h $$ HL
    icases HL with ⟨H, Hcl⟩
    isplitl [H]; · iexact H
    iintro H
    ihave H := Hcl $$ H
    isplitl [HP] <;> iassumption
  · have h := prs_load (m := m) (ρ := ρ) (n := n) (w := w) (v := v) (φ := 2 * l + 1) hq (by omega) (by omega)
    have h2 : Peer m ρ c q (2 * l + 1 + 1) (2 * l + 1 + 1) (cnt 8 v q.val) ⊢ iprop(ownsSat (c : Thread nD τ) (sl8 rsM q) fullShare (· = part m ρ l q c)
        ∗ (ownsSat (c : Thread nD τ) (sl8 rsM q) fullShare (· = part m ρ l q c) -∗ Peer m ρ c q (2 * l + 1 + 1) (2 * l + 1 + 1) (cnt 8 v q.val))) := by
      have h3 := peer_load (m := m) (ρ := ρ) (c := c) (q := q) (φ := 2 * l + 1) (v := cnt 8 v q.val) (by omega)
      rw [par_odd (by omega), val_odd (by omega), show rnd (2 * l + 1) = l by unfold rnd; omega] at h3
      exact h3
    iintro ⟨HP, HL⟩
    ihave HP := h $$ HP
    icases HP with ⟨HP, Hcl⟩
    ihave HP := h2 $$ HP
    icases HP with ⟨H, Hcl2⟩
    isplitl [H]; · iexact H
    iintro H
    ihave H := Hcl2 $$ H
    ihave H := Hcl $$ H
    isplitl [H] <;> iassumption
theorem take_ag {q : Dev nD} (hn : n = 8 * (2 * l + 3)) (hw : w = n) (hka : ka = 8) :
    iprop(Prs m ρ c n w v ∗ Slf m ρ c l kk ka) ⊢ iprop(ownsSat (c : Thread nD τ) (sl8 arM q) fullShare (· = red m ρ l q)
      ∗ (ownsSat (c : Thread nD τ) (sl8 arM q) fullShare (· = red m ρ l q) -∗ Prs m ρ c n w v ∗ Slf m ρ c l kk ka)) := by
  by_cases hq : q = c
  · subst hq
    have h := slf_ag (m := m) (ρ := ρ) (c := q) (l := l) (kk := kk) hka
    iintro ⟨HP, HL⟩
    ihave HL := h $$ HL
    icases HL with ⟨H, Hcl⟩
    isplitl [H]; · iexact H
    iintro H
    ihave H := Hcl $$ H
    isplitl [HP] <;> iassumption
  · have h := prs_load (m := m) (ρ := ρ) (n := n) (w := w) (v := v) (φ := 2 * l + 2) hq (by omega) (by omega)
    have h2 : Peer m ρ c q (2 * l + 2 + 1) (2 * l + 2 + 1) (cnt 8 v q.val) ⊢ iprop(ownsSat (c : Thread nD τ) (sl8 arM q) fullShare (· = red m ρ l q)
        ∗ (ownsSat (c : Thread nD τ) (sl8 arM q) fullShare (· = red m ρ l q) -∗ Peer m ρ c q (2 * l + 2 + 1) (2 * l + 2 + 1) (cnt 8 v q.val))) := by
      have h3 := peer_load (m := m) (ρ := ρ) (c := c) (q := q) (φ := 2 * l + 2) (v := cnt 8 v q.val) (by omega)
      rw [par_even (by omega), val_even (by omega), show rnd (2 * l + 2) = l by unfold rnd; omega] at h3
      exact h3
    iintro ⟨HP, HL⟩
    ihave HP := h $$ HP
    icases HP with ⟨HP, Hcl⟩
    ihave HP := h2 $$ HP
    icases HP with ⟨H, Hcl2⟩
    isplitl [H]; · iexact H
    iintro H
    ihave H := Hcl2 $$ H
    ihave H := Hcl $$ H
    isplitl [H] <;> iassumption

theorem st_load_rs {Q : α → sProp 𝕄} {off : Fin 3 → ℕ} {inb : ∀ a, off a + S1x64x256.size a ≤ S8x64x256.size a}
    {hl : rsM.view.LoadsAt (Rect.unit (s := S8x64x256) off S1x64x256.size inb).toLoadRect}
    {k : Vec F S1x64x256 .bf16 → Prog (TpuEff nD τ sig (Elt F) Λ₀ .tc) α} (hn : n = 8 * (2 * l + 2)) (hw : w = n) (hkk : kk = 8) (hoff : off = ![(peer (off 0)).val, 0, 0])
    (hk : St m ρ K c n w v l st kk fl ka iI iW oI oW lx kx kh ko ⊢ WP c (k (up (part m ρ l (peer (off 0)) c))) Q) :
    St m ρ K c n w v l st kk fl ka iI iW oI oW lx kx kh ko
      ⊢ WP c (Prog.lift (.load rsM (Rect.unit (s := S8x64x256) off S1x64x256.size inb).toLoadRect hl) >>= k) Q := by
  generalize peer (off 0) = q at hoff hk
  subst hoff
  have core := load_slot (c := c) (M := rsM) (r := Rect.unit (s := S8x64x256) ![q.val, 0, 0] S1x64x256.size inb) (hl := hl) (fun _ => rfl)
    squeezes_S1x64x256_S64x256 shapeCasts_S64x256_S1x64x256 (q := fullShare) (X := part m ρ l q c) (Q := Q) (k := k)
  rw [slot_eq rsM q rfl inb] at core
  have take := take_rs (m := m) (ρ := ρ) (c := c) (n := n) (w := w) (v := v) (l := l) (kk := kk) (ka := ka) (q := q) hn hw hkk
  unfold St at hk ⊢
  iintro ⟨Hr, HO, HB, HP, HS, HA, HL, HR⟩
  ihave H := take $$ [HP HL]
  · isplitl [HP] <;> iassumption
  icases H with ⟨H, Hcl⟩
  iapply core $$ H
  iintro H
  ihave H := Hcl $$ H
  icases H with ⟨HP, HL⟩
  iapply hk
  iframe

theorem st_load_ag {Q : α → sProp 𝕄} {off : Fin 3 → ℕ} {inb : ∀ a, off a + S1x64x256.size a ≤ S8x64x256.size a}
    {hl : arM.view.LoadsAt (Rect.unit (s := S8x64x256) off S1x64x256.size inb).toLoadRect}
    {k : Vec F S1x64x256 .bf16 → Prog (TpuEff nD τ sig (Elt F) Λ₀ .tc) α} (hn : n = 8 * (2 * l + 3)) (hw : w = n) (hka : ka = 8) (hoff : off = ![(peer (off 0)).val, 0, 0])
    (hk : St m ρ K c n w v l st kk fl ka iI iW oI oW lx kx kh ko ⊢ WP c (k (up (red m ρ l (peer (off 0))))) Q) :
    St m ρ K c n w v l st kk fl ka iI iW oI oW lx kx kh ko
      ⊢ WP c (Prog.lift (.load arM (Rect.unit (s := S8x64x256) off S1x64x256.size inb).toLoadRect hl) >>= k) Q := by
  generalize peer (off 0) = q at hoff hk
  subst hoff
  have core := load_slot (c := c) (M := arM) (r := Rect.unit (s := S8x64x256) ![q.val, 0, 0] S1x64x256.size inb) (hl := hl) (fun _ => rfl)
    squeezes_S1x64x256_S64x256 shapeCasts_S64x256_S1x64x256 (q := fullShare) (X := red m ρ l q) (Q := Q) (k := k)
  rw [slot_eq arM q rfl inb] at core
  have take := take_ag (m := m) (ρ := ρ) (c := c) (n := n) (w := w) (v := v) (l := l) (kk := kk) (ka := ka) (q := q) hn hw hka
  unfold St at hk ⊢
  iintro ⟨Hr, HO, HB, HP, HS, HA, HL, HR⟩
  ihave H := take $$ [HP HL]
  · isplitl [HP] <;> iassumption
  icases H with ⟨H, Hcl⟩
  iapply core $$ H
  iintro H
  ihave H := Hcl $$ H
  icases H with ⟨HP, HL⟩
  iapply hk
  iframe

/-! ## The all-gather -/

theorem not_fly_self {b : ℕ} : ¬ fly c c n v b := fun h => h.1 rfl

theorem st_load_agm {Q : α → sProp 𝕄} {off : Fin 2 → ℕ} {inb : ∀ a, off a + S64x256.size a ≤ S64x256.size a}
    {hl : agM.view.LoadsAt (Rect.unit (s := S64x256) off S64x256.size inb).toLoadRect}
    {k : Vec F S64x256 .bf16 → Prog (TpuEff nD τ sig (Elt F) Λ₀ .tc) α}
    (hk : ∀ x, St m ρ K c n w v l st kk fl ka iI iW oI oW lx kx kh ko ⊢ WP c (k x) Q) :
    St m ρ K c n w v l st kk fl ka iI iW oI oW lx kx kh ko
      ⊢ WP c (Prog.lift (.load agM (Rect.unit (s := S64x256) off S64x256.size inb).toLoadRect hl) >>= k) Q := by
  have core := fun X : S64x256.Idx → Elt F .bf16 => load_any (c := c) (M := agM) (r := Rect.unit (s := S64x256) off S64x256.size inb) (hl := hl) (q := shr c) (Φ := (· = X)) (Q := Q) (k := k)
  have take := fun X => ag_slot (F := F) (c := c) (q := c) (n := n) (v := v) (X := X) not_fly_self
  unfold St Ags at hk ⊢
  iintro ⟨Hr, HO, HB, HP, HS, ⟨%X, %hX, HA⟩, HR⟩
  ihave HA := (take X) $$ HA
  icases HA with ⟨HA, Hcl⟩
  iapply (core X) $$ HA
  iintro %x HA
  iapply (hk x)
  ihave HA := Hcl $$ HA
  iframe
  iexists X
  iframe
  ipureintro; exact hX

theorem st_store_agm {Q : α → sProp 𝕄} {off : Fin 2 → ℕ} {inb : ∀ a, off a + S64x256.size a ≤ S64x256.size a} {pay : S64x256.Idx → Elt F .bf16}
    {hx : (agM.access (Rect.unit (s := S64x256) off S64x256.size inb)).Stores Finset.univ}
    {hm : (Finset.univ : Finset (Rect.unit (s := S64x256) off S64x256.size inb).shape.Idx) = Finset.univ ∨ ∀ a, (Rect.unit (s := S64x256) off S64x256.size inb).stride a = 1}
    {k : PUnit → Prog (TpuEff nD τ sig (Elt F) Λ₀ .tc) α} (hoff : off = fun _ => 0) (hv : v % 8 = 0) (hφ : v / 8 % 2 = 1)
    (hpay : pay = red m ρ l c)
    (hk : St m ρ K c n w v l st kk 1 ka iI iW oI oW lx kx kh ko ⊢ WP c (k ⟨⟩) Q) :
    St m ρ K c n w v l st kk fl ka iI iW oI oW lx kx kh ko
      ⊢ WP c (Prog.lift (.store agM (Rect.unit (s := S64x256) off S64x256.size inb) pay Finset.univ hx hm) >>= k) Q := by
  subst hoff hpay
  have hnf (q : Dev nD) : ¬ fly c q n v 0 := by
    unfold fly; rw [cnt_mul (n := v) hv]
    rintro ⟨-, -, h⟩; omega
  have core := fun X : S64x256.Idx → Elt F .bf16 => store_rect (c := c) (M := agM) (hx := hx) (hm := hm) (Q := Q) (k := k) (w := red m ρ l c)
    (Φ := (· = X)) (Ψ := (· = red m ρ l c))
    (fun X Y _ h1 _ => by
      funext i
      have e : (Rect.unit (s := S64x256) (fun _ => 0) S64x256.size inb).emb i = i := by
        funext a; apply Fin.ext; rw [Rect.emb_apply]; show 0 + 1 * _ = _; omega
      have := h1 i
      rw [e] at this
      exact this)
  unfold St Ags at hk ⊢
  simp only [ag_join (F := F) (c := c) _ hnf] at hk ⊢
  iintro ⟨Hr, HO, HB, HP, HS, ⟨%X, -, HA⟩, HR⟩
  iapply (core X) $$ HA
  iintro HA
  iapply hk
  iframe
  iexists _
  iframe
  ipureintro; exact fun _ => rfl

theorem st_send_ag {Q : α → sProp 𝕄} {cd : Dev nD → BitVec 1} {dv : ℕ} {dvl : cd c = 1#1 → dv < nD}
    {src : Memref sig .tc .vmem S64x256 .bf16} {offB : Dev nD → Fin 3 → ℕ} {inbB : cd c = 1#1 → ∀ a, offB c a + S1x64x256.size a ≤ S8x64x256.size a}
    {offA : Dev nD → Fin 1 → ℕ} {inbA : cd c = 1#1 → ∀ a, offA c a + S1.size a ≤ S8.size a} {sS : SemLoc sig}
    {hsc : ∀ h : cd c = 1#1, ((arM.slice (Rect.unit (s := S8x64x256) (offB c) S1x64x256.size (inbB h)) (fun _ => rfl)).squeeze S64x256 squeezes_S1x64x256_S64x256).view.ref.isScScratch = false}
    {hsrc : cd c = 1#1 → src.view.WordExact}
    {hdw : ∀ h : cd c = 1#1, ((arM.slice (Rect.unit (s := S8x64x256) (offB c) S1x64x256.size (inbB h)) (fun _ => rfl)).squeeze S64x256 squeezes_S1x64x256_S64x256).view.WordExact}
    {hsem : ∀ h : cd c = 1#1, (DmaTarget.remote (Dev.tc (⟨dv, dvl h⟩ : Dev nD)) ((arM.slice (Rect.unit (s := S8x64x256) (offB c) S1x64x256.size (inbB h)) (fun _ => rfl)).squeeze S64x256 squeezes_S1x64x256_S64x256) sS (hsc h)
      : DmaTarget nD τ sig .tc .vmem S64x256 .bf16).Typed .vmem (.dma ((cc0_scratch13.slice (Rect.unit (s := S8) (offA c) S1.size (inbA h))).squeeze S_ squeezes_S1_S_).sem)}
    {j : Prog (TpuEff nD τ sig (Elt F) Λ₀ .tc) α} (hcd : ∀ d, cd d = 1#1 ↔ peer n ≠ d) (hdv : dv = n % 8)
    (h1 : 1 ≤ n / 8) (h7 : n / 8 < 7) (hφ : n / 8 % 2 = 0) (hw : w = 8 * (n / 8)) (hv : v = 8 * (n / 8)) (hl : rnd (n / 8) = l) (hfl : fl = 1)
    (hs : src = agM) (hB : ∀ d, offB d = ![d.val, 0, 0]) (hA : ∀ d, offA d = ![d.val]) (hsS : sS = .dma (ssem true (peer n)))
    (hk : St m ρ K c (n + 1) w v l st kk fl ka iI iW oI oW lx kx kh ko ⊢ WP c j Q) :
    St m ρ K c n w v l st kk fl ka iI iW oI oW lx kx kh ko
      ⊢ WP c (dite (cd c = 1#1) (fun h => Prog.lift (.enqueueDma src (.remote (Dev.tc (⟨dv, dvl h⟩ : Dev nD))
          ((arM.slice (Rect.unit (s := S8x64x256) (offB c) S1x64x256.size (inbB h)) (fun _ => rfl)).squeeze S64x256 squeezes_S1x64x256_S64x256) sS (hsc h))
          (.dma ((cc0_scratch13.slice (Rect.unit (s := S8) (offA c) S1.size (inbA h))).squeeze S_ squeezes_S1_S_).sem) (hsrc h) (hdw h) (hsem h)) >>= fun _ => j) (fun _ => j)) Q := by
  by_cases h : cd c = 1#1
  · have hq := (hcd c).mp h
    subst hdv hfl
    rw [dif_pos h]
    have hpar : par (n / 8) = true := par_even hφ
    have hp := prs_send (m := m) (ρ := ρ) hq hw hv
    have take := ag_send (F := F) (c := c) (q := peer n) (n := n) (v := v) (X := red m ρ l c) rfl (not_fly_st rfl hv) (fly_st hq hφ hv)
    have ha := snd_congr (m := m) (ρ := ρ) (c := c) (n := n) (v := v) (n' := n + 1) (v' := v) (l := l) (st := st) (fun q => fly_n (by omega) (by omega))
    have hval : val m ρ (n / 8) c (peer n) = red m ρ l c := by rw [val_even hφ, hl]
    have core := send_core (m := m) (ρ := ρ) (K := K) (c := c) (q := (⟨n % 8, dvl h⟩ : Dev nD)) (n := n) (φ := n / 8) (Q := Q) h1 h7 rfl rfl hq
      (src := src) (sS := sS) (sh := shr (peer n)) ((slot_eq arM c (hB c) (inbB h)).trans (by rw [hpar]))
      (by rw [hpar]; exact hsS) (by rw [hpar, sem_ag c (hA c) (inbA h)])
      (by rw [hpar, hl, hs, val_even hφ, hl]; exact Entails.refl _) (hsc := hsc h) (hsrc := hsrc h) (hdw := hdw h) (hsem := hsem h) (k := fun _ => j)
    rw [← hs] at take
    rw [show peer n = (⟨n % 8, dvl h⟩ : Dev nD) from rfl] at take hp hval core
    rw [hval] at core
    unfold St Ags at hk ⊢
    rw [ha] at hk
    iintro ⟨#Hr, HO, HB, HP, HS, ⟨%X, %hX, HA⟩, HR⟩
    have hX := hX Nat.zero_lt_one
    subst hX
    ihave HA := take $$ HA
    icases HA with ⟨H, HA⟩
    ihave HP := hp $$ HP
    icases HP with ⟨HP, Hcl⟩
    iapply core $$ [HO HP H]
    · isplitr; · iexact Hr
      isplitl [HO]; · iexact HO
      isplitl [HP] <;> iassumption
    iintro ⟨HO, HP⟩
    iapply hk
    ihave HP := Hcl $$ HP
    isplitr; · iexact Hr
    iframe
    iexists _
    iframe
    ipureintro; exact fun _ => rfl
  · rw [dif_neg h, skip_n (not_not.mp fun hq => h ((hcd c).mpr hq)) (by omega)]
    exact hk

theorem st_keep_ag {Q : α → sProp 𝕄} {cd : Dev nD → BitVec 1} {off : Fin 3 → ℕ} {inb : ∀ a, off a + S1x64x256.size a ≤ S8x64x256.size a}
    {off2 : Fin 2 → ℕ} {inb2 : ∀ a, off2 a + S64x256.size a ≤ S64x256.size a}
    {pay : Vec F S64x256 .bf16 → S1x64x256.Idx → Elt F .bf16}
    {hl2 : cd c = 1#1 → agM.view.LoadsAt (Rect.unit (s := S64x256) off2 S64x256.size inb2).toLoadRect}
    {hl : cd c = 1#1 → arM.view.LoadsAt (Rect.unit (s := S8x64x256) off S1x64x256.size inb).toLoadRect}
    {hx : cd c = 1#1 → (arM.access (Rect.unit (s := S8x64x256) off S1x64x256.size inb)).Stores Finset.univ}
    {hm : cd c = 1#1 → ((Finset.univ : Finset (Rect.unit (s := S8x64x256) off S1x64x256.size inb).shape.Idx) = Finset.univ ∨ ∀ a, (Rect.unit (s := S8x64x256) off S1x64x256.size inb).stride a = 1)}
    {j : Prog (TpuEff nD τ sig (Elt F) Λ₀ .tc) α} (hcd : ∀ d, cd d = 1#1 ↔ peer ka = d) (h8 : ka < 8) (hfl : fl = 1) (hoff2 : off2 = fun _ => 0) (hoff : off = ![(peer ka).val, 0, 0])
    (hpay : ∀ X, pay X = up X)
    (hk : St m ρ K c n w v l st kk fl (ka + 1) iI iW oI oW lx kx kh ko ⊢ WP c j Q) :
    St m ρ K c n w v l st kk fl ka iI iW oI oW lx kx kh ko
      ⊢ WP c (dite (cd c = 1#1) (fun h => Prog.lift (.load agM (Rect.unit (s := S64x256) off2 S64x256.size inb2).toLoadRect (hl2 h)) >>= fun (x : Vec F S64x256 .bf16) =>
          Prog.lift (.load arM (Rect.unit (s := S8x64x256) off S1x64x256.size inb).toLoadRect (hl h)) >>= fun (_ : Vec F S1x64x256 .bf16) =>
          Prog.lift (.store arM (Rect.unit (s := S8x64x256) off S1x64x256.size inb) (pay x) Finset.univ (hx h) (hm h)) >>= fun _ => j) (fun _ => j)) Q := by
  by_cases h : cd c = 1#1
  · have hq := (hcd c).mp h
    rw [dif_pos h]
    subst hoff hfl
    have ld2 := load_full (c := c) (M := agM) hoff2 (inb := inb2) (hl := hl2 h) (q := shr c) (X := red m ρ l c) (Q := Q)
      (k := fun (x : Vec F S64x256 .bf16) => Prog.lift (.load arM (Rect.unit (s := S8x64x256) ![(peer ka).val, 0, 0] S1x64x256.size inb).toLoadRect (hl h)) >>= fun (_ : Vec F S1x64x256 .bf16) =>
        Prog.lift (.store arM (Rect.unit (s := S8x64x256) ![(peer ka).val, 0, 0] S1x64x256.size inb) (pay x) Finset.univ (hx h) (hm h)) >>= fun _ => j)
    have take := ag_slot (F := F) (c := c) (q := c) (n := n) (v := v) (X := red m ρ l c) not_fly_self
    have ld := load_slot_any (c := c) (M := arM) (r := Rect.unit (s := S8x64x256) ![(peer ka).val, 0, 0] S1x64x256.size inb) (hl := hl h) (fun _ => rfl)
      squeezes_S1x64x256_S64x256 (q := fullShare) (Φ := fun X => c.val < ka → X = red m ρ l c) (Q := Q)
      (k := fun (_ : Vec F S1x64x256 .bf16) => Prog.lift (.store arM (Rect.unit (s := S8x64x256) ![(peer ka).val, 0, 0] S1x64x256.size inb) (pay (red m ρ l c)) Finset.univ (hx h) (hm h)) >>= fun _ => j)
    have sto := store_slot (c := c) (M := arM) (r := Rect.unit (s := S8x64x256) ![(peer ka).val, 0, 0] S1x64x256.size inb) (hx := hx h) (hm := hm h) (fun _ => rfl)
      squeezes_S1x64x256_S64x256 shapeCasts_S64x256_S1x64x256 (Φ := fun X => c.val < ka → X = red m ρ l c) (X := red m ρ l c)
      (w := pay (red m ρ l c)) (hpay _) (Q := Q) (k := fun _ => j)
    rw [slot_eq arM c (by rw [hq]) inb] at ld sto
    unfold St Slf Ags at hk ⊢
    rw [known (kk := ka + 1) (show c.val < ka + 1 by rw [← hq]; show ka % 8 < ka + 1; omega)] at hk
    iintro ⟨Hr, HO, HB, HP, HS, ⟨%X, %hX, HA⟩, ⟨HL2, HL⟩, HR⟩
    have hX := hX Nat.zero_lt_one
    subst hX
    ihave HA := take $$ HA
    icases HA with ⟨HA, Hcl⟩
    iapply ld2 $$ HA
    iintro HA
    ihave HA := Hcl $$ HA
    iapply ld $$ HL
    iintro %x HL
    iapply sto $$ HL
    iintro HL
    iapply hk
    iframe
    iexists _
    iframe
    ipureintro; exact fun _ => rfl
  · have hq : peer ka ≠ c := fun e => h ((hcd c).mpr e)
    rw [dif_neg h]
    unfold St Slf at hk ⊢
    have hne : ka ≠ c.val := fun e => hq (Fin.ext (by show ka % 8 = _; omega))
    rw [known_iff (kk := ka) (kk' := ka + 1) (by omega)] at hk
    exact hk

end Cert.Mlp

end
-- ==== Proof.Run.lean ====
/-
# 01_k — the run of the kernel's body on one device
-/
module

public import proofs.«01_k».proof.Proof.Exchange

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable {m : (ℓ : Loc nD τ sig) → Buf (Elt F) ℓ} {ρ : Dev nD → PrngReg} {K : Dev nD × Fin 33 → ℕ} {c : Dev nD} {α : Type}
variable {n w v l st kk fl ka iI iW oI oW lx kx kh ko : ℕ}

theorem off00 : (![0, 0] : Fin 2 → ℕ) = fun _ => 0 := by
  funext a; fin_cases a <;> rfl

/-- The kernel's test whether a device's number in its group is `i`. -/
abbrev mine (i : BitVec 32) (d : Dev nD) : BitVec 1 :=
  Scalar.cmpi .ne (Scalar.extui (Scalar.cmpi .eq (Scalar.remsi (Scalar.divsi (Dev.word d) 1#32) 8#32) i)) 0#32

/-- The kernel's test whether a device's number in its group is not `i`. -/
abbrev other (i : BitVec 32) (d : Dev nD) : BitVec 1 :=
  Scalar.cmpi .ne (Scalar.extui (Scalar.cmpi .ne (Scalar.remsi (Scalar.divsi (Dev.word d) 1#32) 8#32) i)) 0#32

/-- A call of a part: the part runs to its result, which may hold a value that is not known, then what follows it. -/
theorem st_call {n' w' v' l' st' kk' fl' ka' iI' iW' oI' oW' lx' kx' kh' ko' : ℕ} {β X : Type} {Q : α → sProp 𝕄} {p : Prog (TpuEff nD τ sig (Elt F) Λ₀ .tc) β}
    {a : X → β} {k : β → Prog (TpuEff nD τ sig (Elt F) Λ₀ .tc) α}
    (h : ∀ (Q' : β → sProp 𝕄) (u : Unit), (∀ x, St m ρ K c n' w' v' l' st' kk' fl' ka' iI' iW' oI' oW' lx' kx' kh' ko' ⊢ Q' (a x))
      → (St m ρ K c n w v l st kk fl ka iI iW oI oW lx kx kh ko ⊢ WP c p Q'))
    (hk : ∀ x, St m ρ K c n' w' v' l' st' kk' fl' ka' iI' iW' oI' oW' lx' kx' kh' ko' ⊢ WP c (k (a x)) Q) :
    St m ρ K c n w v l st kk fl ka iI iW oI oW lx kx kh ko ⊢ WP c (p >>= k) Q := by
  unfold WP at h hk ⊢
  rw [wp_bind]
  exact h _ () hk

set_option maxHeartbeats 0 in
/-- The body on one device: from the state in which nothing has been done to the one in which all of it has. -/
theorem body_run {Q₀ : PUnit → sProp 𝕄} (hQ₀ : St m ρ K c 56 56 56 2 0 8 1 8 24 24 12 12 2 8 8 8 ⊢ Q₀ ⟨⟩) :
    St m ρ K c 0 0 8 0 0 0 0 0 0 0 0 0 0 0 0 0 ⊢ WP c (cc0_body xM (Memref.isWhole_whole _) (Memref.whole main_arg1) (Memref.isWhole_whole _) (Memref.whole main_arg2) (Memref.isWhole_whole _)
      (Memref.whole main_arg3) (Memref.isWhole_whole _) (Memref.whole main_arg4) (Memref.isWhole_whole _) (Memref.whole main_arg5) (Memref.isWhole_whole _) (Memref.whole main_arg6) (Memref.isWhole_whole _)
      oM (Memref.isWhole_whole _) xbM (Memref.isWhole_whole _) hM (Memref.isWhole_whole _) sM (Memref.isWhole_whole _) rsM (Memref.isWhole_whole _) agM (Memref.isWhole_whole _) arM (Memref.isWhole_whole _)
      wiM (Memref.isWhole_whole _) woM (Memref.isWhole_whole _) cc0_scratch8 cc0_scratch9 cc0_scratch10 cc0_scratch11 cc0_scratch12 cc0_scratch13) Q₀ := by
  rw [cc0_body_eq_skeleton]; delta cc0_body_skel
  repeat first
    | with_reducible exact st_ret (hQ u)
    | (rename_i x; with_reducible exact st_ret (hQ x))
    | with_reducible refine st_start ?_
    | ((with_reducible refine st_signal ?_ ?_ ?_ ?_ ?_ ?_ ?_) <;> [decide; rfl; decide; rfl; rfl; rfl; skip])
    | ((with_reducible refine st_barrier ?_ ?_ ?_ ?_ ?_) <;> [rfl; rfl; rfl; rfl; skip])
    | ((with_reducible refine st_issue_wi ?_ ?_ ?_ ?_ ?_ ?_) <;> [decide; decide; rfl; rfl; rfl; skip])
    | ((with_reducible refine st_issue_wo ?_ ?_ ?_ ?_ ?_ ?_) <;> [decide; decide; rfl; rfl; rfl; skip])
    | ((with_reducible refine st_wait_wi ?_ ?_ ?_ ?_) <;> [decide; rfl; rfl; skip])
    | ((with_reducible refine st_wait_wo ?_ ?_ ?_ ?_) <;> [decide; rfl; rfl; skip])
    | ((with_reducible refine st_load_wi ?_ ?_ ?_ ?_ ?_) <;> [decide; rfl; decide; decide; skip])
    | ((with_reducible refine st_load_wo ?_ ?_ ?_ ?_ ?_) <;> [decide; rfl; decide; decide; skip])
    | ((with_reducible refine st_load_x ?_ ?_) <;> [exact off00; skip])
    | ((with_reducible refine st_load_xb ?_ ?_ ?_) <;> [rfl; exact off00; skip])
    | with_reducible refine st_load_xb_any fun _ => ?_
    | ((with_reducible refine st_load_h ?_ ?_ ?_) <;> [rfl; exact off00; skip])
    | with_reducible refine st_load_h_any fun _ => ?_
    | with_reducible refine st_load_o_any fun _ => ?_
    | ((with_reducible refine st_load_snd ?_ ?_ ?_ fun _ => ?_) <;> [rfl; rfl; rfl; skip])
    | ((with_reducible refine st_load_rs ?_ ?_ ?_ ?_ ?_) <;> [rfl; rfl; rfl; rfl; skip])
    | ((with_reducible refine st_load_ag ?_ ?_ ?_ ?_ ?_) <;> [rfl; rfl; rfl; rfl; skip])
    | with_reducible refine st_load_agm fun _ => ?_
    | ((with_reducible refine st_store_h ?_ ?_ ?_ ?_) <;> [rfl; rfl; rfl; skip])
    | ((with_reducible refine st_store_h0 ?_ ?_ ?_ ?_) <;> [rfl; rfl; rfl; skip])
    | ((with_reducible refine st_store_xb_all ?_ ?_ ?_ ?_) <;> [rfl; exact off00; rfl; skip])
    | ((with_reducible refine st_store_xb ?_ ?_ ?_ ?_ ?_) <;> [rfl; decide; rfl; rfl; skip])
    | ((with_reducible refine st_store_xb0 ?_ ?_ ?_) <;> [rfl; rfl; skip])
    | ((with_reducible refine st_store_o ?_ ?_ ?_ ?_) <;> [decide; rfl; rfl; skip])
    | ((with_reducible refine st_store_snd ?_ ?_ ?_ ?_ ?_ ?_) <;> [decide; rfl; rfl; rfl; rfl; skip])
    | ((with_reducible refine st_store_agm ?_ ?_ ?_ ?_ ?_) <;> [exact off00; rfl; rfl; rfl; skip])
    | ((with_reducible refine st_send_rs ?_ ?_ ?_ ?_ ?_ ?_ ?_ ?_ ?_ ?_ ?_ ?_ ?_ ?_) <;> [decide; rfl; decide; decide; rfl; rfl; rfl; rfl; decide; rfl; decide; decide; rfl; skip])
    | ((with_reducible refine st_keep_rs (cd := mine _) ?_ ?_ ?_ ?_ ?_) <;> [decide; decide; rfl; rfl; skip])
    | ((with_reducible refine st_keep_ag (cd := mine _) ?_ ?_ ?_ ?_ ?_ ?_ ?_) <;> [decide; decide; rfl; exact off00; rfl; exact fun _ => rfl; skip])
    | ((with_reducible refine st_recv (cd := other _) ?_ ?_ ?_ ?_ ?_ ?_ ?_) <;> [decide; decide; decide; rfl; exact fun _ => rfl; exact fun _ => rfl; skip])
    | ((with_reducible refine st_sdone_rs (cd := other _) ?_ ?_ ?_ ?_ ?_ ?_ ?_ ?_) <;> [decide; decide; decide; rfl; rfl; exact fun _ => rfl; exact fun _ => rfl; skip])
    | ((with_reducible refine st_sdone_ag (cd := other _) ?_ ?_ ?_ ?_ ?_ ?_ ?_ ?_ ?_ ?_) <;> [decide; decide; decide; rfl; rfl; rfl; rfl; exact fun _ => rfl; exact fun _ => rfl; skip])
    | ((with_reducible refine st_send_ag ?_ ?_ ?_ ?_ ?_ ?_ ?_ ?_ ?_ ?_ ?_ ?_ ?_ ?_) <;> [decide; rfl; decide; decide; rfl; rfl; rfl; rfl; rfl; rfl; decide; decide; rfl; skip])
    | (with_reducible apply st_call
       swap; intro _; swap
       intro Q u hQ
       first
        | (rw [k0_part1_eq_skeleton]; delta k0_part1_skel)
        | (rw [k0_part2_eq_skeleton]; delta k0_part2_skel)
        | (rw [k0_part3_eq_skeleton]; delta k0_part3_skel)
        | (rw [k0_part4_eq_skeleton]; delta k0_part4_skel)
        | (rw [k0_part5_eq_skeleton]; delta k0_part5_skel)
        | (rw [k0_part6_eq_skeleton]; delta k0_part6_skel)
        | (rw [k0_part7_eq_skeleton]; delta k0_part7_skel)
        | (rw [k0_part8_eq_skeleton]; delta k0_part8_skel)
        | (rw [k0_part9_eq_skeleton]; delta k0_part9_skel)
        | (rw [k0_part10_eq_skeleton]; delta k0_part10_skel)
        | (rw [k0_part11_eq_skeleton]; delta k0_part11_skel)
        | (rw [k0_part12_eq_skeleton]; delta k0_part12_skel)
        | (rw [k0_part13_eq_skeleton]; delta k0_part13_skel)
        | (rw [k0_part14_eq_skeleton]; delta k0_part14_skel)
        | (rw [k0_part15_eq_skeleton]; delta k0_part15_skel)
        | (rw [k0_part16_eq_skeleton]; delta k0_part16_skel)
        | (rw [k0_part17_eq_skeleton]; delta k0_part17_skel)
        | (rw [k0_part18_eq_skeleton]; delta k0_part18_skel)
        | (rw [k0_part19_eq_skeleton]; delta k0_part19_skel)
        | (rw [k0_part20_eq_skeleton]; delta k0_part20_skel)
        | (rw [k0_part21_eq_skeleton]; delta k0_part21_skel)
        | (rw [k0_part22_eq_skeleton]; delta k0_part22_skel)
        | (rw [k0_part23_eq_skeleton]; delta k0_part23_skel)
        | (rw [k0_part24_eq_skeleton]; delta k0_part24_skel)
        | (rw [k0_part25_eq_skeleton]; delta k0_part25_skel)
        | (rw [k0_part26_eq_skeleton]; delta k0_part26_skel)
        | (rw [k0_part27_eq_skeleton]; delta k0_part27_skel)
        | (rw [k0_part28_eq_skeleton]; delta k0_part28_skel)
        | (rw [k0_part29_eq_skeleton]; delta k0_part29_skel)
        | (rw [k0_part30_eq_skeleton]; delta k0_part30_skel)
        | (rw [k0_part31_eq_skeleton]; delta k0_part31_skel)
        | (rw [k0_part32_eq_skeleton]; delta k0_part32_skel)
        | (rw [k0_part33_eq_skeleton]; delta k0_part33_skel)
        | (rw [k0_part34_eq_skeleton]; delta k0_part34_skel)
        | (rw [k0_part35_eq_skeleton]; delta k0_part35_skel)
        | (rw [k0_part36_eq_skeleton]; delta k0_part36_skel)
        | (rw [k0_part37_eq_skeleton]; delta k0_part37_skel)
        | (rw [k0_part38_eq_skeleton]; delta k0_part38_skel)
        | (rw [k0_part39_eq_skeleton]; delta k0_part39_skel)
        | (rw [k0_part40_eq_skeleton]; delta k0_part40_skel)
        | (rw [k0_part41_eq_skeleton]; delta k0_part41_skel)
        | (rw [k0_part42_eq_skeleton]; delta k0_part42_skel)
        | (rw [k0_part43_eq_skeleton]; delta k0_part43_skel)
        | (rw [k0_part44_eq_skeleton]; delta k0_part44_skel)
        | (rw [k0_part45_eq_skeleton]; delta k0_part45_skel)
        | (rw [k0_part46_eq_skeleton]; delta k0_part46_skel)
        | (rw [k0_part47_eq_skeleton]; delta k0_part47_skel)
        | (rw [k0_part48_eq_skeleton]; delta k0_part48_skel)
        | (rw [k0_part49_eq_skeleton]; delta k0_part49_skel)
        | (rw [k0_part50_eq_skeleton]; delta k0_part50_skel)
        | (rw [k0_part51_eq_skeleton]; delta k0_part51_skel)
        | (rw [k0_part52_eq_skeleton]; delta k0_part52_skel)
        | (rw [k0_part53_eq_skeleton]; delta k0_part53_skel)
        | (rw [k0_part54_eq_skeleton]; delta k0_part54_skel)
        | (rw [k0_part55_eq_skeleton]; delta k0_part55_skel)
        | (rw [k0_part56_eq_skeleton]; delta k0_part56_skel)
        | (rw [k0_part57_eq_skeleton]; delta k0_part57_skel))
  exact st_ret hQ₀

end Cert.Mlp

end
-- ==== Proof.Launch.lean ====
module

public import Idealize.ShloMosaic.Lib.Pipeline.ValueKit
public import Idealize.ShloMosaic.Lib.Pipeline.TalkSched
public import Idealize.ShloMosaic.Lib.Pipeline.CollectiveSegs
public import proofs.«01_k».proof.Proof.Entry
public import proofs.«01_k».proof.Proof.Run

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => Owe c 0
    | ⟨_ + 1, _⟩ => 0

/-! ## The body -/

section Body
variable (c : Dev nD)

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m ρ c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost : sProp 𝕄 :=
  iprop(Φ₁ c ∗ (dats m ρ 0 c).owesAt 0 t0_0.succ ∗ stg c cc0_stg0_0 (xstg m ρ c) ∗ stg c cc0_stg1_0 (outAt m ρ c))

theorem before_x (d) : (dats m ρ 0 c).before (0 : Fin 2) t0_0 d = xstg m ρ c := by
  unfold Dat.before; rw [if_pos (by decide +kernel)]; rfl

/-- The staging buffers and what is owed, as the body's states say them. -/
theorem pre_in : bodyPre m ρ c ⊢ iprop(∃ K, St m ρ K c 0 0 8 0 0 0 0 0 0 0 0 0 0 0 0 0 ∗ Idle c) := by
  have hO : (dats m ρ 0 c).owesAt 0 t0_0.castSucc ⊢ Ow c 0 := TalkSites.owesAt_elim (dats m ρ 0 c) 0 t0_0.castSucc (Owe c 0) rfl
  have hx : iprop(∃ d, stg c cc0_stg0_0 ((dats m ρ 0 c).before (0 : Fin 2) t0_0 d)) ⊢ Xs m ρ c := by
    unfold Xs
    iintro ⟨%d, %f, %h, H⟩
    iapply (whole_in c cc0_stg0_0 (· = xstg m ρ c) f (h.trans (before_x m ρ c d))) $$ H
  have ho : iprop(∃ d, stg c cc0_stg1_0 ((dats m ρ 0 c).before (1 : Fin 2) t0_0 d)) ⊢ Oo m ρ c 0 := by
    unfold Oo
    iintro ⟨%d, %f, -, H⟩
    iapply (whole_in c cc0_stg1_0 (fun X => ∀ i, (i 1).val < 256 * 0 → X i = outAt m ρ c i) f (fun i h => absurd h (by omega))) $$ H
  unfold bodyPre Φ₀ St
  iintro ⟨⟨%K, ⟨#Hr, H1, H2, H3, H4, H5, H6, H7, H8, H9⟩, HI⟩, Ho, Hx, Hout⟩
  iexists K
  isplitr [HI]
  · isplitl []; · iexact Hr
    isplitl [Ho]; · iapply hO $$ Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iapply hx $$ Hx
    isplitl [H8]; · iexact H8
    isplitl [H9]; · iexact H9
    iapply ho $$ Hout
  · iexact HI

theorem post_out : iprop(Φ₁ c ∗ Ow c 56 ∗ Xs m ρ c ∗ Oo m ρ c 8) ⊢ bodyPost m ρ c := by
  have hO : Ow c 56 ⊢ (dats m ρ 0 c).owesAt 0 t0_0.succ := by
    unfold Ow; rw [Owe_end]
    iintro ⟨%W, H⟩
    iapply (TalkSites.owesAt_intro (dats m ρ 0 c) 0 t0_0.succ 0 rfl rfl W) $$ H
  have hx : Xs m ρ c ⊢ stg c cc0_stg0_0 (xstg m ρ c) := by
    unfold Xs
    exact whole_out c cc0_stg0_0 (· = xstg m ρ c)
  have ho : Oo m ρ c 8 ⊢ stg c cc0_stg1_0 (outAt m ρ c) := by
    unfold Oo
    iintro H
    ihave H := (whole_out c cc0_stg1_0 (fun X => ∀ i, (i 1).val < 256 * 8 → X i = outAt m ρ c i)) $$ H
    icases H with ⟨%f, %h, H⟩
    iexists f
    isplitr
    · ipureintro; exact funext fun i => h i (i 1).isLt
    iexact H
  unfold bodyPost
  iintro ⟨H, HO, Hx, Ho⟩
  isplitl [H]; · iexact H
  isplitl [HO]; · iapply hO $$ HO
  isplitl [Hx]; · iapply hx $$ Hx
  iapply ho $$ Ho

theorem body_obligation : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (cc0_body xM (Memref.isWhole_whole _) (Memref.whole main_arg1) (Memref.isWhole_whole _) (Memref.whole main_arg2) (Memref.isWhole_whole _)
      (Memref.whole main_arg3) (Memref.isWhole_whole _) (Memref.whole main_arg4) (Memref.isWhole_whole _) (Memref.whole main_arg5) (Memref.isWhole_whole _) (Memref.whole main_arg6) (Memref.isWhole_whole _)
      oM (Memref.isWhole_whole _) xbM (Memref.isWhole_whole _) hM (Memref.isWhole_whole _) sM (Memref.isWhole_whole _) rsM (Memref.isWhole_whole _) agM (Memref.isWhole_whole _) arM (Memref.isWhole_whole _)
      wiM (Memref.isWhole_whole _) woM (Memref.isWhole_whole _) cc0_scratch8 cc0_scratch9 cc0_scratch10 cc0_scratch11 cc0_scratch12 cc0_scratch13) (fun _ => bodyPost m ρ c)
  refine (pre_in m ρ c).trans ?_
  iintro ⟨%K, Hs, HI⟩
  have h := body_run (m := m) (ρ := ρ) (K := K) (c := c) (Q₀ := fun _ => St m ρ K c 56 56 56 2 0 8 1 8 24 24 12 12 2 8 8 8) (Entails.refl _)
  have h' := fun a : PUnit => (st_stop (m := m) (ρ := ρ) (K := K) (c := c)).trans (BI.fupd_mono (post_out m ρ c))
  iapply (wp_fupd frame _ _ _ _)
  iapply (wp_mono frame _ _ h')
  iapply (wp_frame_r)
  isplitl [Hs]
  · iapply h $$ Hs
  iexact HI
end Body

/-! ## The launch -/

theorem share_eq (c : Dev nD) (w : Fin cfg0.W) : (dats m ρ 0 c).share w = fullShare := by unfold Dat.share; split <;> rfl

theorem stage_lv (c : Dev nD) (w : Fin cfg0.W) (s : Fin (cfg0.win w).nbuf) (k : ℕ) : lv ((c : Thread nD τ), .dma ((cfg0.win w).sem s)) 0 ≤ k := by
  have h : kind (.dma ((cfg0.win w).sem s)) = .other := by
    fin_cases w <;> fin_cases s <;> decide
  unfold lv
  rw [show kind (((c : Thread nD τ), SemLoc.dma ((cfg0.win w).sem s)) : GSem nD τ sig).2 = .other from h]
  exact Nat.zero_le k

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 0 (by decide) (stage_lv c w s 0)
    · have h := mayWait (F := F) c (.dma ((cfg0.win w).sem s)) 0 56 (by decide) (stage_lv c w s _)
      rw [Owe_end] at h
      exact h

theorem start_intro (c : Dev nD) :
    iprop(Pipeline.unscopedRestP Pipeline.Prefetch.none cfg0.spec c (fun b => m ((c : Thread nD τ).loc b)) ∗ levAts L lv
        ∗ Pipeline.launchCred (fun d => Owe d 0) c ∗ prngReg c (ρ c) ∗ G' m ρ c)
      ⊢ |={Set.univ}=> iprop(start m ρ c ∗ Zk m c) := by
  rw [Pipeline.unscopedRestP_none]
  unfold start G'
  iintro ⟨Hw, #Hlev, Hcr, -, ⟨%K, #Hr, Hl⟩⟩
  ihave Hc := (creds (F := F) c) $$ Hcr
  ihave Hw := (weights m c) $$ Hw
  icases Hw with ⟨HZ, Hw⟩
  imodintro
  isplitr [HZ]
  · iexists K
    isplitl []
    · unfold records
      unfold recs
      icases Hr with ⟨H1, H2⟩
      isplitl []; · iexact H1
      isplitl []; · iexact H2
      iexact Hlev
    isplitl [Hl]; · iexact Hl
    isplitl [Hc]; · iexact Hc
    iexact Hw
  · iexact HZ

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  have h := phi_start (m := m) (ρ := ρ) (c := c)
  unfold junks at h
  iintro ⟨Hs, -, Hr⟩
  iapply h
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  have h := (sems_eq (F := F) c).2
  unfold Φ₁ junks
  iintro ⟨H1, H2, HJ⟩
  ihave H := h $$ [H1 H2]
  · isplitl [H1] <;> iassumption
  icases H with ⟨Ho, Hu⟩
  isplitl [Hu]; · iexact Hu
  isplitl [Ho]; · iexact Ho
  iexact HJ

/-- A weight array some share of which is held reads as at the start. -/
theorem kept_read (c : Dev nD) (b : Ref sig .tc) (k : ℕ) (s' : Phys nD τ sig (Elt F)) :
    iprop(SI s' ∗ kept m c b k) ⊢ (iprop(⌜s'.mem.mem ((c : Thread nD τ).loc b) = m ((c : Thread nD τ).loc b)⌝ ∗ SI s') : sProp 𝕄) := by
  iintro ⟨HSI, H0⟩
  icombine HSI H0 gives %h0
  isplitr
  · ipureintro; exact Buf.eq_of_forall_mem_univ h0
  iexact HSI

def QY (c : Dev nD) (s : MemSt nD τ sig (Elt F)) : Prop :=
  (∀ sm : SemLoc sig, sm.isScoped .tc = false → s.sem ((c.tc : Thread nD τ), sm) = 0)
    ∧ ∀ b : Ref sig .tc, b ∈ [main_arg1, main_arg2, main_arg3, main_arg4, main_arg5, main_arg6] → s.mem ((c : Thread nD τ).loc b) = m ((c : Thread nD τ).loc b)

theorem read_end (c : Dev nD) (s' : Phys nD τ sig (Elt F)) :
    iprop(unscopedSems0 c ∗ Zk m c ∗ SI s') ⊢ (iprop(|={Set.univ}=> iprop(⌜QY m c s'.mem⌝ ∗ SI s')) : sProp 𝕄) := by
  unfold Zk
  iintro ⟨Hu, ⟨H1, H2, H3, H4, H5, H6⟩, HSI⟩
  ihave H := (kept_read m c main_arg1 24 s') $$ [HSI H1]
  · isplitl [HSI] <;> iassumption
  icases H with ⟨%h1, HSI⟩
  ihave H := (kept_read m c main_arg2 12 s') $$ [HSI H2]
  · isplitl [HSI] <;> iassumption
  icases H with ⟨%h2, HSI⟩
  ihave H := (kept_read m c main_arg3 24 s') $$ [HSI H3]
  · isplitl [HSI] <;> iassumption
  icases H with ⟨%h3, HSI⟩
  ihave H := (kept_read m c main_arg4 12 s') $$ [HSI H4]
  · isplitl [HSI] <;> iassumption
  icases H with ⟨%h4, HSI⟩
  ihave H := (kept_read m c main_arg5 24 s') $$ [HSI H5]
  · isplitl [HSI] <;> iassumption
  icases H with ⟨%h5, HSI⟩
  ihave H := (kept_read m c main_arg6 12 s') $$ [HSI H6]
  · isplitl [HSI] <;> iassumption
  icases H with ⟨%h6, HSI⟩
  imod (Pipeline.unscopedSems0_read (X := unscopedSems0 c) (c := c) fupd_intro s') $$ [Hu HSI] with ⟨%h, HSI⟩
  · isplitl [Hu] <;> iassumption
  imodintro
  isplitr
  · ipureintro
    refine ⟨h, fun b hb => ?_⟩
    simp only [List.mem_cons, List.not_mem_nil, or_false] at hb
    rcases hb with rfl | rfl | rfl | rfl | rfl | rfl <;> assumption
  iexact HSI

/-! ## The run -/

abbrev finalA (c : Dev nD) (w : Fin cfg0.W) : Buf (Elt F) ((cfg0.win w).arr.view.loc (c : Thread nD τ)) := (dats m ρ 0 c).arrAt w cfg0.N

theorem finalA_x (c : Dev nD) : finalA m ρ c (0 : Fin 2) = m ((c : Thread nD τ).loc main_arg0) :=
  (dats (F := F) m ρ 0 c).arrAt_in (0 : Fin 2) rfl _

theorem finalA_out (c : Dev nD) : finalA m ρ c (1 : Fin 2) = outAt m ρ c :=
  (dats (F := F) m ρ 0 c).arrAt_eq_of_after_last (1 : Fin 2) t0_0 (by decide +kernel) _ fun j => rfl

/-- What a run leaves: on every device the computed result, the arguments as they were, and every semaphore counter at zero. -/
def Post (r : PUnit × MemSt nD τ sig (Elt F)) : Prop :=
  (∀ c : Dev nD, r.2.mem ((c : Thread nD τ).loc main_v1) = outAt m ρ c
    ∧ ∀ b : Ref sig .tc, b ∈ [main_arg0, main_arg1, main_arg2, main_arg3, main_arg4, main_arg5, main_arg6] → r.2.mem ((c : Thread nD τ).loc b) = m ((c : Thread nD τ).loc b))
  ∧ r.2.sem = fun _ => 0

set_option maxRecDepth 8000 in
/-- For any float values, from any memory with zero counters: every weakly fair execution of @main on the eight devices
    terminates and leaves `Post`. -/
theorem run_main : θ_run defs (onTc (τ := τ) (main (F := F))) (s₀ m ρ) (Post m ρ) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => Owe d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := Zk m)
    (hX := start_intro m ρ) (hin := phi0_intro m ρ) (hout := phi1_exit m ρ)
    (QY := QY m) (hY := read_end m)
    (hQ := fun s h hs => ⟨fun c => ⟨((h c).1 (1 : Fin 2)).trans (finalA_out m ρ c), fun b hb => by
        rcases List.mem_cons.mp hb with rfl | hb
        · exact ((h c).1 (0 : Fin 2)).trans (finalA_x m ρ c)
        · exact (h c).2.2.2 b hb⟩, sem_eq_zero hs fun c => (h c).2.2.1⟩)

end Cert.Mlp

end
-- ==== Proof.Value.lean ====
module

public import Idealize.ShloMosaic.Lib.Pointwise
public import proofs.«01_k».proof.Proof.Gen.ReferenceIdeal.Run
public import proofs.«01_k».proof.Proof.Launch

@[expose] public section

set_option maxRecDepth 16384

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The output is the reference's -/

/-- The payloads at an index. -/
theorem pay1_at (x : Vec Ideal S64x2048 .f32) (i) : k0_pay1 (F := Ideal) x i = x i := by
  unfold k0_pay1; pointwise

theorem pay165_at (x : S64x256.Idx → Elt Ideal .bf16) (a : Fin 64) (b : Fin 256) : k0_pay165 (F := Ideal) (up x) (ix2 a b) = x (ix2 a b) := by
  unfold k0_pay165 up; pointwise

theorem pay2_at (w : S2048x512.Idx → Elt Ideal .f32) (x : Vec Ideal S64x2048 .bf16) (a : Fin 64) (b : Fin 512) :
    k0_pay2 (F := Ideal) (wiUp w) x (ix2 a b) = max (∑ j : Fin 2048, (x (ix2 a j) : EReal) * w (ix2 j b)) 0 := by
  unfold k0_pay2 wiUp; pointwise

theorem pay13_at (w : S4096x512.Idx → Elt Ideal .f32) (x : Vec Ideal S64x4096 .bf16) (a : Fin 64) (b : Fin 256) :
    k0_pay13 (F := Ideal) (woUp w) x (ix2 a b) = ∑ j : Fin 4096, (x (ix2 a j) : EReal) * w (ix2 j ⟨b.val, by omega⟩) := by
  unfold k0_pay13 k0_pay12 woUp; pointwise

theorem pay16_at (w : S4096x512.Idx → Elt Ideal .f32) (x : Vec Ideal S64x4096 .bf16) (a : Fin 64) (b : Fin 256) :
    k0_pay16 (F := Ideal) (woUp w) x (ix2 a b) = ∑ j : Fin 4096, (x (ix2 a j) : EReal) * w (ix2 j ⟨256 + b.val, by omega⟩) := by
  unfold k0_pay16 k0_pay12 woUp; pointwise

theorem sum8_at (p : Dev nD → S64x256.Idx → Elt Ideal .bf16) (a : Fin 64) (b : Fin 256) :
    sum8 (F := Ideal) p (ix2 a b) = ∑ c : Fin 8, (p c (ix2 a b) : EReal) := by
  unfold sum8 k0_pay42 k0_pay40 k0_pay41 up; pointwise
  rw [Fin.sum_univ_eight]

/-- A layer of the reference at an index. -/
def layer (X : S64x2048.Idx → EReal) (Wi : Cert.ReferenceIdeal.S2048x32768.Idx → EReal) (Wo : Cert.ReferenceIdeal.S32768x2048.Idx → EReal) :
    S64x2048.Idx → EReal :=
  Host.dotGeneral (F := Ideal) (φ₁ := .f32) (φ₂ := .f32) Cert.ReferenceIdeal.dot_S64x32768_S32768x2048_S64x2048_1_0_0_1_n_n none
    (maximumf (F := Ideal) (φ := .f32)
      (Host.dotGeneral (F := Ideal) (φ₁ := .f32) (φ₂ := .f32) Cert.ReferenceIdeal.dot_S64x2048_S2048x32768_S64x32768_1_0_0_1_n_n none X Wi)
      (broadcastInDim Cert.ReferenceIdeal.S64x32768 ![] Cert.ReferenceIdeal.Facts₀.bcast_S_S64x32768
        (constant (F := Ideal) Cert.ReferenceIdeal.S_ .f32 0x00000000#32))) Wo

theorem layer_at (X : S64x2048.Idx → EReal) (Wi : Cert.ReferenceIdeal.S2048x32768.Idx → EReal) (Wo : Cert.ReferenceIdeal.S32768x2048.Idx → EReal)
    (a : Fin 64) (b : Fin 2048) : layer X Wi Wo (ix2 a b)
      = ∑ k : Fin 32768, max (∑ j : Fin 2048, X (ix2 a j) * Wi (ix2 j k)) 0 * Wo (ix2 k b) := by
  unfold layer; pointwise

/-! ## The weights -/

variable (m : (ℓ : Loc nD τ sig) → Buf (Elt F) ℓ)

/-- The device's part of the first and of the second matrix of layer `l`. -/
def winA (c : Dev nD) (l : ℕ) : S2048x4096.Idx → Elt F .f32 := (winM l).view.read (Elt F) (m ((winM l).view.loc (c : Thread nD τ)))
def woutA (c : Dev nD) (l : ℕ) : S4096x2048.Idx → Elt F .f32 := (woutM l).view.read (Elt F) (m ((woutM l).view.loc (c : Thread nD τ)))

theorem wiV_at (c : Dev nD) (i l n : ℕ) (hl : i / 8 = l) (hn : i % 8 = n) (a : Fin 2048) (b : Fin 512) :
    wiV m c i (ix2 a b) = winA m c l (ix2 a ⟨512 * n + b.val, by omega⟩) := by
  subst hl hn
  refine congrArg (winA m c (i / 8)) ?_
  funext t; fin_cases t
  · exact Fin.ext (by show 0 + 1 * a.val = a.val; omega)
  · exact Fin.ext (by show 512 * (i % 8) + 1 * b.val = 512 * (i % 8) + b.val; omega)

theorem woV_at (c : Dev nD) (i l n : ℕ) (hl : i / 4 = l) (hn : i % 4 = n) (a : Fin 4096) (b : Fin 512) :
    woV m c i (ix2 a b) = woutA m c l (ix2 a ⟨512 * n + b.val, by omega⟩) := by
  subst hl hn
  refine congrArg (woutA m c (i / 4)) ?_
  funext t; fin_cases t
  · exact Fin.ext (by show 0 + 1 * a.val = a.val; omega)
  · exact Fin.ext (by show 512 * (i % 4) + 1 * b.val = 512 * (i % 4) + b.val; omega)

/-! ## One layer of the kernel -/

variable (mi : (ℓ : Loc nD τ sig) → Buf (Elt Ideal) ℓ)

theorem hOf_at (c : Dev nD) (l : ℕ) (x : Vec Ideal S64x2048 .bf16) (a : Fin 64) (n : Fin 4096) :
    hOf mi c l x (ix2 a n) = max (∑ j : Fin 2048, (x (ix2 a j) : EReal) * winA mi c l (ix2 j n)) 0 := by
  have e : hOf mi c l x (ix2 a n) = k0_pay2 (wiUp (wiV mi c (8 * l + n.val / 512))) x (ix2 a ⟨n.val % 512, Nat.mod_lt _ (by decide)⟩) := by
    refine congrArg (k0_pay2 (wiUp (wiV mi c (8 * l + n.val / 512))) x) ?_
    funext t; fin_cases t <;> rfl
  rw [e, pay2_at]
  refine congrArg (max · (0 : EReal)) (Finset.sum_congr rfl fun j _ => ?_)
  rw [wiV_at mi c _ l (n.val / 512) (by omega) (by omega)]
  have e' : (⟨512 * (n.val / 512) + n.val % 512, by omega⟩ : Fin 4096) = n := Fin.ext (by show 512 * (n.val / 512) + n.val % 512 = n.val; omega)
  exact congrArg (fun z => (x (ix2 a j) : EReal) * winA mi c l (ix2 j z)) e'

theorem pOf_at (c : Dev nD) (l : ℕ) (q : Dev nD) (h : Vec Ideal S64x4096 .bf16) (a : Fin 64) (b : Fin 256) (z : Fin 2048) (hz : z.val = 256 * q.val + b.val) :
    pOf mi c l q h (ix2 a b) = ∑ n : Fin 4096, (h (ix2 a n) : EReal) * woutA mi c l (ix2 n z) := by
  have hq : q.val < 8 := q.isLt
  unfold pOf
  split
  · rw [pay13_at]
    refine Finset.sum_congr rfl fun n _ => ?_
    rw [woV_at mi c _ l (q.val / 2) (by omega) (by omega)]
    refine congrArg (fun z => (h (ix2 a n) : EReal) * woutA mi c l (ix2 n z)) (Fin.ext ?_)
    show 512 * (q.val / 2) + b.val = z.val; omega
  · rw [pay16_at]
    refine Finset.sum_congr rfl fun n _ => ?_
    rw [woV_at mi c _ l (q.val / 2) (by omega) (by omega)]
    refine congrArg (fun z => (h (ix2 a n) : EReal) * woutA mi c l (ix2 n z)) (Fin.ext ?_)
    show 512 * (q.val / 2) + (256 + b.val) = z.val; omega

theorem wide_at (p : Dev nD → S64x256.Idx → Elt F .bf16) (a : Fin 64) (z : Fin 2048) :
    wide p (ix2 a z) = p ⟨z.val / 256, by show _ < 8; omega⟩ (ix2 a ⟨z.val % 256, Nat.mod_lt _ (by decide)⟩) := by
  refine congrArg (p ⟨z.val / 256, _⟩) ?_
  funext t; fin_cases t <;> rfl

/-- A sum over the hidden layer, device by device. -/
theorem sum_devices (f : Fin 32768 → EReal) :
    ∑ k, f k = ∑ c : Fin 8, ∑ n : Fin 4096, f ⟨c.val * 4096 + n.val, by omega⟩ := by
  rw [← Fintype.sum_prod_type', ← (finProdFinEquiv (m := 8) (n := 4096)).sum_comp f]
  refine Finset.sum_congr rfl fun x _ => congrArg f (Fin.ext ?_)
  show x.2.val + 4096 * x.1.val = x.1.val * 4096 + x.2.val; omega

theorem block_in (c : Dev nD) (Wi : Cert.ReferenceIdeal.S2048x32768.Idx → EReal) (j : Fin 2048) (n : Fin 4096) :
    Layout.block ⟨2, ![2048, 4096]⟩ ⟨2, ![2048, 32768]⟩ 1 8 c Wi (by decide) (ix2 j n)
      = Wi (ix2 j ⟨c.val * 4096 + n.val, by have h : c.val < 8 := c.isLt; omega⟩) := by
  refine congrArg Wi ?_
  funext t; fin_cases t <;> rfl

theorem block_out (c : Dev nD) (Wo : Cert.ReferenceIdeal.S32768x2048.Idx → EReal) (n : Fin 4096) (z : Fin 2048) :
    Layout.block ⟨2, ![4096, 2048]⟩ ⟨2, ![32768, 2048]⟩ 0 8 c Wo (by decide) (ix2 n z)
      = Wo (ix2 ⟨c.val * 4096 + n.val, by have h : c.val < 8 := c.isLt; omega⟩ z) := by
  refine congrArg Wo ?_
  funext t; fin_cases t <;> rfl

/-- The kernel's layer is the reference's, its matrices cut over the devices. -/
theorem wide_eq_layer (l : ℕ) (x : Dev nD → Vec Ideal S64x2048 .bf16) (X : S64x2048.Idx → EReal) (hx : ∀ c, x c = X)
    (Wi : Cert.ReferenceIdeal.S2048x32768.Idx → EReal) (Wo : Cert.ReferenceIdeal.S32768x2048.Idx → EReal)
    (hi : ∀ c : Dev nD, winA mi c l = Layout.block ⟨2, ![2048, 4096]⟩ ⟨2, ![2048, 32768]⟩ 1 8 c Wi (by decide))
    (ho : ∀ c : Dev nD, woutA mi c l = Layout.block ⟨2, ![4096, 2048]⟩ ⟨2, ![32768, 2048]⟩ 0 8 c Wo (by decide)) :
    (wide fun q => sum8 fun c => pOf mi c l q (hOf mi c l (x c))) = layer X Wi Wo := by
  funext i
  obtain ⟨a, z, rfl⟩ : ∃ (a : Fin 64) (z : Fin 2048), i = ix2 a z := ⟨i 0, i 1, eq_ix2 i⟩
  rw [wide_at, sum8_at, layer_at, sum_devices]
  refine Finset.sum_congr rfl fun c _ => ?_
  rw [pOf_at mi c l _ _ a _ z (by show z.val = 256 * (z.val / 256) + z.val % 256; omega)]
  refine Finset.sum_congr rfl fun n _ => ?_
  rw [hOf_at, ho, block_out, hx c]
  refine congrArg (fun s => max s (0 : EReal) * _) (Finset.sum_congr rfl fun j _ => ?_)
  rw [hi, block_in]

/-! ## The three layers -/

variable (ρ : Dev nD → PrngReg)

theorem xstg_eq (c : Dev nD) : xstg m ρ c = m ((c : Thread nD τ).loc main_arg0) := by
  refine funext fun i => congrArg (m ((c : Thread nD τ).loc main_arg0)) ?_
  funext t; fin_cases t
  · exact Fin.ext (by show 0 * 64 + 1 * (i 0).val = (i 0).val; omega)
  · exact Fin.ext (by show 0 * 2048 + 1 * (i 1).val = (i 1).val; omega)

theorem outAt_eq (c : Dev nD) : outAt mi ρ c = wide fun q => red mi ρ 2 q := by
  funext i
  obtain ⟨a, z, rfl⟩ : ∃ (a : Fin 64) (z : Fin 2048), i = ix2 a z := ⟨i 0, i 1, eq_ix2 i⟩
  rw [wide_at]
  refine Eq.trans ?_ (pay165_at (red mi ρ 2 ⟨z.val / 256, by show _ < 8; omega⟩) a ⟨z.val % 256, Nat.mod_lt _ (by decide)⟩)
  refine congrArg (k0_pay165 (up (red mi ρ 2 ⟨z.val / 256, _⟩))) ?_
  funext t; fin_cases t <;> rfl

/-- Every device's output is the reference's. -/
theorem outAt_layers (X : S64x2048.Idx → EReal) (Wi : ℕ → Cert.ReferenceIdeal.S2048x32768.Idx → EReal) (Wo : ℕ → Cert.ReferenceIdeal.S32768x2048.Idx → EReal)
    (hx : ∀ c : Dev nD, mi ((c : Thread nD τ).loc main_arg0) = X)
    (hi : ∀ l, l < 3 → ∀ c : Dev nD, winA mi c l = Layout.block ⟨2, ![2048, 4096]⟩ ⟨2, ![2048, 32768]⟩ 1 8 c (Wi l) (by decide))
    (ho : ∀ l, l < 3 → ∀ c : Dev nD, woutA mi c l = Layout.block ⟨2, ![4096, 2048]⟩ ⟨2, ![32768, 2048]⟩ 0 8 c (Wo l) (by decide)) (c : Dev nD) :
    outAt mi ρ c = layer (layer (layer X (Wi 0) (Wo 0)) (Wi 1) (Wo 1)) (Wi 2) (Wo 2) := by
  have h0 : ∀ c, xAt mi ρ 0 c = X := fun c => by
    rw [← hx c, ← xstg_eq mi ρ c]; exact funext fun i => pay1_at _ i
  have h1 : ∀ c, xAt mi ρ 1 c = layer X (Wi 0) (Wo 0) := fun c => wide_eq_layer mi 0 _ _ h0 _ _ (hi 0 (by decide)) (ho 0 (by decide))
  have h2 : ∀ c, xAt mi ρ 2 c = layer (layer X (Wi 0) (Wo 0)) (Wi 1) (Wo 1) := fun c => wide_eq_layer mi 1 _ _ h1 _ _ (hi 1 (by decide)) (ho 1 (by decide))
  rw [outAt_eq]
  exact wide_eq_layer mi 2 _ _ h2 _ _ (hi 2 (by decide)) (ho 2 (by decide))

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs have one text; so have their tables of kernels. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) := by
  show Pipeline.defs Cert.KernelIdeal.pcfgs Cert.Kernel.defs₀ = Pipeline.defs Cert.KernelIdeal.pcfgs Cert.KernelIdeal.defs₀
  rw [defs₀_eq]

/-- On the hardware's own floats: the run is that of any float values. -/
theorem frame_kernel : Cert.quiescent_Kernel := fun m g _ => by
  rw [defs_eq]
  exact (θ_run Cert.KernelIdeal.defs _ _).mono (fun _ h => ⟨fun c => ⟨(h.1 c).2 _ (by decide), (h.1 c).2 _ (by decide), (h.1 c).2 _ (by decide), (h.1 c).2 _ (by decide),
    (h.1 c).2 _ (by decide), (h.1 c).2 _ (by decide), (h.1 c).2 _ (by decide)⟩, h.2⟩) (Cert.Mlp.run_main (F := Bits) m g)

theorem frame_ideal : Cert.quiescent_KernelIdeal := fun m g _ =>
  (θ_run Cert.KernelIdeal.defs _ _).mono (fun _ h => ⟨fun c => ⟨(h.1 c).2 _ (by decide), (h.1 c).2 _ (by decide), (h.1 c).2 _ (by decide), (h.1 c).2 _ (by decide),
    (h.1 c).2 _ (by decide), (h.1 c).2 _ (by decide), (h.1 c).2 _ (by decide)⟩, h.2⟩) (Cert.Mlp.run_main (F := Ideal) m g)

/-- The reference has no semaphore. -/
theorem frame_reference : Cert.quiescent_ReferenceIdeal := fun m g _ =>
  (θ_run Cert.ReferenceIdeal.defs _ _).mono (fun _ h => ⟨fun c => (h c).2, funext fun g => by
    rcases g with ⟨_, s⟩; rcases s with s | s <;> exact s.elim0⟩) (Cert.ReferenceIdeal.Value.run (F := Ideal) m g)

/-- Over the extended reals, on arrays cut as the problem says: every device's result is the reference's. -/
theorem value : Cert.algebraic_KernelIdeal_ReferenceIdeal := fun m g m' g' _ hm => by
  have hi : ∀ l, l < 3 → ∀ c : Dev Cert.KernelIdeal.nD, Cert.Mlp.winA m c l = Layout.block ⟨2, ![2048, 4096]⟩ ⟨2, ![2048, 32768]⟩ 1 8 c
      (match l with
        | 0 => m' ((0 : Dev Cert.ReferenceIdeal.nD).tc.loc Cert.ReferenceIdeal.main_arg1)
        | 1 => m' ((0 : Dev Cert.ReferenceIdeal.nD).tc.loc Cert.ReferenceIdeal.main_arg3)
        | _ => m' ((0 : Dev Cert.ReferenceIdeal.nD).tc.loc Cert.ReferenceIdeal.main_arg5)) (by decide) := fun l _ c => match l with
    | 0 => (hm c).2.1
    | 1 => (hm c).2.2.2.1
    | _ + 2 => (hm c).2.2.2.2.2.1
  have ho : ∀ l, l < 3 → ∀ c : Dev Cert.KernelIdeal.nD, Cert.Mlp.woutA m c l = Layout.block ⟨2, ![4096, 2048]⟩ ⟨2, ![32768, 2048]⟩ 0 8 c
      (match l with
        | 0 => m' ((0 : Dev Cert.ReferenceIdeal.nD).tc.loc Cert.ReferenceIdeal.main_arg2)
        | 1 => m' ((0 : Dev Cert.ReferenceIdeal.nD).tc.loc Cert.ReferenceIdeal.main_arg4)
        | _ => m' ((0 : Dev Cert.ReferenceIdeal.nD).tc.loc Cert.ReferenceIdeal.main_arg6)) (by decide) := fun l _ c => match l with
    | 0 => (hm c).2.2.1
    | 1 => (hm c).2.2.2.2.1
    | _ + 2 => (hm c).2.2.2.2.2.2
  have hv := Cert.Mlp.outAt_layers m g _ _ _ (fun c => (hm c).1) hi ho
  refine ⟨_, (θ_run Cert.KernelIdeal.defs _ _).mono (fun _ h c => ⟨((h.1 c).1.trans (hv c)), (h.1 c).2 _ (by decide), (h.1 c).2 _ (by decide), (h.1 c).2 _ (by decide),
    (h.1 c).2 _ (by decide), (h.1 c).2 _ (by decide), (h.1 c).2 _ (by decide), (h.1 c).2 _ (by decide)⟩) (Cert.Mlp.run_main (F := Ideal) m g), ?_⟩
  exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
